-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x2048x1024 : Shape := ⟨3, ![8, 2048, 1024]⟩
abbrev S1x1024x9728 : Shape := ⟨3, ![1, 1024, 9728]⟩
abbrev S1x9728 : Shape := ⟨2, ![1, 9728]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1x1024x9728 : S_.BroadcastsInDim S1x1024x9728 (![] : Fin 0 → Fin S1x1024x9728.rank)
  reducesTo_S1x1024x9728_S_d0_1_2 : S1x1024x9728.ReducesTo [0, 1, 2] S_
  bcast_S_S1x9728 : S_.BroadcastsInDim S1x9728 (![] : Fin 0 → Fin S1x9728.rank)
  reducesTo_S1x9728_S_d0_1 : S1x9728.ReducesTo [0, 1] S_

variable [Facts]

def fn {F : FTy → Type} [FloatOps F] (main_arg0 : FVec F S8x2048x1024 .f32) (main_arg1 : FVec F S1x1024x9728 .f32) (main_arg2 : FVec F S1x9728 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1x1024x9728 .f32 := Host.absf main_arg1
  let main_cst_0 : FVec F S_ .f32 := constant S_ .f32 0x7F800000#32
  let main_v5 : FVec F S1x1024x9728 .f32 := broadcastInDim S1x1024x9728 ![] bcast_S_S1x1024x9728 main_cst_0
  let main_v6 : IVec S1x1024x9728 1 := cmpf .olt main_v4 main_v5
  let main_c_1 : IVec S_ 1 := constantI S_ 1 1#1
  let main_v7 : IVec S_ 1 := (fun x v => Host.reduce IntOp.andi x v reducesTo_S1x1024x9728_S_d0_1_2 h_S_) main_v6 main_c_1
  let main_v8 : IVec S_ 1 := andi main_v3 main_v7
  let main_v9 : FVec F S1x9728 .f32 := Host.absf main_arg2
  let main_cst_2 : FVec F S_ .f32 := constant S_ .f32 0x7F800000#32
  let main_v10 : FVec F S1x9728 .f32 := broadcastInDim S1x9728 ![] bcast_S_S1x9728 main_cst_2
  let main_v11 : IVec S1x9728 1 := cmpf .olt main_v9 main_v10
  let main_c_3 : IVec S_ 1 := constantI S_ 1 1#1
  let main_v12 : IVec S_ 1 := (fun x v => Host.reduce IntOp.andi x v reducesTo_S1x9728_S_d0_1 h_S_) main_v11 main_c_3
  let main_v13 : IVec S_ 1 := andi main_v8 main_v12
  main_v13
-- ==== Kernel.lean ====
abbrev S8x2048x1024 : Shape := ⟨3, ![8, 2048, 1024]⟩
abbrev S1x1024x9728 : Shape := ⟨3, ![1, 1024, 9728]⟩
abbrev S1x9728 : Shape := ⟨2, ![1, 9728]⟩
abbrev S1024x9728 : Shape := ⟨2, ![1024, 9728]⟩
abbrev S9728 : Shape := ⟨1, ![9728]⟩
abbrev S1024x4608 : Shape := ⟨2, ![1024, 4608]⟩
abbrev S1x4608 : Shape := ⟨2, ![1, 4608]⟩
abbrev S128x256 : Shape := ⟨2, ![128, 256]⟩
abbrev S_ : Shape := ⟨0, ![]⟩
abbrev S1x128x256 : Shape := ⟨3, ![1, 128, 256]⟩
abbrev S4x128x256 : Shape := ⟨3, ![4, 128, 256]⟩
abbrev S8x2048x512 : Shape := ⟨3, ![8, 2048, 512]⟩
abbrev S1x2048x1024 : Shape := ⟨3, ![1, 2048, 1024]⟩
abbrev S1x2048x512 : Shape := ⟨3, ![1, 2048, 512]⟩
abbrev S3x4x2048x128 : Shape := ⟨4, ![3, 4, 2048, 128]⟩
abbrev S4x2048x128 : Shape := ⟨3, ![4, 2048, 128]⟩
abbrev S2048x1024 : Shape := ⟨2, ![2048, 1024]⟩
abbrev S1024x512 : Shape := ⟨2, ![1024, 512]⟩
abbrev S2048x512 : Shape := ⟨2, ![2048, 512]⟩
abbrev S1x512 : Shape := ⟨2, ![1, 512]⟩
abbrev S2048x128 : Shape := ⟨2, ![2048, 128]⟩
abbrev S1x1x2048x128 : Shape := ⟨4, ![1, 1, 2048, 128]⟩
abbrev S1x128x128 : Shape := ⟨3, ![1, 128, 128]⟩
abbrev S128x128 : Shape := ⟨2, ![128, 128]⟩
abbrev S1x1x128x128 : Shape := ⟨4, ![1, 1, 128, 128]⟩
abbrev S128 : Shape := ⟨1, ![128]⟩
abbrev S128x1 : Shape := ⟨2, ![128, 1]⟩
abbrev S1x1x256x128 : Shape := ⟨4, ![1, 1, 256, 128]⟩
abbrev S256x128 : Shape := ⟨2, ![256, 128]⟩

abbrev nBuf : Space → Nat
  | .hbm => 74
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1x1024x9728, .f32⟩
  | .hbm, ⟨2, _⟩ => ⟨S1x9728, .f32⟩
  | .hbm, ⟨3, _⟩ => ⟨S1024x9728, .f32⟩
  | .hbm, ⟨4, _⟩ => ⟨S1024x9728, .bf16⟩
  | .hbm, ⟨5, _⟩ => ⟨S9728, .f32⟩
  | .hbm, ⟨6, _⟩ => ⟨S1x9728, .f32⟩
  | .hbm, ⟨7, _⟩ => ⟨S8x2048x1024, .bf16⟩
  | .hbm, ⟨8, _⟩ => ⟨S1024x4608, .bf16⟩
  | .hbm, ⟨9, _⟩ => ⟨S1x4608, .f32⟩
  | .hbm, ⟨10, _⟩ => ⟨S128x256, .i32⟩
  | .hbm, ⟨11, _⟩ => ⟨S128x256, .i32⟩
  | .hbm, ⟨12, _⟩ => ⟨S_, .i32⟩
  | .hbm, ⟨13, _⟩ => ⟨S128x256, .i32⟩
  | .hbm, ⟨14, _⟩ => ⟨S128x256, .i32⟩
  | .hbm, ⟨15, _⟩ => ⟨S128x256, .i32⟩
  | .hbm, ⟨16, _⟩ => ⟨S128x256, .i32⟩
  | .hbm, ⟨17, _⟩ => ⟨S_, .i32⟩
  | .hbm, ⟨18, _⟩ => ⟨S128x256, .i32⟩
  | .hbm, ⟨19, _⟩ => ⟨S128x256, .i1⟩
  | .hbm, ⟨20, _⟩ => ⟨S128x256, .f32⟩
  | .hbm, ⟨21, _⟩ => ⟨S_, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S_, .i32⟩
  | .hbm, ⟨26, _⟩ => ⟨S128x256, .i32⟩
  | .hbm, ⟨27, _⟩ => ⟨S128x256, .i32⟩
  | .hbm, ⟨28, _⟩ => ⟨S128x256, .i32⟩
  | .hbm, ⟨29, _⟩ => ⟨S128x256, .i32⟩
  | .hbm, ⟨30, _⟩ => ⟨S_, .i32⟩
  | .hbm, ⟨31, _⟩ => ⟨S128x256, .i32⟩
  | .hbm, ⟨32, _⟩ => ⟨S128x256, .i1⟩
  | .hbm, ⟨33, _⟩ => ⟨S128x256, .f32⟩
  | .hbm, ⟨34, _⟩ => ⟨S_, .f32⟩
  | .hbm, ⟨35, _⟩ => ⟨S_, .f32⟩
  | .hbm, ⟨36, _⟩ => ⟨S128x256, .f32⟩
  | .hbm, ⟨37, _⟩ => ⟨S128x256, .f32⟩
  | .hbm, ⟨38, _⟩ => ⟨S_, .i32⟩
  | .hbm, ⟨39, _⟩ => ⟨S128x256, .i32⟩
  | .hbm, ⟨40, _⟩ => ⟨S128x256, .i32⟩
  | .hbm, ⟨41, _⟩ => ⟨S128x256, .i32⟩
  | .hbm, ⟨42, _⟩ => ⟨S128x256, .i32⟩
  | .hbm, ⟨43, _⟩ => ⟨S_, .i32⟩
  | .hbm, ⟨44, _⟩ => ⟨S128x256, .i32⟩
  | .hbm, ⟨45, _⟩ => ⟨S128x256, .i1⟩
  | .hbm, ⟨46, _⟩ => ⟨S128x256, .f32⟩
  | .hbm, ⟨47, _⟩ => ⟨S_, .f32⟩
  | .hbm, ⟨48, _⟩ => ⟨S_, .f32⟩
  | .hbm, ⟨49, _⟩ => ⟨S128x256, .f32⟩
  | .hbm, ⟨50, _⟩ => ⟨S128x256, .f32⟩
  | .hbm, ⟨51, _⟩ => ⟨S128x256, .i32⟩
  | .hbm, ⟨52, _⟩ => ⟨S128x256, .i32⟩
  | .hbm, ⟨53, _⟩ => ⟨S_, .i32⟩
  | .hbm, ⟨54, _⟩ => ⟨S128x256, .i32⟩
  | .hbm, ⟨55, _⟩ => ⟨S128x256, .i1⟩
  | .hbm, ⟨56, _⟩ => ⟨S128x256, .f32⟩
  | .hbm, ⟨57, _⟩ => ⟨S_, .f32⟩
  | .hbm, ⟨58, _⟩ => ⟨S_, .f32⟩
  | .hbm, ⟨59, _⟩ => ⟨S128x256, .f32⟩
  | .hbm, ⟨60, _⟩ => ⟨S128x256, .f32⟩
  | .hbm, ⟨61, _⟩ => ⟨S_, .i32⟩
  | .hbm, ⟨62, _⟩ => ⟨S128x256, .i32⟩
  | .hbm, ⟨63, _⟩ => ⟨S128x256, .i1⟩
  | .hbm, ⟨64, _⟩ => ⟨S_, .f32⟩
  | .hbm, ⟨65, _⟩ => ⟨S_, .f32⟩
  | .hbm, ⟨66, _⟩ => ⟨S128x256, .f32⟩
  | .hbm, ⟨67, _⟩ => ⟨S128x256, .f32⟩
  | .hbm, ⟨68, _⟩ => ⟨S1x128x256, .f32⟩
  | .hbm, ⟨69, _⟩ => ⟨S1x128x256, .f32⟩
  | .hbm, ⟨70, _⟩ => ⟨S1x128x256, .f32⟩
  | .hbm, ⟨71, _⟩ => ⟨S1x128x256, .f32⟩
  | .hbm, ⟨72, _⟩ => ⟨S4x128x256, .f32⟩
  | .hbm, ⟨73, _⟩ => ⟨S8x2048x512, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1024x4608, .bf16⟩
  | .local _ .vmem, ⟨3, _⟩ => ⟨S1x4608, .f32⟩
  | .local _ .vmem, ⟨4, _⟩ => ⟨S4x128x256, .f32⟩
  | .local _ .vmem, ⟨5, _⟩ => ⟨S1x2048x512, .bf16⟩
  | .local _ .vmem, ⟨6, _⟩ => ⟨S1x2048x512, .bf16⟩
  | .local _ .vmem, ⟨7, _⟩ => ⟨S3x4x2048x128, .f32⟩
  | .local _ .vmem, ⟨8, _⟩ => ⟨S4x2048x128, .f32⟩
  | .local _ .vmem, ⟨9, _⟩ => ⟨S4x2048x128, .f32⟩
  | .local _ .vmem, ⟨10, _⟩ => ⟨S4x2048x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_call2_v0 : Ref sig .tc := ⟨.hbm, 48, rfl⟩
abbrev main_call2_v1 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_call3_v0 : Ref sig .tc := ⟨.hbm, 58, rfl⟩
abbrev main_call3_v1 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_cst_10 : Ref sig .tc := ⟨.hbm, 64, rfl⟩
abbrev main_call4_v0 : Ref sig .tc := ⟨.hbm, 65, rfl⟩
abbrev main_call4_v1 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v73 : BitVec 32 := Scalar.addi c0_i32 c16_i32
  let c1_i32 : BitVec 32 := 1#32
  ⟨c0_i32, v73, c1_i32⟩
def k0_off1 (k0_t1 : Fin k0_t1_loop.trips) : Fin 4 → Nat :=
  let c0_196 : Index := 0#32
  let c0_197 : Index := 0#32
  let c0_i32 : BitVec 32 := 0#32
  let c1_i32 : BitVec 32 := 1#32
  let arg10 : BitVec 32 := Scf.iv c0_i32 c1_i32 k0_t1
  let c1_i32_191 : BitVec 32 := 1#32
  let v218 : BitVec 32 := Scalar.muli arg10 c1_i32_191
  let c0_i32_192 : BitVec 32 := 0#32
  let v219 : BitVec 32 := Scalar.addi v218 c0_i32_192
  let v222 : Index := Scalar.indexCast v219
  let c0_198 : Index := 0#32
  ![0, 0, v222.toNat, 0]
def k0_off2 (k0_t1 : Fin k0_t1_loop.trips) : Fin 4 → Nat :=
  let c1_199 : Index := 1#32
  let c0_200 : Index := 0#32
  let c0_i32 : BitVec 32 := 0#32
  let c1_i32 : BitVec 32 := 1#32
  let arg10 : BitVec 32 := Scf.iv c0_i32 c1_i32 k0_t1
  let c1_i32_191 : BitVec 32 := 1#32
  let v218 : BitVec 32 := Scalar.muli arg10 c1_i32_191
  let c0_i32_192 : BitVec 32 := 0#32
  let v219 : BitVec 32 := Scalar.addi v218 c0_i32_192
  let v226 : Index := Scalar.indexCast v219
  let c0_201 : Index := 0#32
  ![1, 0, v226.toNat, 0]
def k0_off3 (k0_t1 : Fin k0_t1_loop.trips) : Fin 4 → Nat :=
  let c0_204 : Index := 0#32
  let c1_205 : Index := 1#32
  let c0_i32 : BitVec 32 := 0#32
  let c1_i32 : BitVec 32 := 1#32
  let arg10 : BitVec 32 := Scf.iv c0_i32 c1_i32 k0_t1
  let c1_i32_191 : BitVec 32 := 1#32
  let v218 : BitVec 32 := Scalar.muli arg10 c1_i32_191
  let c0_i32_192 : BitVec 32 := 0#32
  let v219 : BitVec 32 := Scalar.addi v218 c0_i32_192
  let v234 : Index := Scalar.indexCast v219
  let c0_206 : Index := 0#32
  ![0, 1, v234.toNat, 0]
def k0_off4 (k0_t1 : Fin k0_t1_loop.trips) : Fin 4 → Nat :=
  let c1_207 : Index := 1#32
  let c1_208 : Index := 1#32
  let c0_i32 : BitVec 32 := 0#32
  let c1_i32 : BitVec 32 := 1#32
  let arg10 : BitVec 32 := Scf.iv c0_i32 c1_i32 k0_t1
  let c1_i32_191 : BitVec 32 := 1#32
  let v218 : BitVec 32 := Scalar.muli arg10 c1_i32_191
  let c0_i32_192 : BitVec 32 := 0#32
  let v219 : BitVec 32 := Scalar.addi v218 c0_i32_192
  let v238 : Index := Scalar.indexCast v219
  let c0_209 : Index := 0#32
  ![1, 1, v238.toNat, 0]
def k0_off5 (k0_t1 : Fin k0_t1_loop.trips) : Fin 4 → Nat :=
  let c0_212 : Index := 0#32
  let c2_213 : Index := 2#32
  let c0_i32 : BitVec 32 := 0#32
  let c1_i32 : BitVec 32 := 1#32
  let arg10 : BitVec 32 := Scf.iv c0_i32 c1_i32 k0_t1
  let c1_i32_191 : BitVec 32 := 1#32
  let v218 : BitVec 32 := Scalar.muli arg10 c1_i32_191
  let c0_i32_192 : BitVec 32 := 0#32
  let v219 : BitVec 32 := Scalar.addi v218 c0_i32_192
  let v246 : Index := Scalar.indexCast v219
  let c0_214 : Index := 0#32
  ![0, 2, v246.toNat, 0]
def k0_off6 (k0_t1 : Fin k0_t1_loop.trips) : Fin 4 → Nat :=
  let c1_215 : Index := 1#32
  let c2_216 : Index := 2#32
  let c0_i32 : BitVec 32 := 0#32
  let c1_i32 : BitVec 32 := 1#32
  let arg10 : BitVec 32 := Scf.iv c0_i32 c1_i32 k0_t1
  let c1_i32_191 : BitVec 32 := 1#32
  let v218 : BitVec 32 := Scalar.muli arg10 c1_i32_191
  let c0_i32_192 : BitVec 32 := 0#32
  let v219 : BitVec 32 := Scalar.addi v218 c0_i32_192
  let v250 : Index := Scalar.indexCast v219
  let c0_217 : Index := 0#32
  ![1, 2, v250.toNat, 0]
def k0_off7 (k0_t1 : Fin k0_t1_loop.trips) : Fin 4 → Nat :=
  let c0_220 : Index := 0#32
  let c3_221 : Index := 3#32
  let c0_i32 : BitVec 32 := 0#32
  let c1_i32 : BitVec 32 := 1#32
  let arg10 : BitVec 32 := Scf.iv c0_i32 c1_i32 k0_t1
  let c1_i32_191 : BitVec 32 := 1#32
  let v218 : BitVec 32 := Scalar.muli arg10 c1_i32_191
  let c0_i32_192 : BitVec 32 := 0#32
  let v219 : BitVec 32 := Scalar.addi v218 c0_i32_192
  let v258 : Index := Scalar.indexCast v219
  let c0_222 : Index := 0#32
  ![0, 3, v258.toNat, 0]
def k0_off8 (k0_t1 : Fin k0_t1_loop.trips) : Fin 4 → Nat :=
  let c1_223 : Index := 1#32
  let c3_224 : Index := 3#32
  let c0_i32 : BitVec 32 := 0#32
  let c1_i32 : BitVec 32 := 1#32
  let arg10 : BitVec 32 := Scf.iv c0_i32 c1_i32 k0_t1
  let c1_i32_191 : BitVec 32 := 1#32
  let v218 : BitVec 32 := Scalar.muli arg10 c1_i32_191
  let c0_i32_192 : BitVec 32 := 0#32
  let v219 : BitVec 32 := Scalar.addi v218 c0_i32_192
  let v262 : Index := Scalar.indexCast v219
  let c0_225 : Index := 0#32
  ![1, 3, v262.toNat, 0]
def k0_off9 (k0_t1 : Fin k0_t1_loop.trips) : Fin 4 → Nat :=
  let c2_236 : Index := 2#32
  let c0_237 : Index := 0#32
  let c0_i32 : BitVec 32 := 0#32
  let c1_i32 : BitVec 32 := 1#32
  let arg10 : BitVec 32 := Scf.iv c0_i32 c1_i32 k0_t1
  let c1_i32_191 : BitVec 32 := 1#32
  let v218 : BitVec 32 := Scalar.muli arg10 c1_i32_191
  let c0_i32_192 : BitVec 32 := 0#32
  let v219 : BitVec 32 := Scalar.addi v218 c0_i32_192
  let v311 : Index := Scalar.indexCast v219
  let c0_238 : Index := 0#32
  ![2, 0, v311.toNat, 0]
def k0_off10 (k0_t1 : Fin k0_t1_loop.trips) : Fin 4 → Nat :=
  let c2_240 : Index := 2#32
  let c1_241 : Index := 1#32
  let c0_i32 : BitVec 32 := 0#32
  let c1_i32 : BitVec 32 := 1#32
  let arg10 : BitVec 32 := Scf.iv c0_i32 c1_i32 k0_t1
  let c1_i32_191 : BitVec 32 := 1#32
  let v218 : BitVec 32 := Scalar.muli arg10 c1_i32_191
  let c0_i32_192 : BitVec 32 := 0#32
  let v219 : BitVec 32 := Scalar.addi v218 c0_i32_192
  let v317 : Index := Scalar.indexCast v219
  let c0_242 : Index := 0#32
  ![2, 1, v317.toNat, 0]
def k0_off11 (k0_t1 : Fin k0_t1_loop.trips) : Fin 4 → Nat :=
  let c2_244 : Index := 2#32
  let c2_245 : Index := 2#32
  let c0_i32 : BitVec 32 := 0#32
  let c1_i32 : BitVec 32 := 1#32
  let arg10 : BitVec 32 := Scf.iv c0_i32 c1_i32 k0_t1
  let c1_i32_191 : BitVec 32 := 1#32
  let v218 : BitVec 32 := Scalar.muli arg10 c1_i32_191
  let c0_i32_192 : BitVec 32 := 0#32
  let v219 : BitVec 32 := Scalar.addi v218 c0_i32_192
  let v323 : Index := Scalar.indexCast v219
  let c0_246 : Index := 0#32
  ![2, 2, v323.toNat, 0]
def k0_off12 (k0_t1 : Fin k0_t1_loop.trips) : Fin 4 → Nat :=
  let c2_248 : Index := 2#32
  let c3_249 : Index := 3#32
  let c0_i32 : BitVec 32 := 0#32
  let c1_i32 : BitVec 32 := 1#32
  let arg10 : BitVec 32 := Scf.iv c0_i32 c1_i32 k0_t1
  let c1_i32_191 : BitVec 32 := 1#32
  let v218 : BitVec 32 := Scalar.muli arg10 c1_i32_191
  let c0_i32_192 : BitVec 32 := 0#32
  let v219 : BitVec 32 := Scalar.addi v218 c0_i32_192
  let v329 : Index := Scalar.indexCast v219
  let c0_250 : Index := 0#32
  ![2, 3, v329.toNat, 0]
def k0_off13 (k0_t1 : Fin k0_t1_loop.trips) : Fin 3 → Nat :=
  let c0_252 : Index := 0#32
  let c0_i32 : BitVec 32 := 0#32
  let c1_i32 : BitVec 32 := 1#32
  let arg10 : BitVec 32 := Scf.iv c0_i32 c1_i32 k0_t1
  let c1_i32_191 : BitVec 32 := 1#32
  let v218 : BitVec 32 := Scalar.muli arg10 c1_i32_191
  let c0_i32_192 : BitVec 32 := 0#32
  let v219 : BitVec 32 := Scalar.addi v218 c0_i32_192
  let v336 : Index := Scalar.indexCast v219
  let c0_253 : Index := 0#32
  ![0, v336.toNat, 0]
def k0_off14 (k0_t1 : Fin k0_t1_loop.trips) : Fin 3 → Nat :=
  let c1_258 : Index := 1#32
  let c0_i32 : BitVec 32 := 0#32
  let c1_i32 : BitVec 32 := 1#32
  let arg10 : BitVec 32 := Scf.iv c0_i32 c1_i32 k0_t1
  let c1_i32_191 : BitVec 32 := 1#32
  let v218 : BitVec 32 := Scalar.muli arg10 c1_i32_191
  let c0_i32_192 : BitVec 32 := 0#32
  let v219 : BitVec 32 := Scalar.addi v218 c0_i32_192
  let v350 : Index := Scalar.indexCast v219
  let c0_259 : Index := 0#32
  ![1, v350.toNat, 0]
def k0_off15 (k0_t1 : Fin k0_t1_loop.trips) : Fin 3 → Nat :=
  let c2_264 : Index := 2#32
  let c0_i32 : BitVec 32 := 0#32
  let c1_i32 : BitVec 32 := 1#32
  let arg10 : BitVec 32 := Scf.iv c0_i32 c1_i32 k0_t1
  let c1_i32_191 : BitVec 32 := 1#32
  let v218 : BitVec 32 := Scalar.muli arg10 c1_i32_191
  let c0_i32_192 : BitVec 32 := 0#32
  let v219 : BitVec 32 := Scalar.addi v218 c0_i32_192
  let v364 : Index := Scalar.indexCast v219
  let c0_265 : Index := 0#32
  ![2, v364.toNat, 0]
def k0_off16 (k0_t1 : Fin k0_t1_loop.trips) : Fin 3 → Nat :=
  let c3_270 : Index := 3#32
  let c0_i32 : BitVec 32 := 0#32
  let c1_i32 : BitVec 32 := 1#32
  let arg10 : BitVec 32 := Scf.iv c0_i32 c1_i32 k0_t1
  let c1_i32_191 : BitVec 32 := 1#32
  let v218 : BitVec 32 := Scalar.muli arg10 c1_i32_191
  let c0_i32_192 : BitVec 32 := 0#32
  let v219 : BitVec 32 := Scalar.addi v218 c0_i32_192
  let v378 : Index := Scalar.indexCast v219
  let c0_271 : Index := 0#32
  ![3, v378.toNat, 0]
@[reducible] def k0_t2_loop : Scf.Loop 32 :=
  let c0_i32_121 : BitVec 32 := 0#32
  let c16_i32_122 : BitVec 32 := 16#32
  let v145 : BitVec 32 := Scalar.addi c0_i32_121 c16_i32_122
  let c1_i32_123 : BitVec 32 := 1#32
  ⟨c0_i32_121, v145, c1_i32_123⟩
def k0_off17 (k0_t2 : Fin k0_t2_loop.trips) : Fin 3 → Nat :=
  let c0_i32_121 : BitVec 32 := 0#32
  let c1_i32_123 : BitVec 32 := 1#32
  let arg10 : BitVec 32 := Scf.iv c0_i32_121 c1_i32_123 k0_t2
  let c1_i32_191 : BitVec 32 := 1#32
  let v218 : BitVec 32 := Scalar.muli arg10 c1_i32_191
  let c0_i32_192 : BitVec 32 := 0#32
  let v219 : BitVec 32 := Scalar.addi v218 c0_i32_192
  let c4_i32_199 : BitVec 32 := 4#32
  let c0_i32_200 : BitVec 32 := 0#32
  let v237 : BitVec 1 := Scalar.cmpi .eq c4_i32_199 c0_i32_200
  let c1_i32_201 : BitVec 32 := 1#32
  let v238 : BitVec 32 := Scalar.select v237 c1_i32_201 c4_i32_199
  let v239 : BitVec 32 := Scalar.remsi v219 v238
  let c0_i32_203 : BitVec 32 := 0#32
  let v241 : BitVec 1 := Scalar.cmpi .slt v239 c0_i32_203
  let c0_i32_204 : BitVec 32 := 0#32
  let v242 : BitVec 1 := Scalar.cmpi .slt v238 c0_i32_204
  let v243 : BitVec 1 := Scalar.xori v241 v242
  let c0_i32_202 : BitVec 32 := 0#32
  let v240 : BitVec 1 := Scalar.cmpi .ne v239 c0_i32_202
  let v244 : BitVec 1 := Scalar.andi v243 v240
  let v245 : BitVec 32 := Scalar.addi v239 v238
  let v246 : BitVec 32 := Scalar.select v244 v245 v239
  let c0_i32_206 : BitVec 32 := 0#32
  let v251 : BitVec 1 := Scalar.cmpi .eq v246 c0_i32_206
  let c0_i32_208 : BitVec 32 := 0#32
  let c3_i32 : BitVec 32 := 3#32
  let v252 : BitVec 1 := Scalar.cmpi .eq v246 c3_i32
  let c2_i32 : BitVec 32 := 2#32
  let c1_i32_207 : BitVec 32 := 1#32
  let v253 : BitVec 32 := Scalar.select v252 c2_i32 c1_i32_207
  let v254 : BitVec 32 := Scalar.select v251 c0_i32_208 v253
  let v255 : Index := Scalar.indexCast v254
  let c0_209 : Index := 0#32
  let c0_210 : Index := 0#32
  ![v255.toNat, 0, 0]
def k0_off18 (k0_t2 : Fin k0_t2_loop.trips) : Fin 4 → Nat :=
  let c0_214 : Index := 0#32
  let c0_215 : Index := 0#32
  let c0_i32_121 : BitVec 32 := 0#32
  let c1_i32_123 : BitVec 32 := 1#32
  let arg10 : BitVec 32 := Scf.iv c0_i32_121 c1_i32_123 k0_t2
  let c1_i32_191 : BitVec 32 := 1#32
  let v218 : BitVec 32 := Scalar.muli arg10 c1_i32_191
  let c0_i32_192 : BitVec 32 := 0#32
  let v219 : BitVec 32 := Scalar.addi v218 c0_i32_192
  let c0_i32_193 : BitVec 32 := 0#32
  let v221 : BitVec 1 := Scalar.cmpi .sgt v219 c0_i32_193
  let v222 : BitVec 32 := Scalar.extui v221
  let c0_i32_194 : BitVec 32 := 0#32
  let v223 : BitVec 1 := Scalar.cmpi .slt v219 c0_i32_194
  let v224 : BitVec 32 := Scalar.extui v223
  let v225 : BitVec 32 := Scalar.subi v222 v224
  let c4_i32 : BitVec 32 := 4#32
  let c0_i32_195 : BitVec 32 := 0#32
  let v226 : BitVec 1 := Scalar.cmpi .sgt c4_i32 c0_i32_195
  let v227 : BitVec 32 := Scalar.extui v226
  let c0_i32_196 : BitVec 32 := 0#32
  let v228 : BitVec 1 := Scalar.cmpi .slt c4_i32 c0_i32_196
  let v229 : BitVec 32 := Scalar.extui v228
  let v230 : BitVec 32 := Scalar.subi v227 v229
  let v231 : BitVec 1 := Scalar.cmpi .ne v225 v230
  let v232 : BitVec 32 := Scalar.remsi v219 c4_i32
  let c0_i32_197 : BitVec 32 := 0#32
  let v233 : BitVec 1 := Scalar.cmpi .ne v232 c0_i32_197
  let v234 : BitVec 1 := Scalar.andi v231 v233
  let v220 : BitVec 32 := Scalar.divsi v219 c4_i32
  let c1_i32_198 : BitVec 32 := 1#32
  let v235 : BitVec 32 := Scalar.subi v220 c1_i32_198
  let v236 : BitVec 32 := Scalar.select v234 v235 v220
  let c4_i32_199 : BitVec 32 := 4#32
  let c0_i32_200 : BitVec 32 := 0#32
  let v237 : BitVec 1 := Scalar.cmpi .eq c4_i32_199 c0_i32_200
  let c1_i32_201 : BitVec 32 := 1#32
  let v238 : BitVec 32 := Scalar.select v237 c1_i32_201 c4_i32_199
  let v239 : BitVec 32 := Scalar.remsi v219 v238
  let c0_i32_203 : BitVec 32 := 0#32
  let v241 : BitVec 1 := Scalar.cmpi .slt v239 c0_i32_203
  let c0_i32_204 : BitVec 32 := 0#32
  let v242 : BitVec 1 := Scalar.cmpi .slt v238 c0_i32_204
  let v243 : BitVec 1 := Scalar.xori v241 v242
  let c0_i32_202 : BitVec 32 := 0#32
  let v240 : BitVec 1 := Scalar.cmpi .ne v239 c0_i32_202
  let v244 : BitVec 1 := Scalar.andi v243 v240
  let v245 : BitVec 32 := Scalar.addi v239 v238
  let v246 : BitVec 32 := Scalar.select v244 v245 v239
  let c128_i32_211 : BitVec 32 := 128#32
  let v258 : BitVec 32 := Scalar.muli v246 c128_i32_211
  let c4_i32_212 : BitVec 32 := 4#32
  let v259 : BitVec 32 := Scalar.muli v258 c4_i32_212
  let v260 : BitVec 32 := Scalar.addi v236 v259
  let v263 : Index := Scalar.indexCast v260
  let c0_216 : Index := 0#32
  ![0, 0, v263.toNat, 0]
def k0_off19 (k0_t2 : Fin k0_t2_loop.trips) : Fin 4 → Nat :=
  let c1_217 : Index := 1#32
  let c0_218 : Index := 0#32
  let c0_i32_121 : BitVec 32 := 0#32
  let c1_i32_123 : BitVec 32 := 1#32
  let arg10 : BitVec 32 := Scf.iv c0_i32_121 c1_i32_123 k0_t2
  let c1_i32_191 : BitVec 32 := 1#32
  let v218 : BitVec 32 := Scalar.muli arg10 c1_i32_191
  let c0_i32_192 : BitVec 32 := 0#32
  let v219 : BitVec 32 := Scalar.addi v218 c0_i32_192
  let c0_i32_193 : BitVec 32 := 0#32
  let v221 : BitVec 1 := Scalar.cmpi .sgt v219 c0_i32_193
  let v222 : BitVec 32 := Scalar.extui v221
  let c0_i32_194 : BitVec 32 := 0#32
  let v223 : BitVec 1 := Scalar.cmpi .slt v219 c0_i32_194
  let v224 : BitVec 32 := Scalar.extui v223
  let v225 : BitVec 32 := Scalar.subi v222 v224
  let c4_i32 : BitVec 32 := 4#32
  let c0_i32_195 : BitVec 32 := 0#32
  let v226 : BitVec 1 := Scalar.cmpi .sgt c4_i32 c0_i32_195
  let v227 : BitVec 32 := Scalar.extui v226
  let c0_i32_196 : BitVec 32 := 0#32
  let v228 : BitVec 1 := Scalar.cmpi .slt c4_i32 c0_i32_196
  let v229 : BitVec 32 := Scalar.extui v228
  let v230 : BitVec 32 := Scalar.subi v227 v229
  let v231 : BitVec 1 := Scalar.cmpi .ne v225 v230
  let v232 : BitVec 32 := Scalar.remsi v219 c4_i32
  let c0_i32_197 : BitVec 32 := 0#32
  let v233 : BitVec 1 := Scalar.cmpi .ne v232 c0_i32_197
  let v234 : BitVec 1 := Scalar.andi v231 v233
  let v220 : BitVec 32 := Scalar.divsi v219 c4_i32
  let c1_i32_198 : BitVec 32 := 1#32
  let v235 : BitVec 32 := Scalar.subi v220 c1_i32_198
  let v236 : BitVec 32 := Scalar.select v234 v235 v220
  let c256_i32 : BitVec 32 := 256#32
  let c0_i32_205 : BitVec 32 := 0#32
  let c4_i32_199 : BitVec 32 := 4#32
  let c0_i32_200 : BitVec 32 := 0#32
  let v237 : BitVec 1 := Scalar.cmpi .eq c4_i32_199 c0_i32_200
  let c1_i32_201 : BitVec 32 := 1#32
  let v238 : BitVec 32 := Scalar.select v237 c1_i32_201 c4_i32_199
  let v239 : BitVec 32 := Scalar.remsi v219 v238
  let c0_i32_203 : BitVec 32 := 0#32
  let v241 : BitVec 1 := Scalar.cmpi .slt v239 c0_i32_203
  let c0_i32_204 : BitVec 32 := 0#32
  let v242 : BitVec 1 := Scalar.cmpi .slt v238 c0_i32_204
  let v243 : BitVec 1 := Scalar.xori v241 v242
  let c0_i32_202 : BitVec 32 := 0#32
  let v240 : BitVec 1 := Scalar.cmpi .ne v239 c0_i32_202
  let v244 : BitVec 1 := Scalar.andi v243 v240
  let v245 : BitVec 32 := Scalar.addi v239 v238
  let v246 : BitVec 32 := Scalar.select v244 v245 v239
  let c128_i32 : BitVec 32 := 128#32
  let v247 : BitVec 32 := Scalar.muli v246 c128_i32
  let c64_i32 : BitVec 32 := 64#32
  let v248 : BitVec 32 := Scalar.subi v247 c64_i32
  let v249 : BitVec 32 := Scalar.maxsi c0_i32_205 v248
  let v250 : BitVec 32 := Scalar.minsi c256_i32 v249
  let c4_i32_213 : BitVec 32 := 4#32
  let v261 : BitVec 32 := Scalar.muli v250 c4_i32_213
  let v262 : BitVec 32 := Scalar.addi v236 v261
  let v267 : Index := Scalar.indexCast v262
  let c0_219 : Index := 0#32
  ![1, 0, v267.toNat, 0]
def k0_off20 (k0_t2 : Fin k0_t2_loop.trips) : Fin 4 → Nat :=
  let c0_222 : Index := 0#32
  let c1_223 : Index := 1#32
  let c0_i32_121 : BitVec 32 := 0#32
  let c1_i32_123 : BitVec 32 := 1#32
  let arg10 : BitVec 32 := Scf.iv c0_i32_121 c1_i32_123 k0_t2
  let c1_i32_191 : BitVec 32 := 1#32
  let v218 : BitVec 32 := Scalar.muli arg10 c1_i32_191
  let c0_i32_192 : BitVec 32 := 0#32
  let v219 : BitVec 32 := Scalar.addi v218 c0_i32_192
  let c0_i32_193 : BitVec 32 := 0#32
  let v221 : BitVec 1 := Scalar.cmpi .sgt v219 c0_i32_193
  let v222 : BitVec 32 := Scalar.extui v221
  let c0_i32_194 : BitVec 32 := 0#32
  let v223 : BitVec 1 := Scalar.cmpi .slt v219 c0_i32_194
  let v224 : BitVec 32 := Scalar.extui v223
  let v225 : BitVec 32 := Scalar.subi v222 v224
  let c4_i32 : BitVec 32 := 4#32
  let c0_i32_195 : BitVec 32 := 0#32
  let v226 : BitVec 1 := Scalar.cmpi .sgt c4_i32 c0_i32_195
  let v227 : BitVec 32 := Scalar.extui v226
  let c0_i32_196 : BitVec 32 := 0#32
  let v228 : BitVec 1 := Scalar.cmpi .slt c4_i32 c0_i32_196
  let v229 : BitVec 32 := Scalar.extui v228
  let v230 : BitVec 32 := Scalar.subi v227 v229
  let v231 : BitVec 1 := Scalar.cmpi .ne v225 v230
  let v232 : BitVec 32 := Scalar.remsi v219 c4_i32
  let c0_i32_197 : BitVec 32 := 0#32
  let v233 : BitVec 1 := Scalar.cmpi .ne v232 c0_i32_197
  let v234 : BitVec 1 := Scalar.andi v231 v233
  let v220 : BitVec 32 := Scalar.divsi v219 c4_i32
  let c1_i32_198 : BitVec 32 := 1#32
  let v235 : BitVec 32 := Scalar.subi v220 c1_i32_198
  let v236 : BitVec 32 := Scalar.select v234 v235 v220
  let c4_i32_199 : BitVec 32 := 4#32
  let c0_i32_200 : BitVec 32 := 0#32
  let v237 : BitVec 1 := Scalar.cmpi .eq c4_i32_199 c0_i32_200
  let c1_i32_201 : BitVec 32 := 1#32
  let v238 : BitVec 32 := Scalar.select v237 c1_i32_201 c4_i32_199
  let v239 : BitVec 32 := Scalar.remsi v219 v238
  let c0_i32_203 : BitVec 32 := 0#32
  let v241 : BitVec 1 := Scalar.cmpi .slt v239 c0_i32_203
  let c0_i32_204 : BitVec 32 := 0#32
  let v242 : BitVec 1 := Scalar.cmpi .slt v238 c0_i32_204
  let v243 : BitVec 1 := Scalar.xori v241 v242
  let c0_i32_202 : BitVec 32 := 0#32
  let v240 : BitVec 1 := Scalar.cmpi .ne v239 c0_i32_202
  let v244 : BitVec 1 := Scalar.andi v243 v240
  let v245 : BitVec 32 := Scalar.addi v239 v238
  let v246 : BitVec 32 := Scalar.select v244 v245 v239
  let c128_i32_211 : BitVec 32 := 128#32
  let v258 : BitVec 32 := Scalar.muli v246 c128_i32_211
  let c4_i32_212 : BitVec 32 := 4#32
  let v259 : BitVec 32 := Scalar.muli v258 c4_i32_212
  let v260 : BitVec 32 := Scalar.addi v236 v259
  let v275 : Index := Scalar.indexCast v260
  let c0_224 : Index := 0#32
  ![0, 1, v275.toNat, 0]
def k0_off21 (k0_t2 : Fin k0_t2_loop.trips) : Fin 4 → Nat :=
  let c1_225 : Index := 1#32
  let c1_226 : Index := 1#32
  let c0_i32_121 : BitVec 32 := 0#32
  let c1_i32_123 : BitVec 32 := 1#32
  let arg10 : BitVec 32 := Scf.iv c0_i32_121 c1_i32_123 k0_t2
  let c1_i32_191 : BitVec 32 := 1#32
  let v218 : BitVec 32 := Scalar.muli arg10 c1_i32_191
  let c0_i32_192 : BitVec 32 := 0#32
  let v219 : BitVec 32 := Scalar.addi v218 c0_i32_192
  let c0_i32_193 : BitVec 32 := 0#32
  let v221 : BitVec 1 := Scalar.cmpi .sgt v219 c0_i32_193
  let v222 : BitVec 32 := Scalar.extui v221
  let c0_i32_194 : BitVec 32 := 0#32
  let v223 : BitVec 1 := Scalar.cmpi .slt v219 c0_i32_194
  let v224 : BitVec 32 := Scalar.extui v223
  let v225 : BitVec 32 := Scalar.subi v222 v224
  let c4_i32 : BitVec 32 := 4#32
  let c0_i32_195 : BitVec 32 := 0#32
  let v226 : BitVec 1 := Scalar.cmpi .sgt c4_i32 c0_i32_195
  let v227 : BitVec 32 := Scalar.extui v226
  let c0_i32_196 : BitVec 32 := 0#32
  let v228 : BitVec 1 := Scalar.cmpi .slt c4_i32 c0_i32_196
  let v229 : BitVec 32 := Scalar.extui v228
  let v230 : BitVec 32 := Scalar.subi v227 v229
  let v231 : BitVec 1 := Scalar.cmpi .ne v225 v230
  let v232 : BitVec 32 := Scalar.remsi v219 c4_i32
  let c0_i32_197 : BitVec 32 := 0#32
  let v233 : BitVec 1 := Scalar.cmpi .ne v232 c0_i32_197
  let v234 : BitVec 1 := Scalar.andi v231 v233
  let v220 : BitVec 32 := Scalar.divsi v219 c4_i32
  let c1_i32_198 : BitVec 32 := 1#32
  let v235 : BitVec 32 := Scalar.subi v220 c1_i32_198
  let v236 : BitVec 32 := Scalar.select v234 v235 v220
  let c256_i32 : BitVec 32 := 256#32
  let c0_i32_205 : BitVec 32 := 0#32
  let c4_i32_199 : BitVec 32 := 4#32
  let c0_i32_200 : BitVec 32 := 0#32
  let v237 : BitVec 1 := Scalar.cmpi .eq c4_i32_199 c0_i32_200
  let c1_i32_201 : BitVec 32 := 1#32
  let v238 : BitVec 32 := Scalar.select v237 c1_i32_201 c4_i32_199
  let v239 : BitVec 32 := Scalar.remsi v219 v238
  let c0_i32_203 : BitVec 32 := 0#32
  let v241 : BitVec 1 := Scalar.cmpi .slt v239 c0_i32_203
  let c0_i32_204 : BitVec 32 := 0#32
  let v242 : BitVec 1 := Scalar.cmpi .slt v238 c0_i32_204
  let v243 : BitVec 1 := Scalar.xori v241 v242
  let c0_i32_202 : BitVec 32 := 0#32
  let v240 : BitVec 1 := Scalar.cmpi .ne v239 c0_i32_202
  let v244 : BitVec 1 := Scalar.andi v243 v240
  let v245 : BitVec 32 := Scalar.addi v239 v238
  let v246 : BitVec 32 := Scalar.select v244 v245 v239
  let c128_i32 : BitVec 32 := 128#32
  let v247 : BitVec 32 := Scalar.muli v246 c128_i32
  let c64_i32 : BitVec 32 := 64#32
  let v248 : BitVec 32 := Scalar.subi v247 c64_i32
  let v249 : BitVec 32 := Scalar.maxsi c0_i32_205 v248
  let v250 : BitVec 32 := Scalar.minsi c256_i32 v249
  let c4_i32_213 : BitVec 32 := 4#32
  let v261 : BitVec 32 := Scalar.muli v250 c4_i32_213
  let v262 : BitVec 32 := Scalar.addi v236 v261
  let v279 : Index := Scalar.indexCast v262
  let c0_227 : Index := 0#32
  ![1, 1, v279.toNat, 0]
def k0_off22 (k0_t2 : Fin k0_t2_loop.trips) : Fin 4 → Nat :=
  let c0_230 : Index := 0#32
  let c2_231 : Index := 2#32
  let c0_i32_121 : BitVec 32 := 0#32
  let c1_i32_123 : BitVec 32 := 1#32
  let arg10 : BitVec 32 := Scf.iv c0_i32_121 c1_i32_123 k0_t2
  let c1_i32_191 : BitVec 32 := 1#32
  let v218 : BitVec 32 := Scalar.muli arg10 c1_i32_191
  let c0_i32_192 : BitVec 32 := 0#32
  let v219 : BitVec 32 := Scalar.addi v218 c0_i32_192
  let c0_i32_193 : BitVec 32 := 0#32
  let v221 : BitVec 1 := Scalar.cmpi .sgt v219 c0_i32_193
  let v222 : BitVec 32 := Scalar.extui v221
  let c0_i32_194 : BitVec 32 := 0#32
  let v223 : BitVec 1 := Scalar.cmpi .slt v219 c0_i32_194
  let v224 : BitVec 32 := Scalar.extui v223
  let v225 : BitVec 32 := Scalar.subi v222 v224
  let c4_i32 : BitVec 32 := 4#32
  let c0_i32_195 : BitVec 32 := 0#32
  let v226 : BitVec 1 := Scalar.cmpi .sgt c4_i32 c0_i32_195
  let v227 : BitVec 32 := Scalar.extui v226
  let c0_i32_196 : BitVec 32 := 0#32
  let v228 : BitVec 1 := Scalar.cmpi .slt c4_i32 c0_i32_196
  let v229 : BitVec 32 := Scalar.extui v228
  let v230 : BitVec 32 := Scalar.subi v227 v229
  let v231 : BitVec 1 := Scalar.cmpi .ne v225 v230
  let v232 : BitVec 32 := Scalar.remsi v219 c4_i32
  let c0_i32_197 : BitVec 32 := 0#32
  let v233 : BitVec 1 := Scalar.cmpi .ne v232 c0_i32_197
  let v234 : BitVec 1 := Scalar.andi v231 v233
  let v220 : BitVec 32 := Scalar.divsi v219 c4_i32
  let c1_i32_198 : BitVec 32 := 1#32
  let v235 : BitVec 32 := Scalar.subi v220 c1_i32_198
  let v236 : BitVec 32 := Scalar.select v234 v235 v220
  let c4_i32_199 : BitVec 32 := 4#32
  let c0_i32_200 : BitVec 32 := 0#32
  let v237 : BitVec 1 := Scalar.cmpi .eq c4_i32_199 c0_i32_200
  let c1_i32_201 : BitVec 32 := 1#32
  let v238 : BitVec 32 := Scalar.select v237 c1_i32_201 c4_i32_199
  let v239 : BitVec 32 := Scalar.remsi v219 v238
  let c0_i32_203 : BitVec 32 := 0#32
  let v241 : BitVec 1 := Scalar.cmpi .slt v239 c0_i32_203
  let c0_i32_204 : BitVec 32 := 0#32
  let v242 : BitVec 1 := Scalar.cmpi .slt v238 c0_i32_204
  let v243 : BitVec 1 := Scalar.xori v241 v242
  let c0_i32_202 : BitVec 32 := 0#32
  let v240 : BitVec 1 := Scalar.cmpi .ne v239 c0_i32_202
  let v244 : BitVec 1 := Scalar.andi v243 v240
  let v245 : BitVec 32 := Scalar.addi v239 v238
  let v246 : BitVec 32 := Scalar.select v244 v245 v239
  let c128_i32_211 : BitVec 32 := 128#32
  let v258 : BitVec 32 := Scalar.muli v246 c128_i32_211
  let c4_i32_212 : BitVec 32 := 4#32
  let v259 : BitVec 32 := Scalar.muli v258 c4_i32_212
  let v260 : BitVec 32 := Scalar.addi v236 v259
  let v287 : Index := Scalar.indexCast v260
  let c0_232 : Index := 0#32
  ![0, 2, v287.toNat, 0]
def k0_off23 (k0_t2 : Fin k0_t2_loop.trips) : Fin 4 → Nat :=
  let c1_233 : Index := 1#32
  let c2_234 : Index := 2#32
  let c0_i32_121 : BitVec 32 := 0#32
  let c1_i32_123 : BitVec 32 := 1#32
  let arg10 : BitVec 32 := Scf.iv c0_i32_121 c1_i32_123 k0_t2
  let c1_i32_191 : BitVec 32 := 1#32
  let v218 : BitVec 32 := Scalar.muli arg10 c1_i32_191
  let c0_i32_192 : BitVec 32 := 0#32
  let v219 : BitVec 32 := Scalar.addi v218 c0_i32_192
  let c0_i32_193 : BitVec 32 := 0#32
  let v221 : BitVec 1 := Scalar.cmpi .sgt v219 c0_i32_193
  let v222 : BitVec 32 := Scalar.extui v221
  let c0_i32_194 : BitVec 32 := 0#32
  let v223 : BitVec 1 := Scalar.cmpi .slt v219 c0_i32_194
  let v224 : BitVec 32 := Scalar.extui v223
  let v225 : BitVec 32 := Scalar.subi v222 v224
  let c4_i32 : BitVec 32 := 4#32
  let c0_i32_195 : BitVec 32 := 0#32
  let v226 : BitVec 1 := Scalar.cmpi .sgt c4_i32 c0_i32_195
  let v227 : BitVec 32 := Scalar.extui v226
  let c0_i32_196 : BitVec 32 := 0#32
  let v228 : BitVec 1 := Scalar.cmpi .slt c4_i32 c0_i32_196
  let v229 : BitVec 32 := Scalar.extui v228
  let v230 : BitVec 32 := Scalar.subi v227 v229
  let v231 : BitVec 1 := Scalar.cmpi .ne v225 v230
  let v232 : BitVec 32 := Scalar.remsi v219 c4_i32
  let c0_i32_197 : BitVec 32 := 0#32
  let v233 : BitVec 1 := Scalar.cmpi .ne v232 c0_i32_197
  let v234 : BitVec 1 := Scalar.andi v231 v233
  let v220 : BitVec 32 := Scalar.divsi v219 c4_i32
  let c1_i32_198 : BitVec 32 := 1#32
  let v235 : BitVec 32 := Scalar.subi v220 c1_i32_198
  let v236 : BitVec 32 := Scalar.select v234 v235 v220
  let c256_i32 : BitVec 32 := 256#32
  let c0_i32_205 : BitVec 32 := 0#32
  let c4_i32_199 : BitVec 32 := 4#32
  let c0_i32_200 : BitVec 32 := 0#32
  let v237 : BitVec 1 := Scalar.cmpi .eq c4_i32_199 c0_i32_200
  let c1_i32_201 : BitVec 32 := 1#32
  let v238 : BitVec 32 := Scalar.select v237 c1_i32_201 c4_i32_199
  let v239 : BitVec 32 := Scalar.remsi v219 v238
  let c0_i32_203 : BitVec 32 := 0#32
  let v241 : BitVec 1 := Scalar.cmpi .slt v239 c0_i32_203
  let c0_i32_204 : BitVec 32 := 0#32
  let v242 : BitVec 1 := Scalar.cmpi .slt v238 c0_i32_204
  let v243 : BitVec 1 := Scalar.xori v241 v242
  let c0_i32_202 : BitVec 32 := 0#32
  let v240 : BitVec 1 := Scalar.cmpi .ne v239 c0_i32_202
  let v244 : BitVec 1 := Scalar.andi v243 v240
  let v245 : BitVec 32 := Scalar.addi v239 v238
  let v246 : BitVec 32 := Scalar.select v244 v245 v239
  let c128_i32 : BitVec 32 := 128#32
  let v247 : BitVec 32 := Scalar.muli v246 c128_i32
  let c64_i32 : BitVec 32 := 64#32
  let v248 : BitVec 32 := Scalar.subi v247 c64_i32
  let v249 : BitVec 32 := Scalar.maxsi c0_i32_205 v248
  let v250 : BitVec 32 := Scalar.minsi c256_i32 v249
  let c4_i32_213 : BitVec 32 := 4#32
  let v261 : BitVec 32 := Scalar.muli v250 c4_i32_213
  let v262 : BitVec 32 := Scalar.addi v236 v261
  let v291 : Index := Scalar.indexCast v262
  let c0_235 : Index := 0#32
  ![1, 2, v291.toNat, 0]
def k0_off24 (k0_t2 : Fin k0_t2_loop.trips) : Fin 4 → Nat :=
  let c0_238 : Index := 0#32
  let c3_239 : Index := 3#32
  let c0_i32_121 : BitVec 32 := 0#32
  let c1_i32_123 : BitVec 32 := 1#32
  let arg10 : BitVec 32 := Scf.iv c0_i32_121 c1_i32_123 k0_t2
  let c1_i32_191 : BitVec 32 := 1#32
  let v218 : BitVec 32 := Scalar.muli arg10 c1_i32_191
  let c0_i32_192 : BitVec 32 := 0#32
  let v219 : BitVec 32 := Scalar.addi v218 c0_i32_192
  let c0_i32_193 : BitVec 32 := 0#32
  let v221 : BitVec 1 := Scalar.cmpi .sgt v219 c0_i32_193
  let v222 : BitVec 32 := Scalar.extui v221
  let c0_i32_194 : BitVec 32 := 0#32
  let v223 : BitVec 1 := Scalar.cmpi .slt v219 c0_i32_194
  let v224 : BitVec 32 := Scalar.extui v223
  let v225 : BitVec 32 := Scalar.subi v222 v224
  let c4_i32 : BitVec 32 := 4#32
  let c0_i32_195 : BitVec 32 := 0#32
  let v226 : BitVec 1 := Scalar.cmpi .sgt c4_i32 c0_i32_195
  let v227 : BitVec 32 := Scalar.extui v226
  let c0_i32_196 : BitVec 32 := 0#32
  let v228 : BitVec 1 := Scalar.cmpi .slt c4_i32 c0_i32_196
  let v229 : BitVec 32 := Scalar.extui v228
  let v230 : BitVec 32 := Scalar.subi v227 v229
  let v231 : BitVec 1 := Scalar.cmpi .ne v225 v230
  let v232 : BitVec 32 := Scalar.remsi v219 c4_i32
  let c0_i32_197 : BitVec 32 := 0#32
  let v233 : BitVec 1 := Scalar.cmpi .ne v232 c0_i32_197
  let v234 : BitVec 1 := Scalar.andi v231 v233
  let v220 : BitVec 32 := Scalar.divsi v219 c4_i32
  let c1_i32_198 : BitVec 32 := 1#32
  let v235 : BitVec 32 := Scalar.subi v220 c1_i32_198
  let v236 : BitVec 32 := Scalar.select v234 v235 v220
  let c4_i32_199 : BitVec 32 := 4#32
  let c0_i32_200 : BitVec 32 := 0#32
  let v237 : BitVec 1 := Scalar.cmpi .eq c4_i32_199 c0_i32_200
  let c1_i32_201 : BitVec 32 := 1#32
  let v238 : BitVec 32 := Scalar.select v237 c1_i32_201 c4_i32_199
  let v239 : BitVec 32 := Scalar.remsi v219 v238
  let c0_i32_203 : BitVec 32 := 0#32
  let v241 : BitVec 1 := Scalar.cmpi .slt v239 c0_i32_203
  let c0_i32_204 : BitVec 32 := 0#32
  let v242 : BitVec 1 := Scalar.cmpi .slt v238 c0_i32_204
  let v243 : BitVec 1 := Scalar.xori v241 v242
  let c0_i32_202 : BitVec 32 := 0#32
  let v240 : BitVec 1 := Scalar.cmpi .ne v239 c0_i32_202
  let v244 : BitVec 1 := Scalar.andi v243 v240
  let v245 : BitVec 32 := Scalar.addi v239 v238
  let v246 : BitVec 32 := Scalar.select v244 v245 v239
  let c128_i32_211 : BitVec 32 := 128#32
  let v258 : BitVec 32 := Scalar.muli v246 c128_i32_211
  let c4_i32_212 : BitVec 32 := 4#32
  let v259 : BitVec 32 := Scalar.muli v258 c4_i32_212
  let v260 : BitVec 32 := Scalar.addi v236 v259
  let v299 : Index := Scalar.indexCast v260
  let c0_240 : Index := 0#32
  ![0, 3, v299.toNat, 0]
def k0_off25 (k0_t2 : Fin k0_t2_loop.trips) : Fin 4 → Nat :=
  let c1_241 : Index := 1#32
  let c3_242 : Index := 3#32
  let c0_i32_121 : BitVec 32 := 0#32
  let c1_i32_123 : BitVec 32 := 1#32
  let arg10 : BitVec 32 := Scf.iv c0_i32_121 c1_i32_123 k0_t2
  let c1_i32_191 : BitVec 32 := 1#32
  let v218 : BitVec 32 := Scalar.muli arg10 c1_i32_191
  let c0_i32_192 : BitVec 32 := 0#32
  let v219 : BitVec 32 := Scalar.addi v218 c0_i32_192
  let c0_i32_193 : BitVec 32 := 0#32
  let v221 : BitVec 1 := Scalar.cmpi .sgt v219 c0_i32_193
  let v222 : BitVec 32 := Scalar.extui v221
  let c0_i32_194 : BitVec 32 := 0#32
  let v223 : BitVec 1 := Scalar.cmpi .slt v219 c0_i32_194
  let v224 : BitVec 32 := Scalar.extui v223
  let v225 : BitVec 32 := Scalar.subi v222 v224
  let c4_i32 : BitVec 32 := 4#32
  let c0_i32_195 : BitVec 32 := 0#32
  let v226 : BitVec 1 := Scalar.cmpi .sgt c4_i32 c0_i32_195
  let v227 : BitVec 32 := Scalar.extui v226
  let c0_i32_196 : BitVec 32 := 0#32
  let v228 : BitVec 1 := Scalar.cmpi .slt c4_i32 c0_i32_196
  let v229 : BitVec 32 := Scalar.extui v228
  let v230 : BitVec 32 := Scalar.subi v227 v229
  let v231 : BitVec 1 := Scalar.cmpi .ne v225 v230
  let v232 : BitVec 32 := Scalar.remsi v219 c4_i32
  let c0_i32_197 : BitVec 32 := 0#32
  let v233 : BitVec 1 := Scalar.cmpi .ne v232 c0_i32_197
  let v234 : BitVec 1 := Scalar.andi v231 v233
  let v220 : BitVec 32 := Scalar.divsi v219 c4_i32
  let c1_i32_198 : BitVec 32 := 1#32
  let v235 : BitVec 32 := Scalar.subi v220 c1_i32_198
  let v236 : BitVec 32 := Scalar.select v234 v235 v220
  let c256_i32 : BitVec 32 := 256#32
  let c0_i32_205 : BitVec 32 := 0#32
  let c4_i32_199 : BitVec 32 := 4#32
  let c0_i32_200 : BitVec 32 := 0#32
  let v237 : BitVec 1 := Scalar.cmpi .eq c4_i32_199 c0_i32_200
  let c1_i32_201 : BitVec 32 := 1#32
  let v238 : BitVec 32 := Scalar.select v237 c1_i32_201 c4_i32_199
  let v239 : BitVec 32 := Scalar.remsi v219 v238
  let c0_i32_203 : BitVec 32 := 0#32
  let v241 : BitVec 1 := Scalar.cmpi .slt v239 c0_i32_203
  let c0_i32_204 : BitVec 32 := 0#32
  let v242 : BitVec 1 := Scalar.cmpi .slt v238 c0_i32_204
  let v243 : BitVec 1 := Scalar.xori v241 v242
  let c0_i32_202 : BitVec 32 := 0#32
  let v240 : BitVec 1 := Scalar.cmpi .ne v239 c0_i32_202
  let v244 : BitVec 1 := Scalar.andi v243 v240
  let v245 : BitVec 32 := Scalar.addi v239 v238
  let v246 : BitVec 32 := Scalar.select v244 v245 v239
  let c128_i32 : BitVec 32 := 128#32
  let v247 : BitVec 32 := Scalar.muli v246 c128_i32
  let c64_i32 : BitVec 32 := 64#32
  let v248 : BitVec 32 := Scalar.subi v247 c64_i32
  let v249 : BitVec 32 := Scalar.maxsi c0_i32_205 v248
  let v250 : BitVec 32 := Scalar.minsi c256_i32 v249
  let c4_i32_213 : BitVec 32 := 4#32
  let v261 : BitVec 32 := Scalar.muli v250 c4_i32_213
  let v262 : BitVec 32 := Scalar.addi v236 v261
  let v303 : Index := Scalar.indexCast v262
  let c0_243 : Index := 0#32
  ![1, 3, v303.toNat, 0]
def k0_off26 (k0_t2 : Fin k0_t2_loop.trips) : Fin 3 → Nat :=
  let c0_250 : Index := 0#32
  let c0_i32_121 : BitVec 32 := 0#32
  let c1_i32_123 : BitVec 32 := 1#32
  let arg10 : BitVec 32 := Scf.iv c0_i32_121 c1_i32_123 k0_t2
  let c1_i32_191 : BitVec 32 := 1#32
  let v218 : BitVec 32 := Scalar.muli arg10 c1_i32_191
  let c0_i32_192 : BitVec 32 := 0#32
  let v219 : BitVec 32 := Scalar.addi v218 c0_i32_192
  let c0_i32_193 : BitVec 32 := 0#32
  let v221 : BitVec 1 := Scalar.cmpi .sgt v219 c0_i32_193
  let v222 : BitVec 32 := Scalar.extui v221
  let c0_i32_194 : BitVec 32 := 0#32
  let v223 : BitVec 1 := Scalar.cmpi .slt v219 c0_i32_194
  let v224 : BitVec 32 := Scalar.extui v223
  let v225 : BitVec 32 := Scalar.subi v222 v224
  let c4_i32 : BitVec 32 := 4#32
  let c0_i32_195 : BitVec 32 := 0#32
  let v226 : BitVec 1 := Scalar.cmpi .sgt c4_i32 c0_i32_195
  let v227 : BitVec 32 := Scalar.extui v226
  let c0_i32_196 : BitVec 32 := 0#32
  let v228 : BitVec 1 := Scalar.cmpi .slt c4_i32 c0_i32_196
  let v229 : BitVec 32 := Scalar.extui v228
  let v230 : BitVec 32 := Scalar.subi v227 v229
  let v231 : BitVec 1 := Scalar.cmpi .ne v225 v230
  let v232 : BitVec 32 := Scalar.remsi v219 c4_i32
  let c0_i32_197 : BitVec 32 := 0#32
  let v233 : BitVec 1 := Scalar.cmpi .ne v232 c0_i32_197
  let v234 : BitVec 1 := Scalar.andi v231 v233
  let v220 : BitVec 32 := Scalar.divsi v219 c4_i32
  let c1_i32_198 : BitVec 32 := 1#32
  let v235 : BitVec 32 := Scalar.subi v220 c1_i32_198
  let v236 : BitVec 32 := Scalar.select v234 v235 v220
  let c4_i32_199 : BitVec 32 := 4#32
  let c0_i32_200 : BitVec 32 := 0#32
  let v237 : BitVec 1 := Scalar.cmpi .eq c4_i32_199 c0_i32_200
  let c1_i32_201 : BitVec 32 := 1#32
  let v238 : BitVec 32 := Scalar.select v237 c1_i32_201 c4_i32_199
  let v239 : BitVec 32 := Scalar.remsi v219 v238
  let c0_i32_203 : BitVec 32 := 0#32
  let v241 : BitVec 1 := Scalar.cmpi .slt v239 c0_i32_203
  let c0_i32_204 : BitVec 32 := 0#32
  let v242 : BitVec 1 := Scalar.cmpi .slt v238 c0_i32_204
  let v243 : BitVec 1 := Scalar.xori v241 v242
  let c0_i32_202 : BitVec 32 := 0#32
  let v240 : BitVec 1 := Scalar.cmpi .ne v239 c0_i32_202
  let v244 : BitVec 1 := Scalar.andi v243 v240
  let v245 : BitVec 32 := Scalar.addi v239 v238
  let v246 : BitVec 32 := Scalar.select v244 v245 v239
  let c128_i32_211 : BitVec 32 := 128#32
  let v258 : BitVec 32 := Scalar.muli v246 c128_i32_211
  let c4_i32_212 : BitVec 32 := 4#32
  let v259 : BitVec 32 := Scalar.muli v258 c4_i32_212
  let v260 : BitVec 32 := Scalar.addi v236 v259
  let v319 : Index := Scalar.indexCast v260
  let c0_251 : Index := 0#32
  ![0, v319.toNat, 0]
def k0_off27 (k0_t2 : Fin k0_t2_loop.trips) : Fin 3 → Nat :=
  let c1_252 : Index := 1#32
  let c0_i32_121 : BitVec 32 := 0#32
  let c1_i32_123 : BitVec 32 := 1#32
  let arg10 : BitVec 32 := Scf.iv c0_i32_121 c1_i32_123 k0_t2
  let c1_i32_191 : BitVec 32 := 1#32
  let v218 : BitVec 32 := Scalar.muli arg10 c1_i32_191
  let c0_i32_192 : BitVec 32 := 0#32
  let v219 : BitVec 32 := Scalar.addi v218 c0_i32_192
  let c0_i32_193 : BitVec 32 := 0#32
  let v221 : BitVec 1 := Scalar.cmpi .sgt v219 c0_i32_193
  let v222 : BitVec 32 := Scalar.extui v221
  let c0_i32_194 : BitVec 32 := 0#32
  let v223 : BitVec 1 := Scalar.cmpi .slt v219 c0_i32_194
  let v224 : BitVec 32 := Scalar.extui v223
  let v225 : BitVec 32 := Scalar.subi v222 v224
  let c4_i32 : BitVec 32 := 4#32
  let c0_i32_195 : BitVec 32 := 0#32
  let v226 : BitVec 1 := Scalar.cmpi .sgt c4_i32 c0_i32_195
  let v227 : BitVec 32 := Scalar.extui v226
  let c0_i32_196 : BitVec 32 := 0#32
  let v228 : BitVec 1 := Scalar.cmpi .slt c4_i32 c0_i32_196
  let v229 : BitVec 32 := Scalar.extui v228
  let v230 : BitVec 32 := Scalar.subi v227 v229
  let v231 : BitVec 1 := Scalar.cmpi .ne v225 v230
  let v232 : BitVec 32 := Scalar.remsi v219 c4_i32
  let c0_i32_197 : BitVec 32 := 0#32
  let v233 : BitVec 1 := Scalar.cmpi .ne v232 c0_i32_197
  let v234 : BitVec 1 := Scalar.andi v231 v233
  let v220 : BitVec 32 := Scalar.divsi v219 c4_i32
  let c1_i32_198 : BitVec 32 := 1#32
  let v235 : BitVec 32 := Scalar.subi v220 c1_i32_198
  let v236 : BitVec 32 := Scalar.select v234 v235 v220
  let c4_i32_199 : BitVec 32 := 4#32
  let c0_i32_200 : BitVec 32 := 0#32
  let v237 : BitVec 1 := Scalar.cmpi .eq c4_i32_199 c0_i32_200
  let c1_i32_201 : BitVec 32 := 1#32
  let v238 : BitVec 32 := Scalar.select v237 c1_i32_201 c4_i32_199
  let v239 : BitVec 32 := Scalar.remsi v219 v238
  let c0_i32_203 : BitVec 32 := 0#32
  let v241 : BitVec 1 := Scalar.cmpi .slt v239 c0_i32_203
  let c0_i32_204 : BitVec 32 := 0#32
  let v242 : BitVec 1 := Scalar.cmpi .slt v238 c0_i32_204
  let v243 : BitVec 1 := Scalar.xori v241 v242
  let c0_i32_202 : BitVec 32 := 0#32
  let v240 : BitVec 1 := Scalar.cmpi .ne v239 c0_i32_202
  let v244 : BitVec 1 := Scalar.andi v243 v240
  let v245 : BitVec 32 := Scalar.addi v239 v238
  let v246 : BitVec 32 := Scalar.select v244 v245 v239
  let c128_i32_211 : BitVec 32 := 128#32
  let v258 : BitVec 32 := Scalar.muli v246 c128_i32_211
  let c4_i32_212 : BitVec 32 := 4#32
  let v259 : BitVec 32 := Scalar.muli v258 c4_i32_212
  let v260 : BitVec 32 := Scalar.addi v236 v259
  let v322 : Index := Scalar.indexCast v260
  let c0_253 : Index := 0#32
  ![1, v322.toNat, 0]
def k0_off28 (k0_t2 : Fin k0_t2_loop.trips) : Fin 3 → Nat :=
  let c2_254 : Index := 2#32
  let c0_i32_121 : BitVec 32 := 0#32
  let c1_i32_123 : BitVec 32 := 1#32
  let arg10 : BitVec 32 := Scf.iv c0_i32_121 c1_i32_123 k0_t2
  let c1_i32_191 : BitVec 32 := 1#32
  let v218 : BitVec 32 := Scalar.muli arg10 c1_i32_191
  let c0_i32_192 : BitVec 32 := 0#32
  let v219 : BitVec 32 := Scalar.addi v218 c0_i32_192
  let c0_i32_193 : BitVec 32 := 0#32
  let v221 : BitVec 1 := Scalar.cmpi .sgt v219 c0_i32_193
  let v222 : BitVec 32 := Scalar.extui v221
  let c0_i32_194 : BitVec 32 := 0#32
  let v223 : BitVec 1 := Scalar.cmpi .slt v219 c0_i32_194
  let v224 : BitVec 32 := Scalar.extui v223
  let v225 : BitVec 32 := Scalar.subi v222 v224
  let c4_i32 : BitVec 32 := 4#32
  let c0_i32_195 : BitVec 32 := 0#32
  let v226 : BitVec 1 := Scalar.cmpi .sgt c4_i32 c0_i32_195
  let v227 : BitVec 32 := Scalar.extui v226
  let c0_i32_196 : BitVec 32 := 0#32
  let v228 : BitVec 1 := Scalar.cmpi .slt c4_i32 c0_i32_196
  let v229 : BitVec 32 := Scalar.extui v228
  let v230 : BitVec 32 := Scalar.subi v227 v229
  let v231 : BitVec 1 := Scalar.cmpi .ne v225 v230
  let v232 : BitVec 32 := Scalar.remsi v219 c4_i32
  let c0_i32_197 : BitVec 32 := 0#32
  let v233 : BitVec 1 := Scalar.cmpi .ne v232 c0_i32_197
  let v234 : BitVec 1 := Scalar.andi v231 v233
  let v220 : BitVec 32 := Scalar.divsi v219 c4_i32
  let c1_i32_198 : BitVec 32 := 1#32
  let v235 : BitVec 32 := Scalar.subi v220 c1_i32_198
  let v236 : BitVec 32 := Scalar.select v234 v235 v220
  let c4_i32_199 : BitVec 32 := 4#32
  let c0_i32_200 : BitVec 32 := 0#32
  let v237 : BitVec 1 := Scalar.cmpi .eq c4_i32_199 c0_i32_200
  let c1_i32_201 : BitVec 32 := 1#32
  let v238 : BitVec 32 := Scalar.select v237 c1_i32_201 c4_i32_199
  let v239 : BitVec 32 := Scalar.remsi v219 v238
  let c0_i32_203 : BitVec 32 := 0#32
  let v241 : BitVec 1 := Scalar.cmpi .slt v239 c0_i32_203
  let c0_i32_204 : BitVec 32 := 0#32
  let v242 : BitVec 1 := Scalar.cmpi .slt v238 c0_i32_204
  let v243 : BitVec 1 := Scalar.xori v241 v242
  let c0_i32_202 : BitVec 32 := 0#32
  let v240 : BitVec 1 := Scalar.cmpi .ne v239 c0_i32_202
  let v244 : BitVec 1 := Scalar.andi v243 v240
  let v245 : BitVec 32 := Scalar.addi v239 v238
  let v246 : BitVec 32 := Scalar.select v244 v245 v239
  let c128_i32_211 : BitVec 32 := 128#32
  let v258 : BitVec 32 := Scalar.muli v246 c128_i32_211
  let c4_i32_212 : BitVec 32 := 4#32
  let v259 : BitVec 32 := Scalar.muli v258 c4_i32_212
  let v260 : BitVec 32 := Scalar.addi v236 v259
  let v325 : Index := Scalar.indexCast v260
  let c0_255 : Index := 0#32
  ![2, v325.toNat, 0]
def k0_off29 (k0_t2 : Fin k0_t2_loop.trips) : Fin 3 → Nat :=
  let c3_256 : Index := 3#32
  let c0_i32_121 : BitVec 32 := 0#32
  let c1_i32_123 : BitVec 32 := 1#32
  let arg10 : BitVec 32 := Scf.iv c0_i32_121 c1_i32_123 k0_t2
  let c1_i32_191 : BitVec 32 := 1#32
  let v218 : BitVec 32 := Scalar.muli arg10 c1_i32_191
  let c0_i32_192 : BitVec 32 := 0#32
  let v219 : BitVec 32 := Scalar.addi v218 c0_i32_192
  let c0_i32_193 : BitVec 32 := 0#32
  let v221 : BitVec 1 := Scalar.cmpi .sgt v219 c0_i32_193
  let v222 : BitVec 32 := Scalar.extui v221
  let c0_i32_194 : BitVec 32 := 0#32
  let v223 : BitVec 1 := Scalar.cmpi .slt v219 c0_i32_194
  let v224 : BitVec 32 := Scalar.extui v223
  let v225 : BitVec 32 := Scalar.subi v222 v224
  let c4_i32 : BitVec 32 := 4#32
  let c0_i32_195 : BitVec 32 := 0#32
  let v226 : BitVec 1 := Scalar.cmpi .sgt c4_i32 c0_i32_195
  let v227 : BitVec 32 := Scalar.extui v226
  let c0_i32_196 : BitVec 32 := 0#32
  let v228 : BitVec 1 := Scalar.cmpi .slt c4_i32 c0_i32_196
  let v229 : BitVec 32 := Scalar.extui v228
  let v230 : BitVec 32 := Scalar.subi v227 v229
  let v231 : BitVec 1 := Scalar.cmpi .ne v225 v230
  let v232 : BitVec 32 := Scalar.remsi v219 c4_i32
  let c0_i32_197 : BitVec 32 := 0#32
  let v233 : BitVec 1 := Scalar.cmpi .ne v232 c0_i32_197
  let v234 : BitVec 1 := Scalar.andi v231 v233
  let v220 : BitVec 32 := Scalar.divsi v219 c4_i32
  let c1_i32_198 : BitVec 32 := 1#32
  let v235 : BitVec 32 := Scalar.subi v220 c1_i32_198
  let v236 : BitVec 32 := Scalar.select v234 v235 v220
  let c4_i32_199 : BitVec 32 := 4#32
  let c0_i32_200 : BitVec 32 := 0#32
  let v237 : BitVec 1 := Scalar.cmpi .eq c4_i32_199 c0_i32_200
  let c1_i32_201 : BitVec 32 := 1#32
  let v238 : BitVec 32 := Scalar.select v237 c1_i32_201 c4_i32_199
  let v239 : BitVec 32 := Scalar.remsi v219 v238
  let c0_i32_203 : BitVec 32 := 0#32
  let v241 : BitVec 1 := Scalar.cmpi .slt v239 c0_i32_203
  let c0_i32_204 : BitVec 32 := 0#32
  let v242 : BitVec 1 := Scalar.cmpi .slt v238 c0_i32_204
  let v243 : BitVec 1 := Scalar.xori v241 v242
  let c0_i32_202 : BitVec 32 := 0#32
  let v240 : BitVec 1 := Scalar.cmpi .ne v239 c0_i32_202
  let v244 : BitVec 1 := Scalar.andi v243 v240
  let v245 : BitVec 32 := Scalar.addi v239 v238
  let v246 : BitVec 32 := Scalar.select v244 v245 v239
  let c128_i32_211 : BitVec 32 := 128#32
  let v258 : BitVec 32 := Scalar.muli v246 c128_i32_211
  let c4_i32_212 : BitVec 32 := 4#32
  let v259 : BitVec 32 := Scalar.muli v258 c4_i32_212
  let v260 : BitVec 32 := Scalar.addi v236 v259
  let v328 : Index := Scalar.indexCast v260
  let c0_257 : Index := 0#32
  ![3, v328.toNat, 0]
def k0_off30 (k0_t2 : Fin k0_t2_loop.trips) : Fin 4 → Nat :=
  let c2_262 : Index := 2#32
  let c0_263 : Index := 0#32
  let c0_i32_121 : BitVec 32 := 0#32
  let c1_i32_123 : BitVec 32 := 1#32
  let arg10 : BitVec 32 := Scf.iv c0_i32_121 c1_i32_123 k0_t2
  let c1_i32_191 : BitVec 32 := 1#32
  let v218 : BitVec 32 := Scalar.muli arg10 c1_i32_191
  let c0_i32_192 : BitVec 32 := 0#32
  let v219 : BitVec 32 := Scalar.addi v218 c0_i32_192
  let c0_i32_193 : BitVec 32 := 0#32
  let v221 : BitVec 1 := Scalar.cmpi .sgt v219 c0_i32_193
  let v222 : BitVec 32 := Scalar.extui v221
  let c0_i32_194 : BitVec 32 := 0#32
  let v223 : BitVec 1 := Scalar.cmpi .slt v219 c0_i32_194
  let v224 : BitVec 32 := Scalar.extui v223
  let v225 : BitVec 32 := Scalar.subi v222 v224
  let c4_i32 : BitVec 32 := 4#32
  let c0_i32_195 : BitVec 32 := 0#32
  let v226 : BitVec 1 := Scalar.cmpi .sgt c4_i32 c0_i32_195
  let v227 : BitVec 32 := Scalar.extui v226
  let c0_i32_196 : BitVec 32 := 0#32
  let v228 : BitVec 1 := Scalar.cmpi .slt c4_i32 c0_i32_196
  let v229 : BitVec 32 := Scalar.extui v228
  let v230 : BitVec 32 := Scalar.subi v227 v229
  let v231 : BitVec 1 := Scalar.cmpi .ne v225 v230
  let v232 : BitVec 32 := Scalar.remsi v219 c4_i32
  let c0_i32_197 : BitVec 32 := 0#32
  let v233 : BitVec 1 := Scalar.cmpi .ne v232 c0_i32_197
  let v234 : BitVec 1 := Scalar.andi v231 v233
  let v220 : BitVec 32 := Scalar.divsi v219 c4_i32
  let c1_i32_198 : BitVec 32 := 1#32
  let v235 : BitVec 32 := Scalar.subi v220 c1_i32_198
  let v236 : BitVec 32 := Scalar.select v234 v235 v220
  let c256_i32 : BitVec 32 := 256#32
  let c0_i32_205 : BitVec 32 := 0#32
  let c4_i32_199 : BitVec 32 := 4#32
  let c0_i32_200 : BitVec 32 := 0#32
  let v237 : BitVec 1 := Scalar.cmpi .eq c4_i32_199 c0_i32_200
  let c1_i32_201 : BitVec 32 := 1#32
  let v238 : BitVec 32 := Scalar.select v237 c1_i32_201 c4_i32_199
  let v239 : BitVec 32 := Scalar.remsi v219 v238
  let c0_i32_203 : BitVec 32 := 0#32
  let v241 : BitVec 1 := Scalar.cmpi .slt v239 c0_i32_203
  let c0_i32_204 : BitVec 32 := 0#32
  let v242 : BitVec 1 := Scalar.cmpi .slt v238 c0_i32_204
  let v243 : BitVec 1 := Scalar.xori v241 v242
  let c0_i32_202 : BitVec 32 := 0#32
  let v240 : BitVec 1 := Scalar.cmpi .ne v239 c0_i32_202
  let v244 : BitVec 1 := Scalar.andi v243 v240
  let v245 : BitVec 32 := Scalar.addi v239 v238
  let v246 : BitVec 32 := Scalar.select v244 v245 v239
  let c128_i32 : BitVec 32 := 128#32
  let v247 : BitVec 32 := Scalar.muli v246 c128_i32
  let c64_i32 : BitVec 32 := 64#32
  let v248 : BitVec 32 := Scalar.subi v247 c64_i32
  let v249 : BitVec 32 := Scalar.maxsi c0_i32_205 v248
  let v250 : BitVec 32 := Scalar.minsi c256_i32 v249
  let c4_i32_213 : BitVec 32 := 4#32
  let v261 : BitVec 32 := Scalar.muli v250 c4_i32_213
  let v262 : BitVec 32 := Scalar.addi v236 v261
  let v364 : Index := Scalar.indexCast v262
  let c0_264 : Index := 0#32
  ![2, 0, v364.toNat, 0]
def k0_off31 (k0_t2 : Fin k0_t2_loop.trips) : Fin 4 → Nat :=
  let c2_266 : Index := 2#32
  let c1_267 : Index := 1#32
  let c0_i32_121 : BitVec 32 := 0#32
  let c1_i32_123 : BitVec 32 := 1#32
  let arg10 : BitVec 32 := Scf.iv c0_i32_121 c1_i32_123 k0_t2
  let c1_i32_191 : BitVec 32 := 1#32
  let v218 : BitVec 32 := Scalar.muli arg10 c1_i32_191
  let c0_i32_192 : BitVec 32 := 0#32
  let v219 : BitVec 32 := Scalar.addi v218 c0_i32_192
  let c0_i32_193 : BitVec 32 := 0#32
  let v221 : BitVec 1 := Scalar.cmpi .sgt v219 c0_i32_193
  let v222 : BitVec 32 := Scalar.extui v221
  let c0_i32_194 : BitVec 32 := 0#32
  let v223 : BitVec 1 := Scalar.cmpi .slt v219 c0_i32_194
  let v224 : BitVec 32 := Scalar.extui v223
  let v225 : BitVec 32 := Scalar.subi v222 v224
  let c4_i32 : BitVec 32 := 4#32
  let c0_i32_195 : BitVec 32 := 0#32
  let v226 : BitVec 1 := Scalar.cmpi .sgt c4_i32 c0_i32_195
  let v227 : BitVec 32 := Scalar.extui v226
  let c0_i32_196 : BitVec 32 := 0#32
  let v228 : BitVec 1 := Scalar.cmpi .slt c4_i32 c0_i32_196
  let v229 : BitVec 32 := Scalar.extui v228
  let v230 : BitVec 32 := Scalar.subi v227 v229
  let v231 : BitVec 1 := Scalar.cmpi .ne v225 v230
  let v232 : BitVec 32 := Scalar.remsi v219 c4_i32
  let c0_i32_197 : BitVec 32 := 0#32
  let v233 : BitVec 1 := Scalar.cmpi .ne v232 c0_i32_197
  let v234 : BitVec 1 := Scalar.andi v231 v233
  let v220 : BitVec 32 := Scalar.divsi v219 c4_i32
  let c1_i32_198 : BitVec 32 := 1#32
  let v235 : BitVec 32 := Scalar.subi v220 c1_i32_198
  let v236 : BitVec 32 := Scalar.select v234 v235 v220
  let c256_i32 : BitVec 32 := 256#32
  let c0_i32_205 : BitVec 32 := 0#32
  let c4_i32_199 : BitVec 32 := 4#32
  let c0_i32_200 : BitVec 32 := 0#32
  let v237 : BitVec 1 := Scalar.cmpi .eq c4_i32_199 c0_i32_200
  let c1_i32_201 : BitVec 32 := 1#32
  let v238 : BitVec 32 := Scalar.select v237 c1_i32_201 c4_i32_199
  let v239 : BitVec 32 := Scalar.remsi v219 v238
  let c0_i32_203 : BitVec 32 := 0#32
  let v241 : BitVec 1 := Scalar.cmpi .slt v239 c0_i32_203
  let c0_i32_204 : BitVec 32 := 0#32
  let v242 : BitVec 1 := Scalar.cmpi .slt v238 c0_i32_204
  let v243 : BitVec 1 := Scalar.xori v241 v242
  let c0_i32_202 : BitVec 32 := 0#32
  let v240 : BitVec 1 := Scalar.cmpi .ne v239 c0_i32_202
  let v244 : BitVec 1 := Scalar.andi v243 v240
  let v245 : BitVec 32 := Scalar.addi v239 v238
  let v246 : BitVec 32 := Scalar.select v244 v245 v239
  let c128_i32 : BitVec 32 := 128#32
  let v247 : BitVec 32 := Scalar.muli v246 c128_i32
  let c64_i32 : BitVec 32 := 64#32
  let v248 : BitVec 32 := Scalar.subi v247 c64_i32
  let v249 : BitVec 32 := Scalar.maxsi c0_i32_205 v248
  let v250 : BitVec 32 := Scalar.minsi c256_i32 v249
  let c4_i32_213 : BitVec 32 := 4#32
  let v261 : BitVec 32 := Scalar.muli v250 c4_i32_213
  let v262 : BitVec 32 := Scalar.addi v236 v261
  let v370 : Index := Scalar.indexCast v262
  let c0_268 : Index := 0#32
  ![2, 1, v370.toNat, 0]
def k0_off32 (k0_t2 : Fin k0_t2_loop.trips) : Fin 4 → Nat :=
  let c2_270 : Index := 2#32
  let c2_271 : Index := 2#32
  let c0_i32_121 : BitVec 32 := 0#32
  let c1_i32_123 : BitVec 32 := 1#32
  let arg10 : BitVec 32 := Scf.iv c0_i32_121 c1_i32_123 k0_t2
  let c1_i32_191 : BitVec 32 := 1#32
  let v218 : BitVec 32 := Scalar.muli arg10 c1_i32_191
  let c0_i32_192 : BitVec 32 := 0#32
  let v219 : BitVec 32 := Scalar.addi v218 c0_i32_192
  let c0_i32_193 : BitVec 32 := 0#32
  let v221 : BitVec 1 := Scalar.cmpi .sgt v219 c0_i32_193
  let v222 : BitVec 32 := Scalar.extui v221
  let c0_i32_194 : BitVec 32 := 0#32
  let v223 : BitVec 1 := Scalar.cmpi .slt v219 c0_i32_194
  let v224 : BitVec 32 := Scalar.extui v223
  let v225 : BitVec 32 := Scalar.subi v222 v224
  let c4_i32 : BitVec 32 := 4#32
  let c0_i32_195 : BitVec 32 := 0#32
  let v226 : BitVec 1 := Scalar.cmpi .sgt c4_i32 c0_i32_195
  let v227 : BitVec 32 := Scalar.extui v226
  let c0_i32_196 : BitVec 32 := 0#32
  let v228 : BitVec 1 := Scalar.cmpi .slt c4_i32 c0_i32_196
  let v229 : BitVec 32 := Scalar.extui v228
  let v230 : BitVec 32 := Scalar.subi v227 v229
  let v231 : BitVec 1 := Scalar.cmpi .ne v225 v230
  let v232 : BitVec 32 := Scalar.remsi v219 c4_i32
  let c0_i32_197 : BitVec 32 := 0#32
  let v233 : BitVec 1 := Scalar.cmpi .ne v232 c0_i32_197
  let v234 : BitVec 1 := Scalar.andi v231 v233
  let v220 : BitVec 32 := Scalar.divsi v219 c4_i32
  let c1_i32_198 : BitVec 32 := 1#32
  let v235 : BitVec 32 := Scalar.subi v220 c1_i32_198
  let v236 : BitVec 32 := Scalar.select v234 v235 v220
  let c256_i32 : BitVec 32 := 256#32
  let c0_i32_205 : BitVec 32 := 0#32
  let c4_i32_199 : BitVec 32 := 4#32
  let c0_i32_200 : BitVec 32 := 0#32
  let v237 : BitVec 1 := Scalar.cmpi .eq c4_i32_199 c0_i32_200
  let c1_i32_201 : BitVec 32 := 1#32
  let v238 : BitVec 32 := Scalar.select v237 c1_i32_201 c4_i32_199
  let v239 : BitVec 32 := Scalar.remsi v219 v238
  let c0_i32_203 : BitVec 32 := 0#32
  let v241 : BitVec 1 := Scalar.cmpi .slt v239 c0_i32_203
  let c0_i32_204 : BitVec 32 := 0#32
  let v242 : BitVec 1 := Scalar.cmpi .slt v238 c0_i32_204
  let v243 : BitVec 1 := Scalar.xori v241 v242
  let c0_i32_202 : BitVec 32 := 0#32
  let v240 : BitVec 1 := Scalar.cmpi .ne v239 c0_i32_202
  let v244 : BitVec 1 := Scalar.andi v243 v240
  let v245 : BitVec 32 := Scalar.addi v239 v238
  let v246 : BitVec 32 := Scalar.select v244 v245 v239
  let c128_i32 : BitVec 32 := 128#32
  let v247 : BitVec 32 := Scalar.muli v246 c128_i32
  let c64_i32 : BitVec 32 := 64#32
  let v248 : BitVec 32 := Scalar.subi v247 c64_i32
  let v249 : BitVec 32 := Scalar.maxsi c0_i32_205 v248
  let v250 : BitVec 32 := Scalar.minsi c256_i32 v249
  let c4_i32_213 : BitVec 32 := 4#32
  let v261 : BitVec 32 := Scalar.muli v250 c4_i32_213
  let v262 : BitVec 32 := Scalar.addi v236 v261
  let v376 : Index := Scalar.indexCast v262
  let c0_272 : Index := 0#32
  ![2, 2, v376.toNat, 0]
def k0_off33 (k0_t2 : Fin k0_t2_loop.trips) : Fin 4 → Nat :=
  let c2_274 : Index := 2#32
  let c3_275 : Index := 3#32
  let c0_i32_121 : BitVec 32 := 0#32
  let c1_i32_123 : BitVec 32 := 1#32
  let arg10 : BitVec 32 := Scf.iv c0_i32_121 c1_i32_123 k0_t2
  let c1_i32_191 : BitVec 32 := 1#32
  let v218 : BitVec 32 := Scalar.muli arg10 c1_i32_191
  let c0_i32_192 : BitVec 32 := 0#32
  let v219 : BitVec 32 := Scalar.addi v218 c0_i32_192
  let c0_i32_193 : BitVec 32 := 0#32
  let v221 : BitVec 1 := Scalar.cmpi .sgt v219 c0_i32_193
  let v222 : BitVec 32 := Scalar.extui v221
  let c0_i32_194 : BitVec 32 := 0#32
  let v223 : BitVec 1 := Scalar.cmpi .slt v219 c0_i32_194
  let v224 : BitVec 32 := Scalar.extui v223
  let v225 : BitVec 32 := Scalar.subi v222 v224
  let c4_i32 : BitVec 32 := 4#32
  let c0_i32_195 : BitVec 32 := 0#32
  let v226 : BitVec 1 := Scalar.cmpi .sgt c4_i32 c0_i32_195
  let v227 : BitVec 32 := Scalar.extui v226
  let c0_i32_196 : BitVec 32 := 0#32
  let v228 : BitVec 1 := Scalar.cmpi .slt c4_i32 c0_i32_196
  let v229 : BitVec 32 := Scalar.extui v228
  let v230 : BitVec 32 := Scalar.subi v227 v229
  let v231 : BitVec 1 := Scalar.cmpi .ne v225 v230
  let v232 : BitVec 32 := Scalar.remsi v219 c4_i32
  let c0_i32_197 : BitVec 32 := 0#32
  let v233 : BitVec 1 := Scalar.cmpi .ne v232 c0_i32_197
  let v234 : BitVec 1 := Scalar.andi v231 v233
  let v220 : BitVec 32 := Scalar.divsi v219 c4_i32
  let c1_i32_198 : BitVec 32 := 1#32
  let v235 : BitVec 32 := Scalar.subi v220 c1_i32_198
  let v236 : BitVec 32 := Scalar.select v234 v235 v220
  let c256_i32 : BitVec 32 := 256#32
  let c0_i32_205 : BitVec 32 := 0#32
  let c4_i32_199 : BitVec 32 := 4#32
  let c0_i32_200 : BitVec 32 := 0#32
  let v237 : BitVec 1 := Scalar.cmpi .eq c4_i32_199 c0_i32_200
  let c1_i32_201 : BitVec 32 := 1#32
  let v238 : BitVec 32 := Scalar.select v237 c1_i32_201 c4_i32_199
  let v239 : BitVec 32 := Scalar.remsi v219 v238
  let c0_i32_203 : BitVec 32 := 0#32
  let v241 : BitVec 1 := Scalar.cmpi .slt v239 c0_i32_203
  let c0_i32_204 : BitVec 32 := 0#32
  let v242 : BitVec 1 := Scalar.cmpi .slt v238 c0_i32_204
  let v243 : BitVec 1 := Scalar.xori v241 v242
  let c0_i32_202 : BitVec 32 := 0#32
  let v240 : BitVec 1 := Scalar.cmpi .ne v239 c0_i32_202
  let v244 : BitVec 1 := Scalar.andi v243 v240
  let v245 : BitVec 32 := Scalar.addi v239 v238
  let v246 : BitVec 32 := Scalar.select v244 v245 v239
  let c128_i32 : BitVec 32 := 128#32
  let v247 : BitVec 32 := Scalar.muli v246 c128_i32
  let c64_i32 : BitVec 32 := 64#32
  let v248 : BitVec 32 := Scalar.subi v247 c64_i32
  let v249 : BitVec 32 := Scalar.maxsi c0_i32_205 v248
  let v250 : BitVec 32 := Scalar.minsi c256_i32 v249
  let c4_i32_213 : BitVec 32 := 4#32
  let v261 : BitVec 32 := Scalar.muli v250 c4_i32_213
  let v262 : BitVec 32 := Scalar.addi v236 v261
  let v382 : Index := Scalar.indexCast v262
  let c0_276 : Index := 0#32
  ![2, 3, v382.toNat, 0]
@[reducible] def k0_t3_loop : Scf.Loop 32 :=
  let c0_i32_187 : BitVec 32 := 0#32
  let c16_i32_188 : BitVec 32 := 16#32
  let v217 : BitVec 32 := Scalar.addi c0_i32_187 c16_i32_188
  let c1_i32_189 : BitVec 32 := 1#32
  ⟨c0_i32_187, v217, c1_i32_189⟩
def k0_off34 (k0_t3 : Fin k0_t3_loop.trips) : Fin 3 → Nat :=
  let c0_i32_187 : BitVec 32 := 0#32
  let c1_i32_189 : BitVec 32 := 1#32
  let arg10 : BitVec 32 := Scf.iv c0_i32_187 c1_i32_189 k0_t3
  let c1_i32_191 : BitVec 32 := 1#32
  let v218 : BitVec 32 := Scalar.muli arg10 c1_i32_191
  let c0_i32_192 : BitVec 32 := 0#32
  let v219 : BitVec 32 := Scalar.addi v218 c0_i32_192
  let c16_i32_193 : BitVec 32 := 16#32
  let c0_i32_194 : BitVec 32 := 0#32
  let v220 : BitVec 1 := Scalar.cmpi .eq c16_i32_193 c0_i32_194
  let c1_i32_195 : BitVec 32 := 1#32
  let v221 : BitVec 32 := Scalar.select v220 c1_i32_195 c16_i32_193
  let v222 : BitVec 32 := Scalar.remsi v219 v221
  let c0_i32_197 : BitVec 32 := 0#32
  let v224 : BitVec 1 := Scalar.cmpi .slt v222 c0_i32_197
  let c0_i32_198 : BitVec 32 := 0#32
  let v225 : BitVec 1 := Scalar.cmpi .slt v221 c0_i32_198
  let v226 : BitVec 1 := Scalar.xori v224 v225
  let c0_i32_196 : BitVec 32 := 0#32
  let v223 : BitVec 1 := Scalar.cmpi .ne v222 c0_i32_196
  let v227 : BitVec 1 := Scalar.andi v226 v223
  let v228 : BitVec 32 := Scalar.addi v222 v221
  let v229 : BitVec 32 := Scalar.select v227 v228 v222
  let c0_i32_200 : BitVec 32 := 0#32
  let v234 : BitVec 1 := Scalar.cmpi .eq v229 c0_i32_200
  let c0_i32_202 : BitVec 32 := 0#32
  let c15_i32 : BitVec 32 := 15#32
  let v235 : BitVec 1 := Scalar.cmpi .eq v229 c15_i32
  let c2_i32 : BitVec 32 := 2#32
  let c1_i32_201 : BitVec 32 := 1#32
  let v236 : BitVec 32 := Scalar.select v235 c2_i32 c1_i32_201
  let v237 : BitVec 32 := Scalar.select v234 c0_i32_202 v236
  let v238 : Index := Scalar.indexCast v237
  let c0_203 : Index := 0#32
  let c0_204 : Index := 0#32
  ![v238.toNat, 0, 0]
def k0_mult1 (k0_t3 : Fin k0_t3_loop.trips) : BitVec 32 :=
  let c0_i32_187 : BitVec 32 := 0#32
  let c1_i32_189 : BitVec 32 := 1#32
  let arg10 : BitVec 32 := Scf.iv c0_i32_187 c1_i32_189 k0_t3
  let c1_i32_191 : BitVec 32 := 1#32
  let v218 : BitVec 32 := Scalar.muli arg10 c1_i32_191
  let c0_i32_192 : BitVec 32 := 0#32
  let v219 : BitVec 32 := Scalar.addi v218 c0_i32_192
  let c16_i32_193 : BitVec 32 := 16#32
  let c0_i32_194 : BitVec 32 := 0#32
  let v220 : BitVec 1 := Scalar.cmpi .eq c16_i32_193 c0_i32_194
  let c1_i32_195 : BitVec 32 := 1#32
  let v221 : BitVec 32 := Scalar.select v220 c1_i32_195 c16_i32_193
  let v222 : BitVec 32 := Scalar.remsi v219 v221
  let c0_i32_197 : BitVec 32 := 0#32
  let v224 : BitVec 1 := Scalar.cmpi .slt v222 c0_i32_197
  let c0_i32_198 : BitVec 32 := 0#32
  let v225 : BitVec 1 := Scalar.cmpi .slt v221 c0_i32_198
  let v226 : BitVec 1 := Scalar.xori v224 v225
  let c0_i32_196 : BitVec 32 := 0#32
  let v223 : BitVec 1 := Scalar.cmpi .ne v222 c0_i32_196
  let v227 : BitVec 1 := Scalar.andi v226 v223
  let v228 : BitVec 32 := Scalar.addi v222 v221
  let v229 : BitVec 32 := Scalar.select v227 v228 v222
  let c128_i32_205 : BitVec 32 := 128#32
  let v241 : BitVec 32 := Scalar.muli v229 c128_i32_205
  v241
def k0_mult2 (k0_t3 : Fin k0_t3_loop.trips) : BitVec 32 :=
  let c1792_i32 : BitVec 32 := 1792#32
  let c0_i32_199 : BitVec 32 := 0#32
  let c0_i32_187 : BitVec 32 := 0#32
  let c1_i32_189 : BitVec 32 := 1#32
  let arg10 : BitVec 32 := Scf.iv c0_i32_187 c1_i32_189 k0_t3
  let c1_i32_191 : BitVec 32 := 1#32
  let v218 : BitVec 32 := Scalar.muli arg10 c1_i32_191
  let c0_i32_192 : BitVec 32 := 0#32
  let v219 : BitVec 32 := Scalar.addi v218 c0_i32_192
  let c16_i32_193 : BitVec 32 := 16#32
  let c0_i32_194 : BitVec 32 := 0#32
  let v220 : BitVec 1 := Scalar.cmpi .eq c16_i32_193 c0_i32_194
  let c1_i32_195 : BitVec 32 := 1#32
  let v221 : BitVec 32 := Scalar.select v220 c1_i32_195 c16_i32_193
  let v222 : BitVec 32 := Scalar.remsi v219 v221
  let c0_i32_197 : BitVec 32 := 0#32
  let v224 : BitVec 1 := Scalar.cmpi .slt v222 c0_i32_197
  let c0_i32_198 : BitVec 32 := 0#32
  let v225 : BitVec 1 := Scalar.cmpi .slt v221 c0_i32_198
  let v226 : BitVec 1 := Scalar.xori v224 v225
  let c0_i32_196 : BitVec 32 := 0#32
  let v223 : BitVec 1 := Scalar.cmpi .ne v222 c0_i32_196
  let v227 : BitVec 1 := Scalar.andi v226 v223
  let v228 : BitVec 32 := Scalar.addi v222 v221
  let v229 : BitVec 32 := Scalar.select v227 v228 v222
  let c128_i32 : BitVec 32 := 128#32
  let v230 : BitVec 32 := Scalar.muli v229 c128_i32
  let c64_i32 : BitVec 32 := 64#32
  let v231 : BitVec 32 := Scalar.subi v230 c64_i32
  let v232 : BitVec 32 := Scalar.maxsi c0_i32_199 v231
  let v233 : BitVec 32 := Scalar.minsi c1792_i32 v232
  v233
def k0_off35 (k0_t3 : Fin k0_t3_loop.trips) : Fin 4 → Nat :=
  let c0_206 : Index := 0#32
  let c0_207 : Index := 0#32
  let c0_i32_187 : BitVec 32 := 0#32
  let c1_i32_189 : BitVec 32 := 1#32
  let arg10 : BitVec 32 := Scf.iv c0_i32_187 c1_i32_189 k0_t3
  let c1_i32_191 : BitVec 32 := 1#32
  let v218 : BitVec 32 := Scalar.muli arg10 c1_i32_191
  let c0_i32_192 : BitVec 32 := 0#32
  let v219 : BitVec 32 := Scalar.addi v218 c0_i32_192
  let c16_i32_193 : BitVec 32 := 16#32
  let c0_i32_194 : BitVec 32 := 0#32
  let v220 : BitVec 1 := Scalar.cmpi .eq c16_i32_193 c0_i32_194
  let c1_i32_195 : BitVec 32 := 1#32
  let v221 : BitVec 32 := Scalar.select v220 c1_i32_195 c16_i32_193
  let v222 : BitVec 32 := Scalar.remsi v219 v221
  let c0_i32_197 : BitVec 32 := 0#32
  let v224 : BitVec 1 := Scalar.cmpi .slt v222 c0_i32_197
  let c0_i32_198 : BitVec 32 := 0#32
  let v225 : BitVec 1 := Scalar.cmpi .slt v221 c0_i32_198
  let v226 : BitVec 1 := Scalar.xori v224 v225
  let c0_i32_196 : BitVec 32 := 0#32
  let v223 : BitVec 1 := Scalar.cmpi .ne v222 c0_i32_196
  let v227 : BitVec 1 := Scalar.andi v226 v223
  let v228 : BitVec 32 := Scalar.addi v222 v221
  let v229 : BitVec 32 := Scalar.select v227 v228 v222
  let c128_i32_205 : BitVec 32 := 128#32
  let v241 : BitVec 32 := Scalar.muli v229 c128_i32_205
  let v242 : BitVec 32 := v241
  let v244 : Index := Scalar.indexCast v242
  let c0_208 : Index := 0#32
  ![0, 0, v244.toNat, 0]
def k0_off36 (k0_t3 : Fin k0_t3_loop.trips) : Fin 4 → Nat :=
  let c1_209 : Index := 1#32
  let c0_210 : Index := 0#32
  let c1792_i32 : BitVec 32 := 1792#32
  let c0_i32_199 : BitVec 32 := 0#32
  let c0_i32_187 : BitVec 32 := 0#32
  let c1_i32_189 : BitVec 32 := 1#32
  let arg10 : BitVec 32 := Scf.iv c0_i32_187 c1_i32_189 k0_t3
  let c1_i32_191 : BitVec 32 := 1#32
  let v218 : BitVec 32 := Scalar.muli arg10 c1_i32_191
  let c0_i32_192 : BitVec 32 := 0#32
  let v219 : BitVec 32 := Scalar.addi v218 c0_i32_192
  let c16_i32_193 : BitVec 32 := 16#32
  let c0_i32_194 : BitVec 32 := 0#32
  let v220 : BitVec 1 := Scalar.cmpi .eq c16_i32_193 c0_i32_194
  let c1_i32_195 : BitVec 32 := 1#32
  let v221 : BitVec 32 := Scalar.select v220 c1_i32_195 c16_i32_193
  let v222 : BitVec 32 := Scalar.remsi v219 v221
  let c0_i32_197 : BitVec 32 := 0#32
  let v224 : BitVec 1 := Scalar.cmpi .slt v222 c0_i32_197
  let c0_i32_198 : BitVec 32 := 0#32
  let v225 : BitVec 1 := Scalar.cmpi .slt v221 c0_i32_198
  let v226 : BitVec 1 := Scalar.xori v224 v225
  let c0_i32_196 : BitVec 32 := 0#32
  let v223 : BitVec 1 := Scalar.cmpi .ne v222 c0_i32_196
  let v227 : BitVec 1 := Scalar.andi v226 v223
  let v228 : BitVec 32 := Scalar.addi v222 v221
  let v229 : BitVec 32 := Scalar.select v227 v228 v222
  let c128_i32 : BitVec 32 := 128#32
  let v230 : BitVec 32 := Scalar.muli v229 c128_i32
  let c64_i32 : BitVec 32 := 64#32
  let v231 : BitVec 32 := Scalar.subi v230 c64_i32
  let v232 : BitVec 32 := Scalar.maxsi c0_i32_199 v231
  let v233 : BitVec 32 := Scalar.minsi c1792_i32 v232
  let v243 : BitVec 32 := v233
  let v248 : Index := Scalar.indexCast v243
  let c0_211 : Index := 0#32
  ![1, 0, v248.toNat, 0]
def k0_off37 (k0_t3 : Fin k0_t3_loop.trips) : Fin 4 → Nat :=
  let c0_214 : Index := 0#32
  let c1_215 : Index := 1#32
  let c0_i32_187 : BitVec 32 := 0#32
  let c1_i32_189 : BitVec 32 := 1#32
  let arg10 : BitVec 32 := Scf.iv c0_i32_187 c1_i32_189 k0_t3
  let c1_i32_191 : BitVec 32 := 1#32
  let v218 : BitVec 32 := Scalar.muli arg10 c1_i32_191
  let c0_i32_192 : BitVec 32 := 0#32
  let v219 : BitVec 32 := Scalar.addi v218 c0_i32_192
  let c16_i32_193 : BitVec 32 := 16#32
  let c0_i32_194 : BitVec 32 := 0#32
  let v220 : BitVec 1 := Scalar.cmpi .eq c16_i32_193 c0_i32_194
  let c1_i32_195 : BitVec 32 := 1#32
  let v221 : BitVec 32 := Scalar.select v220 c1_i32_195 c16_i32_193
  let v222 : BitVec 32 := Scalar.remsi v219 v221
  let c0_i32_197 : BitVec 32 := 0#32
  let v224 : BitVec 1 := Scalar.cmpi .slt v222 c0_i32_197
  let c0_i32_198 : BitVec 32 := 0#32
  let v225 : BitVec 1 := Scalar.cmpi .slt v221 c0_i32_198
  let v226 : BitVec 1 := Scalar.xori v224 v225
  let c0_i32_196 : BitVec 32 := 0#32
  let v223 : BitVec 1 := Scalar.cmpi .ne v222 c0_i32_196
  let v227 : BitVec 1 := Scalar.andi v226 v223
  let v228 : BitVec 32 := Scalar.addi v222 v221
  let v229 : BitVec 32 := Scalar.select v227 v228 v222
  let c128_i32_205 : BitVec 32 := 128#32
  let v241 : BitVec 32 := Scalar.muli v229 c128_i32_205
  let v242 : BitVec 32 := v241
  let v256 : Index := Scalar.indexCast v242
  let c0_216 : Index := 0#32
  ![0, 1, v256.toNat, 0]
def k0_off38 (k0_t3 : Fin k0_t3_loop.trips) : Fin 4 → Nat :=
  let c1_217 : Index := 1#32
  let c1_218 : Index := 1#32
  let c1792_i32 : BitVec 32 := 1792#32
  let c0_i32_199 : BitVec 32 := 0#32
  let c0_i32_187 : BitVec 32 := 0#32
  let c1_i32_189 : BitVec 32 := 1#32
  let arg10 : BitVec 32 := Scf.iv c0_i32_187 c1_i32_189 k0_t3
  let c1_i32_191 : BitVec 32 := 1#32
  let v218 : BitVec 32 := Scalar.muli arg10 c1_i32_191
  let c0_i32_192 : BitVec 32 := 0#32
  let v219 : BitVec 32 := Scalar.addi v218 c0_i32_192
  let c16_i32_193 : BitVec 32 := 16#32
  let c0_i32_194 : BitVec 32 := 0#32
  let v220 : BitVec 1 := Scalar.cmpi .eq c16_i32_193 c0_i32_194
  let c1_i32_195 : BitVec 32 := 1#32
  let v221 : BitVec 32 := Scalar.select v220 c1_i32_195 c16_i32_193
  let v222 : BitVec 32 := Scalar.remsi v219 v221
  let c0_i32_197 : BitVec 32 := 0#32
  let v224 : BitVec 1 := Scalar.cmpi .slt v222 c0_i32_197
  let c0_i32_198 : BitVec 32 := 0#32
  let v225 : BitVec 1 := Scalar.cmpi .slt v221 c0_i32_198
  let v226 : BitVec 1 := Scalar.xori v224 v225
  let c0_i32_196 : BitVec 32 := 0#32
  let v223 : BitVec 1 := Scalar.cmpi .ne v222 c0_i32_196
  let v227 : BitVec 1 := Scalar.andi v226 v223
  let v228 : BitVec 32 := Scalar.addi v222 v221
  let v229 : BitVec 32 := Scalar.select v227 v228 v222
  let c128_i32 : BitVec 32 := 128#32
  let v230 : BitVec 32 := Scalar.muli v229 c128_i32
  let c64_i32 : BitVec 32 := 64#32
  let v231 : BitVec 32 := Scalar.subi v230 c64_i32
  let v232 : BitVec 32 := Scalar.maxsi c0_i32_199 v231
  let v233 : BitVec 32 := Scalar.minsi c1792_i32 v232
  let v243 : BitVec 32 := v233
  let v260 : Index := Scalar.indexCast v243
  let c0_219 : Index := 0#32
  ![1, 1, v260.toNat, 0]
def k0_off39 (k0_t3 : Fin k0_t3_loop.trips) : Fin 4 → Nat :=
  let c0_222 : Index := 0#32
  let c2_223 : Index := 2#32
  let c0_i32_187 : BitVec 32 := 0#32
  let c1_i32_189 : BitVec 32 := 1#32
  let arg10 : BitVec 32 := Scf.iv c0_i32_187 c1_i32_189 k0_t3
  let c1_i32_191 : BitVec 32 := 1#32
  let v218 : BitVec 32 := Scalar.muli arg10 c1_i32_191
  let c0_i32_192 : BitVec 32 := 0#32
  let v219 : BitVec 32 := Scalar.addi v218 c0_i32_192
  let c16_i32_193 : BitVec 32 := 16#32
  let c0_i32_194 : BitVec 32 := 0#32
  let v220 : BitVec 1 := Scalar.cmpi .eq c16_i32_193 c0_i32_194
  let c1_i32_195 : BitVec 32 := 1#32
  let v221 : BitVec 32 := Scalar.select v220 c1_i32_195 c16_i32_193
  let v222 : BitVec 32 := Scalar.remsi v219 v221
  let c0_i32_197 : BitVec 32 := 0#32
  let v224 : BitVec 1 := Scalar.cmpi .slt v222 c0_i32_197
  let c0_i32_198 : BitVec 32 := 0#32
  let v225 : BitVec 1 := Scalar.cmpi .slt v221 c0_i32_198
  let v226 : BitVec 1 := Scalar.xori v224 v225
  let c0_i32_196 : BitVec 32 := 0#32
  let v223 : BitVec 1 := Scalar.cmpi .ne v222 c0_i32_196
  let v227 : BitVec 1 := Scalar.andi v226 v223
  let v228 : BitVec 32 := Scalar.addi v222 v221
  let v229 : BitVec 32 := Scalar.select v227 v228 v222
  let c128_i32_205 : BitVec 32 := 128#32
  let v241 : BitVec 32 := Scalar.muli v229 c128_i32_205
  let v242 : BitVec 32 := v241
  let v268 : Index := Scalar.indexCast v242
  let c0_224 : Index := 0#32
  ![0, 2, v268.toNat, 0]
def k0_off40 (k0_t3 : Fin k0_t3_loop.trips) : Fin 4 → Nat :=
  let c1_225 : Index := 1#32
  let c2_226 : Index := 2#32
  let c1792_i32 : BitVec 32 := 1792#32
  let c0_i32_199 : BitVec 32 := 0#32
  let c0_i32_187 : BitVec 32 := 0#32
  let c1_i32_189 : BitVec 32 := 1#32
  let arg10 : BitVec 32 := Scf.iv c0_i32_187 c1_i32_189 k0_t3
  let c1_i32_191 : BitVec 32 := 1#32
  let v218 : BitVec 32 := Scalar.muli arg10 c1_i32_191
  let c0_i32_192 : BitVec 32 := 0#32
  let v219 : BitVec 32 := Scalar.addi v218 c0_i32_192
  let c16_i32_193 : BitVec 32 := 16#32
  let c0_i32_194 : BitVec 32 := 0#32
  let v220 : BitVec 1 := Scalar.cmpi .eq c16_i32_193 c0_i32_194
  let c1_i32_195 : BitVec 32 := 1#32
  let v221 : BitVec 32 := Scalar.select v220 c1_i32_195 c16_i32_193
  let v222 : BitVec 32 := Scalar.remsi v219 v221
  let c0_i32_197 : BitVec 32 := 0#32
  let v224 : BitVec 1 := Scalar.cmpi .slt v222 c0_i32_197
  let c0_i32_198 : BitVec 32 := 0#32
  let v225 : BitVec 1 := Scalar.cmpi .slt v221 c0_i32_198
  let v226 : BitVec 1 := Scalar.xori v224 v225
  let c0_i32_196 : BitVec 32 := 0#32
  let v223 : BitVec 1 := Scalar.cmpi .ne v222 c0_i32_196
  let v227 : BitVec 1 := Scalar.andi v226 v223
  let v228 : BitVec 32 := Scalar.addi v222 v221
  let v229 : BitVec 32 := Scalar.select v227 v228 v222
  let c128_i32 : BitVec 32 := 128#32
  let v230 : BitVec 32 := Scalar.muli v229 c128_i32
  let c64_i32 : BitVec 32 := 64#32
  let v231 : BitVec 32 := Scalar.subi v230 c64_i32
  let v232 : BitVec 32 := Scalar.maxsi c0_i32_199 v231
  let v233 : BitVec 32 := Scalar.minsi c1792_i32 v232
  let v243 : BitVec 32 := v233
  let v272 : Index := Scalar.indexCast v243
  let c0_227 : Index := 0#32
  ![1, 2, v272.toNat, 0]
def k0_off41 (k0_t3 : Fin k0_t3_loop.trips) : Fin 4 → Nat :=
  let c0_230 : Index := 0#32
  let c3_231 : Index := 3#32
  let c0_i32_187 : BitVec 32 := 0#32
  let c1_i32_189 : BitVec 32 := 1#32
  let arg10 : BitVec 32 := Scf.iv c0_i32_187 c1_i32_189 k0_t3
  let c1_i32_191 : BitVec 32 := 1#32
  let v218 : BitVec 32 := Scalar.muli arg10 c1_i32_191
  let c0_i32_192 : BitVec 32 := 0#32
  let v219 : BitVec 32 := Scalar.addi v218 c0_i32_192
  let c16_i32_193 : BitVec 32 := 16#32
  let c0_i32_194 : BitVec 32 := 0#32
  let v220 : BitVec 1 := Scalar.cmpi .eq c16_i32_193 c0_i32_194
  let c1_i32_195 : BitVec 32 := 1#32
  let v221 : BitVec 32 := Scalar.select v220 c1_i32_195 c16_i32_193
  let v222 : BitVec 32 := Scalar.remsi v219 v221
  let c0_i32_197 : BitVec 32 := 0#32
  let v224 : BitVec 1 := Scalar.cmpi .slt v222 c0_i32_197
  let c0_i32_198 : BitVec 32 := 0#32
  let v225 : BitVec 1 := Scalar.cmpi .slt v221 c0_i32_198
  let v226 : BitVec 1 := Scalar.xori v224 v225
  let c0_i32_196 : BitVec 32 := 0#32
  let v223 : BitVec 1 := Scalar.cmpi .ne v222 c0_i32_196
  let v227 : BitVec 1 := Scalar.andi v226 v223
  let v228 : BitVec 32 := Scalar.addi v222 v221
  let v229 : BitVec 32 := Scalar.select v227 v228 v222
  let c128_i32_205 : BitVec 32 := 128#32
  let v241 : BitVec 32 := Scalar.muli v229 c128_i32_205
  let v242 : BitVec 32 := v241
  let v280 : Index := Scalar.indexCast v242
  let c0_232 : Index := 0#32
  ![0, 3, v280.toNat, 0]
def k0_off42 (k0_t3 : Fin k0_t3_loop.trips) : Fin 4 → Nat :=
  let c1_233 : Index := 1#32
  let c3_234 : Index := 3#32
  let c1792_i32 : BitVec 32 := 1792#32
  let c0_i32_199 : BitVec 32 := 0#32
  let c0_i32_187 : BitVec 32 := 0#32
  let c1_i32_189 : BitVec 32 := 1#32
  let arg10 : BitVec 32 := Scf.iv c0_i32_187 c1_i32_189 k0_t3
  let c1_i32_191 : BitVec 32 := 1#32
  let v218 : BitVec 32 := Scalar.muli arg10 c1_i32_191
  let c0_i32_192 : BitVec 32 := 0#32
  let v219 : BitVec 32 := Scalar.addi v218 c0_i32_192
  let c16_i32_193 : BitVec 32 := 16#32
  let c0_i32_194 : BitVec 32 := 0#32
  let v220 : BitVec 1 := Scalar.cmpi .eq c16_i32_193 c0_i32_194
  let c1_i32_195 : BitVec 32 := 1#32
  let v221 : BitVec 32 := Scalar.select v220 c1_i32_195 c16_i32_193
  let v222 : BitVec 32 := Scalar.remsi v219 v221
  let c0_i32_197 : BitVec 32 := 0#32
  let v224 : BitVec 1 := Scalar.cmpi .slt v222 c0_i32_197
  let c0_i32_198 : BitVec 32 := 0#32
  let v225 : BitVec 1 := Scalar.cmpi .slt v221 c0_i32_198
  let v226 : BitVec 1 := Scalar.xori v224 v225
  let c0_i32_196 : BitVec 32 := 0#32
  let v223 : BitVec 1 := Scalar.cmpi .ne v222 c0_i32_196
  let v227 : BitVec 1 := Scalar.andi v226 v223
  let v228 : BitVec 32 := Scalar.addi v222 v221
  let v229 : BitVec 32 := Scalar.select v227 v228 v222
  let c128_i32 : BitVec 32 := 128#32
  let v230 : BitVec 32 := Scalar.muli v229 c128_i32
  let c64_i32 : BitVec 32 := 64#32
  let v231 : BitVec 32 := Scalar.subi v230 c64_i32
  let v232 : BitVec 32 := Scalar.maxsi c0_i32_199 v231
  let v233 : BitVec 32 := Scalar.minsi c1792_i32 v232
  let v243 : BitVec 32 := v233
  let v284 : Index := Scalar.indexCast v243
  let c0_235 : Index := 0#32
  ![1, 3, v284.toNat, 0]
def k0_off43 (k0_t3 : Fin k0_t3_loop.trips) : Fin 3 → Nat :=
  let c0_242 : Index := 0#32
  let c0_i32_187 : BitVec 32 := 0#32
  let c1_i32_189 : BitVec 32 := 1#32
  let arg10 : BitVec 32 := Scf.iv c0_i32_187 c1_i32_189 k0_t3
  let c1_i32_191 : BitVec 32 := 1#32
  let v218 : BitVec 32 := Scalar.muli arg10 c1_i32_191
  let c0_i32_192 : BitVec 32 := 0#32
  let v219 : BitVec 32 := Scalar.addi v218 c0_i32_192
  let c16_i32_193 : BitVec 32 := 16#32
  let c0_i32_194 : BitVec 32 := 0#32
  let v220 : BitVec 1 := Scalar.cmpi .eq c16_i32_193 c0_i32_194
  let c1_i32_195 : BitVec 32 := 1#32
  let v221 : BitVec 32 := Scalar.select v220 c1_i32_195 c16_i32_193
  let v222 : BitVec 32 := Scalar.remsi v219 v221
  let c0_i32_197 : BitVec 32 := 0#32
  let v224 : BitVec 1 := Scalar.cmpi .slt v222 c0_i32_197
  let c0_i32_198 : BitVec 32 := 0#32
  let v225 : BitVec 1 := Scalar.cmpi .slt v221 c0_i32_198
  let v226 : BitVec 1 := Scalar.xori v224 v225
  let c0_i32_196 : BitVec 32 := 0#32
  let v223 : BitVec 1 := Scalar.cmpi .ne v222 c0_i32_196
  let v227 : BitVec 1 := Scalar.andi v226 v223
  let v228 : BitVec 32 := Scalar.addi v222 v221
  let v229 : BitVec 32 := Scalar.select v227 v228 v222
  let c128_i32_205 : BitVec 32 := 128#32
  let v241 : BitVec 32 := Scalar.muli v229 c128_i32_205
  let v242 : BitVec 32 := v241
  let v300 : Index := Scalar.indexCast v242
  let c0_243 : Index := 0#32
  ![0, v300.toNat, 0]
def k0_off44 (k0_t3 : Fin k0_t3_loop.trips) : Fin 3 → Nat :=
  let c1_244 : Index := 1#32
  let c0_i32_187 : BitVec 32 := 0#32
  let c1_i32_189 : BitVec 32 := 1#32
  let arg10 : BitVec 32 := Scf.iv c0_i32_187 c1_i32_189 k0_t3
  let c1_i32_191 : BitVec 32 := 1#32
  let v218 : BitVec 32 := Scalar.muli arg10 c1_i32_191
  let c0_i32_192 : BitVec 32 := 0#32
  let v219 : BitVec 32 := Scalar.addi v218 c0_i32_192
  let c16_i32_193 : BitVec 32 := 16#32
  let c0_i32_194 : BitVec 32 := 0#32
  let v220 : BitVec 1 := Scalar.cmpi .eq c16_i32_193 c0_i32_194
  let c1_i32_195 : BitVec 32 := 1#32
  let v221 : BitVec 32 := Scalar.select v220 c1_i32_195 c16_i32_193
  let v222 : BitVec 32 := Scalar.remsi v219 v221
  let c0_i32_197 : BitVec 32 := 0#32
  let v224 : BitVec 1 := Scalar.cmpi .slt v222 c0_i32_197
  let c0_i32_198 : BitVec 32 := 0#32
  let v225 : BitVec 1 := Scalar.cmpi .slt v221 c0_i32_198
  let v226 : BitVec 1 := Scalar.xori v224 v225
  let c0_i32_196 : BitVec 32 := 0#32
  let v223 : BitVec 1 := Scalar.cmpi .ne v222 c0_i32_196
  let v227 : BitVec 1 := Scalar.andi v226 v223
  let v228 : BitVec 32 := Scalar.addi v222 v221
  let v229 : BitVec 32 := Scalar.select v227 v228 v222
  let c128_i32_205 : BitVec 32 := 128#32
  let v241 : BitVec 32 := Scalar.muli v229 c128_i32_205
  let v242 : BitVec 32 := v241
  let v303 : Index := Scalar.indexCast v242
  let c0_245 : Index := 0#32
  ![1, v303.toNat, 0]
def k0_off45 (k0_t3 : Fin k0_t3_loop.trips) : Fin 3 → Nat :=
  let c2_246 : Index := 2#32
  let c0_i32_187 : BitVec 32 := 0#32
  let c1_i32_189 : BitVec 32 := 1#32
  let arg10 : BitVec 32 := Scf.iv c0_i32_187 c1_i32_189 k0_t3
  let c1_i32_191 : BitVec 32 := 1#32
  let v218 : BitVec 32 := Scalar.muli arg10 c1_i32_191
  let c0_i32_192 : BitVec 32 := 0#32
  let v219 : BitVec 32 := Scalar.addi v218 c0_i32_192
  let c16_i32_193 : BitVec 32 := 16#32
  let c0_i32_194 : BitVec 32 := 0#32
  let v220 : BitVec 1 := Scalar.cmpi .eq c16_i32_193 c0_i32_194
  let c1_i32_195 : BitVec 32 := 1#32
  let v221 : BitVec 32 := Scalar.select v220 c1_i32_195 c16_i32_193
  let v222 : BitVec 32 := Scalar.remsi v219 v221
  let c0_i32_197 : BitVec 32 := 0#32
  let v224 : BitVec 1 := Scalar.cmpi .slt v222 c0_i32_197
  let c0_i32_198 : BitVec 32 := 0#32
  let v225 : BitVec 1 := Scalar.cmpi .slt v221 c0_i32_198
  let v226 : BitVec 1 := Scalar.xori v224 v225
  let c0_i32_196 : BitVec 32 := 0#32
  let v223 : BitVec 1 := Scalar.cmpi .ne v222 c0_i32_196
  let v227 : BitVec 1 := Scalar.andi v226 v223
  let v228 : BitVec 32 := Scalar.addi v222 v221
  let v229 : BitVec 32 := Scalar.select v227 v228 v222
  let c128_i32_205 : BitVec 32 := 128#32
  let v241 : BitVec 32 := Scalar.muli v229 c128_i32_205
  let v242 : BitVec 32 := v241
  let v306 : Index := Scalar.indexCast v242
  let c0_247 : Index := 0#32
  ![2, v306.toNat, 0]
def k0_off46 (k0_t3 : Fin k0_t3_loop.trips) : Fin 3 → Nat :=
  let c3_248 : Index := 3#32
  let c0_i32_187 : BitVec 32 := 0#32
  let c1_i32_189 : BitVec 32 := 1#32
  let arg10 : BitVec 32 := Scf.iv c0_i32_187 c1_i32_189 k0_t3
  let c1_i32_191 : BitVec 32 := 1#32
  let v218 : BitVec 32 := Scalar.muli arg10 c1_i32_191
  let c0_i32_192 : BitVec 32 := 0#32
  let v219 : BitVec 32 := Scalar.addi v218 c0_i32_192
  let c16_i32_193 : BitVec 32 := 16#32
  let c0_i32_194 : BitVec 32 := 0#32
  let v220 : BitVec 1 := Scalar.cmpi .eq c16_i32_193 c0_i32_194
  let c1_i32_195 : BitVec 32 := 1#32
  let v221 : BitVec 32 := Scalar.select v220 c1_i32_195 c16_i32_193
  let v222 : BitVec 32 := Scalar.remsi v219 v221
  let c0_i32_197 : BitVec 32 := 0#32
  let v224 : BitVec 1 := Scalar.cmpi .slt v222 c0_i32_197
  let c0_i32_198 : BitVec 32 := 0#32
  let v225 : BitVec 1 := Scalar.cmpi .slt v221 c0_i32_198
  let v226 : BitVec 1 := Scalar.xori v224 v225
  let c0_i32_196 : BitVec 32 := 0#32
  let v223 : BitVec 1 := Scalar.cmpi .ne v222 c0_i32_196
  let v227 : BitVec 1 := Scalar.andi v226 v223
  let v228 : BitVec 32 := Scalar.addi v222 v221
  let v229 : BitVec 32 := Scalar.select v227 v228 v222
  let c128_i32_205 : BitVec 32 := 128#32
  let v241 : BitVec 32 := Scalar.muli v229 c128_i32_205
  let v242 : BitVec 32 := v241
  let v309 : Index := Scalar.indexCast v242
  let c0_249 : Index := 0#32
  ![3, v309.toNat, 0]
def k0_off47 (k0_t3 : Fin k0_t3_loop.trips) : Fin 4 → Nat :=
  let c2_254 : Index := 2#32
  let c0_255 : Index := 0#32
  let c1792_i32 : BitVec 32 := 1792#32
  let c0_i32_199 : BitVec 32 := 0#32
  let c0_i32_187 : BitVec 32 := 0#32
  let c1_i32_189 : BitVec 32 := 1#32
  let arg10 : BitVec 32 := Scf.iv c0_i32_187 c1_i32_189 k0_t3
  let c1_i32_191 : BitVec 32 := 1#32
  let v218 : BitVec 32 := Scalar.muli arg10 c1_i32_191
  let c0_i32_192 : BitVec 32 := 0#32
  let v219 : BitVec 32 := Scalar.addi v218 c0_i32_192
  let c16_i32_193 : BitVec 32 := 16#32
  let c0_i32_194 : BitVec 32 := 0#32
  let v220 : BitVec 1 := Scalar.cmpi .eq c16_i32_193 c0_i32_194
  let c1_i32_195 : BitVec 32 := 1#32
  let v221 : BitVec 32 := Scalar.select v220 c1_i32_195 c16_i32_193
  let v222 : BitVec 32 := Scalar.remsi v219 v221
  let c0_i32_197 : BitVec 32 := 0#32
  let v224 : BitVec 1 := Scalar.cmpi .slt v222 c0_i32_197
  let c0_i32_198 : BitVec 32 := 0#32
  let v225 : BitVec 1 := Scalar.cmpi .slt v221 c0_i32_198
  let v226 : BitVec 1 := Scalar.xori v224 v225
  let c0_i32_196 : BitVec 32 := 0#32
  let v223 : BitVec 1 := Scalar.cmpi .ne v222 c0_i32_196
  let v227 : BitVec 1 := Scalar.andi v226 v223
  let v228 : BitVec 32 := Scalar.addi v222 v221
  let v229 : BitVec 32 := Scalar.select v227 v228 v222
  let c128_i32 : BitVec 32 := 128#32
  let v230 : BitVec 32 := Scalar.muli v229 c128_i32
  let c64_i32 : BitVec 32 := 64#32
  let v231 : BitVec 32 := Scalar.subi v230 c64_i32
  let v232 : BitVec 32 := Scalar.maxsi c0_i32_199 v231
  let v233 : BitVec 32 := Scalar.minsi c1792_i32 v232
  let v243 : BitVec 32 := v233
  let v345 : Index := Scalar.indexCast v243
  let c0_256 : Index := 0#32
  ![2, 0, v345.toNat, 0]
def k0_off48 (k0_t3 : Fin k0_t3_loop.trips) : Fin 4 → Nat :=
  let c2_258 : Index := 2#32
  let c1_259 : Index := 1#32
  let c1792_i32 : BitVec 32 := 1792#32
  let c0_i32_199 : BitVec 32 := 0#32
  let c0_i32_187 : BitVec 32 := 0#32
  let c1_i32_189 : BitVec 32 := 1#32
  let arg10 : BitVec 32 := Scf.iv c0_i32_187 c1_i32_189 k0_t3
  let c1_i32_191 : BitVec 32 := 1#32
  let v218 : BitVec 32 := Scalar.muli arg10 c1_i32_191
  let c0_i32_192 : BitVec 32 := 0#32
  let v219 : BitVec 32 := Scalar.addi v218 c0_i32_192
  let c16_i32_193 : BitVec 32 := 16#32
  let c0_i32_194 : BitVec 32 := 0#32
  let v220 : BitVec 1 := Scalar.cmpi .eq c16_i32_193 c0_i32_194
  let c1_i32_195 : BitVec 32 := 1#32
  let v221 : BitVec 32 := Scalar.select v220 c1_i32_195 c16_i32_193
  let v222 : BitVec 32 := Scalar.remsi v219 v221
  let c0_i32_197 : BitVec 32 := 0#32
  let v224 : BitVec 1 := Scalar.cmpi .slt v222 c0_i32_197
  let c0_i32_198 : BitVec 32 := 0#32
  let v225 : BitVec 1 := Scalar.cmpi .slt v221 c0_i32_198
  let v226 : BitVec 1 := Scalar.xori v224 v225
  let c0_i32_196 : BitVec 32 := 0#32
  let v223 : BitVec 1 := Scalar.cmpi .ne v222 c0_i32_196
  let v227 : BitVec 1 := Scalar.andi v226 v223
  let v228 : BitVec 32 := Scalar.addi v222 v221
  let v229 : BitVec 32 := Scalar.select v227 v228 v222
  let c128_i32 : BitVec 32 := 128#32
  let v230 : BitVec 32 := Scalar.muli v229 c128_i32
  let c64_i32 : BitVec 32 := 64#32
  let v231 : BitVec 32 := Scalar.subi v230 c64_i32
  let v232 : BitVec 32 := Scalar.maxsi c0_i32_199 v231
  let v233 : BitVec 32 := Scalar.minsi c1792_i32 v232
  let v243 : BitVec 32 := v233
  let v351 : Index := Scalar.indexCast v243
  let c0_260 : Index := 0#32
  ![2, 1, v351.toNat, 0]
def k0_off49 (k0_t3 : Fin k0_t3_loop.trips) : Fin 4 → Nat :=
  let c2_262 : Index := 2#32
  let c2_263 : Index := 2#32
  let c1792_i32 : BitVec 32 := 1792#32
  let c0_i32_199 : BitVec 32 := 0#32
  let c0_i32_187 : BitVec 32 := 0#32
  let c1_i32_189 : BitVec 32 := 1#32
  let arg10 : BitVec 32 := Scf.iv c0_i32_187 c1_i32_189 k0_t3
  let c1_i32_191 : BitVec 32 := 1#32
  let v218 : BitVec 32 := Scalar.muli arg10 c1_i32_191
  let c0_i32_192 : BitVec 32 := 0#32
  let v219 : BitVec 32 := Scalar.addi v218 c0_i32_192
  let c16_i32_193 : BitVec 32 := 16#32
  let c0_i32_194 : BitVec 32 := 0#32
  let v220 : BitVec 1 := Scalar.cmpi .eq c16_i32_193 c0_i32_194
  let c1_i32_195 : BitVec 32 := 1#32
  let v221 : BitVec 32 := Scalar.select v220 c1_i32_195 c16_i32_193
  let v222 : BitVec 32 := Scalar.remsi v219 v221
  let c0_i32_197 : BitVec 32 := 0#32
  let v224 : BitVec 1 := Scalar.cmpi .slt v222 c0_i32_197
  let c0_i32_198 : BitVec 32 := 0#32
  let v225 : BitVec 1 := Scalar.cmpi .slt v221 c0_i32_198
  let v226 : BitVec 1 := Scalar.xori v224 v225
  let c0_i32_196 : BitVec 32 := 0#32
  let v223 : BitVec 1 := Scalar.cmpi .ne v222 c0_i32_196
  let v227 : BitVec 1 := Scalar.andi v226 v223
  let v228 : BitVec 32 := Scalar.addi v222 v221
  let v229 : BitVec 32 := Scalar.select v227 v228 v222
  let c128_i32 : BitVec 32 := 128#32
  let v230 : BitVec 32 := Scalar.muli v229 c128_i32
  let c64_i32 : BitVec 32 := 64#32
  let v231 : BitVec 32 := Scalar.subi v230 c64_i32
  let v232 : BitVec 32 := Scalar.maxsi c0_i32_199 v231
  let v233 : BitVec 32 := Scalar.minsi c1792_i32 v232
  let v243 : BitVec 32 := v233
  let v357 : Index := Scalar.indexCast v243
  let c0_264 : Index := 0#32
  ![2, 2, v357.toNat, 0]
def k0_off50 (k0_t3 : Fin k0_t3_loop.trips) : Fin 4 → Nat :=
  let c2_266 : Index := 2#32
  let c3_267 : Index := 3#32
  let c1792_i32 : BitVec 32 := 1792#32
  let c0_i32_199 : BitVec 32 := 0#32
  let c0_i32_187 : BitVec 32 := 0#32
  let c1_i32_189 : BitVec 32 := 1#32
  let arg10 : BitVec 32 := Scf.iv c0_i32_187 c1_i32_189 k0_t3
  let c1_i32_191 : BitVec 32 := 1#32
  let v218 : BitVec 32 := Scalar.muli arg10 c1_i32_191
  let c0_i32_192 : BitVec 32 := 0#32
  let v219 : BitVec 32 := Scalar.addi v218 c0_i32_192
  let c16_i32_193 : BitVec 32 := 16#32
  let c0_i32_194 : BitVec 32 := 0#32
  let v220 : BitVec 1 := Scalar.cmpi .eq c16_i32_193 c0_i32_194
  let c1_i32_195 : BitVec 32 := 1#32
  let v221 : BitVec 32 := Scalar.select v220 c1_i32_195 c16_i32_193
  let v222 : BitVec 32 := Scalar.remsi v219 v221
  let c0_i32_197 : BitVec 32 := 0#32
  let v224 : BitVec 1 := Scalar.cmpi .slt v222 c0_i32_197
  let c0_i32_198 : BitVec 32 := 0#32
  let v225 : BitVec 1 := Scalar.cmpi .slt v221 c0_i32_198
  let v226 : BitVec 1 := Scalar.xori v224 v225
  let c0_i32_196 : BitVec 32 := 0#32
  let v223 : BitVec 1 := Scalar.cmpi .ne v222 c0_i32_196
  let v227 : BitVec 1 := Scalar.andi v226 v223
  let v228 : BitVec 32 := Scalar.addi v222 v221
  let v229 : BitVec 32 := Scalar.select v227 v228 v222
  let c128_i32 : BitVec 32 := 128#32
  let v230 : BitVec 32 := Scalar.muli v229 c128_i32
  let c64_i32 : BitVec 32 := 64#32
  let v231 : BitVec 32 := Scalar.subi v230 c64_i32
  let v232 : BitVec 32 := Scalar.maxsi c0_i32_199 v231
  let v233 : BitVec 32 := Scalar.minsi c1792_i32 v232
  let v243 : BitVec 32 := v233
  let v363 : Index := Scalar.indexCast v243
  let c0_268 : Index := 0#32
  ![2, 3, v363.toNat, 0]
def k0_off51 (k0_t3 : Fin k0_t3_loop.trips) : Fin 3 → Nat :=
  let c0_286 : Index := 0#32
  let c0_i32_187 : BitVec 32 := 0#32
  let c1_i32_189 : BitVec 32 := 1#32
  let arg10 : BitVec 32 := Scf.iv c0_i32_187 c1_i32_189 k0_t3
  let c1_i32_191 : BitVec 32 := 1#32
  let v218 : BitVec 32 := Scalar.muli arg10 c1_i32_191
  let c0_i32_192 : BitVec 32 := 0#32
  let v219 : BitVec 32 := Scalar.addi v218 c0_i32_192
  let c16_i32_193 : BitVec 32 := 16#32
  let c0_i32_194 : BitVec 32 := 0#32
  let v220 : BitVec 1 := Scalar.cmpi .eq c16_i32_193 c0_i32_194
  let c1_i32_195 : BitVec 32 := 1#32
  let v221 : BitVec 32 := Scalar.select v220 c1_i32_195 c16_i32_193
  let v222 : BitVec 32 := Scalar.remsi v219 v221
  let c0_i32_197 : BitVec 32 := 0#32
  let v224 : BitVec 1 := Scalar.cmpi .slt v222 c0_i32_197
  let c0_i32_198 : BitVec 32 := 0#32
  let v225 : BitVec 1 := Scalar.cmpi .slt v221 c0_i32_198
  let v226 : BitVec 1 := Scalar.xori v224 v225
  let c0_i32_196 : BitVec 32 := 0#32
  let v223 : BitVec 1 := Scalar.cmpi .ne v222 c0_i32_196
  let v227 : BitVec 1 := Scalar.andi v226 v223
  let v228 : BitVec 32 := Scalar.addi v222 v221
  let v229 : BitVec 32 := Scalar.select v227 v228 v222
  let c128_i32_205 : BitVec 32 := 128#32
  let v241 : BitVec 32 := Scalar.muli v229 c128_i32_205
  let v242 : BitVec 32 := v241
  let v422 : Index := Scalar.indexCast v242
  let c0_287 : Index := 0#32
  ![0, v422.toNat, 0]
def k0_off52 (k0_t3 : Fin k0_t3_loop.trips) : Fin 3 → Nat :=
  let c0_288 : Index := 0#32
  let c0_i32_187 : BitVec 32 := 0#32
  let c1_i32_189 : BitVec 32 := 1#32
  let arg10 : BitVec 32 := Scf.iv c0_i32_187 c1_i32_189 k0_t3
  let c1_i32_191 : BitVec 32 := 1#32
  let v218 : BitVec 32 := Scalar.muli arg10 c1_i32_191
  let c0_i32_192 : BitVec 32 := 0#32
  let v219 : BitVec 32 := Scalar.addi v218 c0_i32_192
  let c16_i32_193 : BitVec 32 := 16#32
  let c0_i32_194 : BitVec 32 := 0#32
  let v220 : BitVec 1 := Scalar.cmpi .eq c16_i32_193 c0_i32_194
  let c1_i32_195 : BitVec 32 := 1#32
  let v221 : BitVec 32 := Scalar.select v220 c1_i32_195 c16_i32_193
  let v222 : BitVec 32 := Scalar.remsi v219 v221
  let c0_i32_197 : BitVec 32 := 0#32
  let v224 : BitVec 1 := Scalar.cmpi .slt v222 c0_i32_197
  let c0_i32_198 : BitVec 32 := 0#32
  let v225 : BitVec 1 := Scalar.cmpi .slt v221 c0_i32_198
  let v226 : BitVec 1 := Scalar.xori v224 v225
  let c0_i32_196 : BitVec 32 := 0#32
  let v223 : BitVec 1 := Scalar.cmpi .ne v222 c0_i32_196
  let v227 : BitVec 1 := Scalar.andi v226 v223
  let v228 : BitVec 32 := Scalar.addi v222 v221
  let v229 : BitVec 32 := Scalar.select v227 v228 v222
  let c128_i32_205 : BitVec 32 := 128#32
  let v241 : BitVec 32 := Scalar.muli v229 c128_i32_205
  let v242 : BitVec 32 := v241
  let v428 : Index := Scalar.indexCast v242
  let c128 : Index := 128#32
  ![0, v428.toNat, 128]
def k0_off53 (k0_t3 : Fin k0_t3_loop.trips) : Fin 3 → Nat :=
  let c0_289 : Index := 0#32
  let c0_i32_187 : BitVec 32 := 0#32
  let c1_i32_189 : BitVec 32 := 1#32
  let arg10 : BitVec 32 := Scf.iv c0_i32_187 c1_i32_189 k0_t3
  let c1_i32_191 : BitVec 32 := 1#32
  let v218 : BitVec 32 := Scalar.muli arg10 c1_i32_191
  let c0_i32_192 : BitVec 32 := 0#32
  let v219 : BitVec 32 := Scalar.addi v218 c0_i32_192
  let c16_i32_193 : BitVec 32 := 16#32
  let c0_i32_194 : BitVec 32 := 0#32
  let v220 : BitVec 1 := Scalar.cmpi .eq c16_i32_193 c0_i32_194
  let c1_i32_195 : BitVec 32 := 1#32
  let v221 : BitVec 32 := Scalar.select v220 c1_i32_195 c16_i32_193
  let v222 : BitVec 32 := Scalar.remsi v219 v221
  let c0_i32_197 : BitVec 32 := 0#32
  let v224 : BitVec 1 := Scalar.cmpi .slt v222 c0_i32_197
  let c0_i32_198 : BitVec 32 := 0#32
  let v225 : BitVec 1 := Scalar.cmpi .slt v221 c0_i32_198
  let v226 : BitVec 1 := Scalar.xori v224 v225
  let c0_i32_196 : BitVec 32 := 0#32
  let v223 : BitVec 1 := Scalar.cmpi .ne v222 c0_i32_196
  let v227 : BitVec 1 := Scalar.andi v226 v223
  let v228 : BitVec 32 := Scalar.addi v222 v221
  let v229 : BitVec 32 := Scalar.select v227 v228 v222
  let c128_i32_205 : BitVec 32 := 128#32
  let v241 : BitVec 32 := Scalar.muli v229 c128_i32_205
  let v242 : BitVec 32 := v241
  let v434 : Index := Scalar.indexCast v242
  let c256 : Index := 256#32
  ![0, v434.toNat, 256]
def k0_off54 (k0_t3 : Fin k0_t3_loop.trips) : Fin 3 → Nat :=
  let c0_290 : Index := 0#32
  let c0_i32_187 : BitVec 32 := 0#32
  let c1_i32_189 : BitVec 32 := 1#32
  let arg10 : BitVec 32 := Scf.iv c0_i32_187 c1_i32_189 k0_t3
  let c1_i32_191 : BitVec 32 := 1#32
  let v218 : BitVec 32 := Scalar.muli arg10 c1_i32_191
  let c0_i32_192 : BitVec 32 := 0#32
  let v219 : BitVec 32 := Scalar.addi v218 c0_i32_192
  let c16_i32_193 : BitVec 32 := 16#32
  let c0_i32_194 : BitVec 32 := 0#32
  let v220 : BitVec 1 := Scalar.cmpi .eq c16_i32_193 c0_i32_194
  let c1_i32_195 : BitVec 32 := 1#32
  let v221 : BitVec 32 := Scalar.select v220 c1_i32_195 c16_i32_193
  let v222 : BitVec 32 := Scalar.remsi v219 v221
  let c0_i32_197 : BitVec 32 := 0#32
  let v224 : BitVec 1 := Scalar.cmpi .slt v222 c0_i32_197
  let c0_i32_198 : BitVec 32 := 0#32
  let v225 : BitVec 1 := Scalar.cmpi .slt v221 c0_i32_198
  let v226 : BitVec 1 := Scalar.xori v224 v225
  let c0_i32_196 : BitVec 32 := 0#32
  let v223 : BitVec 1 := Scalar.cmpi .ne v222 c0_i32_196
  let v227 : BitVec 1 := Scalar.andi v226 v223
  let v228 : BitVec 32 := Scalar.addi v222 v221
  let v229 : BitVec 32 := Scalar.select v227 v228 v222
  let c128_i32_205 : BitVec 32 := 128#32
  let v241 : BitVec 32 := Scalar.muli v229 c128_i32_205
  let v242 : BitVec 32 := v241
  let v440 : Index := Scalar.indexCast v242
  let c384 : Index := 384#32
  ![0, v440.toNat, 384]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x2048x1024 : Shape := ⟨3, ![8, 2048, 1024]⟩
abbrev S1x1024x9728 : Shape := ⟨3, ![1, 1024, 9728]⟩
abbrev S1x9728 : Shape := ⟨2, ![1, 9728]⟩
abbrev S12 : Shape := ⟨1, ![12]⟩
abbrev S1024x9728 : Shape := ⟨2, ![1024, 9728]⟩
abbrev S8x2048x9728 : Shape := ⟨3, ![8, 2048, 9728]⟩
abbrev S9728 : Shape := ⟨1, ![9728]⟩
abbrev S1x1x9728 : Shape := ⟨3, ![1, 1, 9728]⟩
abbrev S8x2048x4608 : Shape := ⟨3, ![8, 2048, 4608]⟩
abbrev S8x2048x1536 : Shape := ⟨3, ![8, 2048, 1536]⟩
abbrev S8x2048x3x4x128 : Shape := ⟨5, ![8, 2048, 3, 4, 128]⟩
abbrev S3x4 : Shape := ⟨2, ![3, 4]⟩
abbrev S8x2048x1x4x128 : Shape := ⟨5, ![8, 2048, 1, 4, 128]⟩
abbrev S8x2048x4x128 : Shape := ⟨4, ![8, 2048, 4, 128]⟩
abbrev S1x4 : Shape := ⟨2, ![1, 4]⟩
abbrev S4 : Shape := ⟨1, ![4]⟩
abbrev S2048x2048 : Shape := ⟨2, ![2048, 2048]⟩
abbrev S_ : Shape := ⟨0, ![]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S8x4x2048x2048 : Shape := ⟨4, ![8, 4, 2048, 2048]⟩
abbrev S1x4x2048x2048 : Shape := ⟨4, ![1, 4, 2048, 2048]⟩
abbrev S1x1x2048x2048 : Shape := ⟨4, ![1, 1, 2048, 2048]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S8x2048x4 : Shape := ⟨3, ![8, 2048, 4]⟩
abbrev S1x8x2048x4 : Shape := ⟨4, ![1, 8, 2048, 4]⟩
abbrev S3x8x2048x4 : Shape := ⟨4, ![3, 8, 2048, 4]⟩
abbrev S1x8x2048x4x128 : Shape := ⟨5, ![1, 8, 2048, 4, 128]⟩
abbrev S3x8x2048x4x128 : Shape := ⟨5, ![3, 8, 2048, 4, 128]⟩
abbrev S8x2048x512 : Shape := ⟨3, ![8, 2048, 512]⟩

abbrev nBuf : Space → Nat
  | .hbm => 220
  | .vmem => 0
  | .smem => 0
  | _ => 0

abbrev hbmTy0_0 (i : Nat) : BufTy := match i % 128 with
  | 0 => ⟨S8x2048x1024, .f32⟩
  | 1 => ⟨S1x1024x9728, .f32⟩
  | 2 => ⟨S1x9728, .f32⟩
  | 3 => ⟨S12, .f32⟩
  | 4 => ⟨S1024x9728, .f32⟩
  | 5 => ⟨S8x2048x9728, .f32⟩
  | 6 => ⟨S9728, .f32⟩
  | 7 => ⟨S1x1x9728, .f32⟩
  | 8 => ⟨S8x2048x9728, .f32⟩
  | 9 => ⟨S8x2048x9728, .f32⟩
  | 10 => ⟨S8x2048x4608, .f32⟩
  | 11 => ⟨S8x2048x1536, .f32⟩
  | 12 => ⟨S8x2048x1536, .f32⟩
  | 13 => ⟨S8x2048x1536, .f32⟩
  | 14 => ⟨S8x2048x3x4x128, .f32⟩
  | 15 => ⟨S8x2048x3x4x128, .f32⟩
  | 16 => ⟨S8x2048x3x4x128, .f32⟩
  | 17 => ⟨S3x4, .f32⟩
  | 18 => ⟨S8x2048x1x4x128, .f32⟩
  | 19 => ⟨S8x2048x4x128, .f32⟩
  | 20 => ⟨S8x2048x1x4x128, .f32⟩
  | 21 => ⟨S8x2048x4x128, .f32⟩
  | 22 => ⟨S8x2048x1x4x128, .f32⟩
  | 23 => ⟨S8x2048x4x128, .f32⟩
  | 24 => ⟨S1x4, .f32⟩
  | 25 => ⟨S4, .f32⟩
  | 26 => ⟨S2048x2048, .i32⟩
  | 27 => ⟨S2048x2048, .i32⟩
  | 28 => ⟨S2048x2048, .i32⟩
  | 29 => ⟨S2048x2048, .i32⟩
  | 30 => ⟨S_, .i32⟩
  | 31 => ⟨S2048x2048, .i32⟩
  | 32 => ⟨S2048x2048, .i1⟩
  | 33 => ⟨S_, .i32⟩
  | 34 => ⟨S2048x2048, .i32⟩
  | 35 => ⟨S2048x2048, .i32⟩
  | 36 => ⟨S_, .i32⟩
  | 37 => ⟨S2048x2048, .i32⟩
  | 38 => ⟨S2048x2048, .i1⟩
  | 39 => ⟨S2048x2048, .i1⟩
  | 40 => ⟨S4x1x1, .f32⟩
  | 41 => ⟨S4x1x1, .f32⟩
  | 42 => ⟨S2048x2048, .f32⟩
  | 43 => ⟨S1x2048x2048, .f32⟩
  | 44 => ⟨S4x2048x2048, .f32⟩
  | 45 => ⟨S4x2048x2048, .f32⟩
  | 46 => ⟨S4x2048x2048, .f32⟩
  | 47 => ⟨S8x4x2048x2048, .f32⟩
  | 48 => ⟨S_, .f32⟩
  | 49 => ⟨S8x4x2048x2048, .f32⟩
  | 50 => ⟨S8x4x2048x2048, .f32⟩
  | 51 => ⟨S1x4x2048x2048, .f32⟩
  | 52 => ⟨S8x4x2048x2048, .f32⟩
  | 53 => ⟨S8x4x2048x2048, .f32⟩
  | 54 => ⟨S1x1x2048x2048, .i1⟩
  | 55 => ⟨S_, .f32⟩
  | 56 => ⟨S_, .f32⟩
  | 57 => ⟨S8x4x2048x2048, .i1⟩
  | 58 => ⟨S8x4x2048x2048, .f32⟩
  | 59 => ⟨S8x4x2048x2048, .f32⟩
  | 60 => ⟨S_, .f32⟩
  | 61 => ⟨S8x4x2048, .f32⟩
  | 62 => ⟨S8x4x2048x1, .f32⟩
  | 63 => ⟨S8x4x2048x2048, .f32⟩
  | 64 => ⟨S8x4x2048x2048, .f32⟩
  | 65 => ⟨S8x4x2048x2048, .f32⟩
  | 66 => ⟨S_, .f32⟩
  | 67 => ⟨S8x4x2048, .f32⟩
  | 68 => ⟨S8x4x2048x1, .f32⟩
  | 69 => ⟨S8x4x2048x2048, .f32⟩
  | 70 => ⟨S8x4x2048x2048, .f32⟩
  | 71 => ⟨S8x4x128x2048, .f32⟩
  | 72 => ⟨S8x2048x4x128, .f32⟩
  | 73 => ⟨S8x4x2048x1, .f32⟩
  | 74 => ⟨S8x4x2048x1, .f32⟩
  | 75 => ⟨S8x4x2048, .f32⟩
  | 76 => ⟨S8x2048x4, .f32⟩
  | 77 => ⟨S8x2048x1x4x128, .f32⟩
  | 78 => ⟨S8x2048x4x128, .f32⟩
  | 79 => ⟨S8x2048x1x4x128, .f32⟩
  | 80 => ⟨S8x2048x4x128, .f32⟩
  | 81 => ⟨S8x2048x1x4x128, .f32⟩
  | 82 => ⟨S8x2048x4x128, .f32⟩
  | 83 => ⟨S1x4, .f32⟩
  | 84 => ⟨S4, .f32⟩
  | 85 => ⟨S2048x2048, .i32⟩
  | 86 => ⟨S2048x2048, .i32⟩
  | 87 => ⟨S2048x2048, .i32⟩
  | 88 => ⟨S2048x2048, .i32⟩
  | 89 => ⟨S_, .i32⟩
  | 90 => ⟨S2048x2048, .i32⟩
  | 91 => ⟨S2048x2048, .i1⟩
  | 92 => ⟨S_, .i32⟩
  | 93 => ⟨S2048x2048, .i32⟩
  | 94 => ⟨S2048x2048, .i32⟩
  | 95 => ⟨S_, .i32⟩
  | 96 => ⟨S2048x2048, .i32⟩
  | 97 => ⟨S2048x2048, .i1⟩
  | 98 => ⟨S2048x2048, .i1⟩
  | 99 => ⟨S4x1x1, .f32⟩
  | 100 => ⟨S4x1x1, .f32⟩
  | 101 => ⟨S2048x2048, .f32⟩
  | 102 => ⟨S1x2048x2048, .f32⟩
  | 103 => ⟨S4x2048x2048, .f32⟩
  | 104 => ⟨S4x2048x2048, .f32⟩
  | 105 => ⟨S4x2048x2048, .f32⟩
  | 106 => ⟨S8x4x2048x2048, .f32⟩
  | 107 => ⟨S_, .f32⟩
  | 108 => ⟨S8x4x2048x2048, .f32⟩
  | 109 => ⟨S8x4x2048x2048, .f32⟩
  | 110 => ⟨S1x4x2048x2048, .f32⟩
  | 111 => ⟨S8x4x2048x2048, .f32⟩
  | 112 => ⟨S8x4x2048x2048, .f32⟩
  | 113 => ⟨S1x1x2048x2048, .i1⟩
  | 114 => ⟨S_, .f32⟩
  | 115 => ⟨S_, .f32⟩
  | 116 => ⟨S8x4x2048x2048, .i1⟩
  | 117 => ⟨S8x4x2048x2048, .f32⟩
  | 118 => ⟨S8x4x2048x2048, .f32⟩
  | 119 => ⟨S_, .f32⟩
  | 120 => ⟨S8x4x2048, .f32⟩
  | 121 => ⟨S8x4x2048x1, .f32⟩
  | 122 => ⟨S8x4x2048x2048, .f32⟩
  | 123 => ⟨S8x4x2048x2048, .f32⟩
  | 124 => ⟨S8x4x2048x2048, .f32⟩
  | 125 => ⟨S_, .f32⟩
  | 126 => ⟨S8x4x2048, .f32⟩
  | 127 => ⟨S8x4x2048x1, .f32⟩
  | _ => ⟨S8x2048x1024, .f32⟩

abbrev hbmTy0_1 (i : Nat) : BufTy := match i % 128 with
  | 0 => ⟨S8x4x2048x2048, .f32⟩
  | 1 => ⟨S8x4x2048x2048, .f32⟩
  | 2 => ⟨S8x4x128x2048, .f32⟩
  | 3 => ⟨S8x2048x4x128, .f32⟩
  | 4 => ⟨S8x4x2048x1, .f32⟩
  | 5 => ⟨S8x4x2048x1, .f32⟩
  | 6 => ⟨S8x4x2048, .f32⟩
  | 7 => ⟨S8x2048x4, .f32⟩
  | 8 => ⟨S8x2048x1x4x128, .f32⟩
  | 9 => ⟨S8x2048x4x128, .f32⟩
  | 10 => ⟨S8x2048x1x4x128, .f32⟩
  | 11 => ⟨S8x2048x4x128, .f32⟩
  | 12 => ⟨S8x2048x1x4x128, .f32⟩
  | 13 => ⟨S8x2048x4x128, .f32⟩
  | 14 => ⟨S1x4, .f32⟩
  | 15 => ⟨S4, .f32⟩
  | 16 => ⟨S2048x2048, .i32⟩
  | 17 => ⟨S2048x2048, .i32⟩
  | 18 => ⟨S2048x2048, .i32⟩
  | 19 => ⟨S2048x2048, .i32⟩
  | 20 => ⟨S_, .i32⟩
  | 21 => ⟨S2048x2048, .i32⟩
  | 22 => ⟨S2048x2048, .i1⟩
  | 23 => ⟨S_, .i32⟩
  | 24 => ⟨S2048x2048, .i32⟩
  | 25 => ⟨S2048x2048, .i32⟩
  | 26 => ⟨S_, .i32⟩
  | 27 => ⟨S2048x2048, .i32⟩
  | 28 => ⟨S2048x2048, .i1⟩
  | 29 => ⟨S2048x2048, .i1⟩
  | 30 => ⟨S4x1x1, .f32⟩
  | 31 => ⟨S4x1x1, .f32⟩
  | 32 => ⟨S2048x2048, .f32⟩
  | 33 => ⟨S1x2048x2048, .f32⟩
  | 34 => ⟨S4x2048x2048, .f32⟩
  | 35 => ⟨S4x2048x2048, .f32⟩
  | 36 => ⟨S4x2048x2048, .f32⟩
  | 37 => ⟨S8x4x2048x2048, .f32⟩
  | 38 => ⟨S_, .f32⟩
  | 39 => ⟨S8x4x2048x2048, .f32⟩
  | 40 => ⟨S8x4x2048x2048, .f32⟩
  | 41 => ⟨S1x4x2048x2048, .f32⟩
  | 42 => ⟨S8x4x2048x2048, .f32⟩
  | 43 => ⟨S8x4x2048x2048, .f32⟩
  | 44 => ⟨S1x1x2048x2048, .i1⟩
  | 45 => ⟨S_, .f32⟩
  | 46 => ⟨S_, .f32⟩
  | 47 => ⟨S8x4x2048x2048, .i1⟩
  | 48 => ⟨S8x4x2048x2048, .f32⟩
  | 49 => ⟨S8x4x2048x2048, .f32⟩
  | 50 => ⟨S_, .f32⟩
  | 51 => ⟨S8x4x2048, .f32⟩
  | 52 => ⟨S8x4x2048x1, .f32⟩
  | 53 => ⟨S8x4x2048x2048, .f32⟩
  | 54 => ⟨S8x4x2048x2048, .f32⟩
  | 55 => ⟨S8x4x2048x2048, .f32⟩
  | 56 => ⟨S_, .f32⟩
  | 57 => ⟨S8x4x2048, .f32⟩
  | 58 => ⟨S8x4x2048x1, .f32⟩
  | 59 => ⟨S8x4x2048x2048, .f32⟩
  | 60 => ⟨S8x4x2048x2048, .f32⟩
  | 61 => ⟨S8x4x128x2048, .f32⟩
  | 62 => ⟨S8x2048x4x128, .f32⟩
  | 63 => ⟨S8x4x2048x1, .f32⟩
  | 64 => ⟨S8x4x2048x1, .f32⟩
  | 65 => ⟨S8x4x2048, .f32⟩
  | 66 => ⟨S8x2048x4, .f32⟩
  | 67 => ⟨S1x8x2048x4, .f32⟩
  | 68 => ⟨S1x8x2048x4, .f32⟩
  | 69 => ⟨S1x8x2048x4, .f32⟩
  | 70 => ⟨S3x8x2048x4, .f32⟩
  | 71 => ⟨S_, .f32⟩
  | 72 => ⟨S8x2048x4, .f32⟩
  | 73 => ⟨S_, .f32⟩
  | 74 => ⟨S8x2048x4, .f32⟩
  | 75 => ⟨S8x2048x4, .f32⟩
  | 76 => ⟨S1x8x2048x4, .f32⟩
  | 77 => ⟨S3x8x2048x4, .f32⟩
  | 78 => ⟨S3x8x2048x4, .f32⟩
  | 79 => ⟨S3x8x2048x4, .f32⟩
  | 80 => ⟨S_, .f32⟩
  | 81 => ⟨S8x2048x4, .f32⟩
  | 82 => ⟨S1x8x2048x4, .f32⟩
  | 83 => ⟨S3x8x2048x4, .f32⟩
  | 84 => ⟨S3x8x2048x4, .f32⟩
  | 85 => ⟨S1x8x2048x4x128, .f32⟩
  | 86 => ⟨S1x8x2048x4x128, .f32⟩
  | 87 => ⟨S1x8x2048x4x128, .f32⟩
  | 88 => ⟨S3x8x2048x4x128, .f32⟩
  | 89 => ⟨S8x2048x4x128, .f32⟩
  | 90 => ⟨S8x2048x512, .f32⟩
  | 91 => ⟨S8x2048x512, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_c : Ref sig .tc := ⟨.hbm, 30, rfl⟩
abbrev main_v26 : Ref sig .tc := ⟨.hbm, 31, rfl⟩
abbrev main_v27 : Ref sig .tc := ⟨.hbm, 32, rfl⟩
abbrev main_c_0 : Ref sig .tc := ⟨.hbm, 33, rfl⟩
abbrev main_v28 : Ref sig .tc := ⟨.hbm, 34, rfl⟩
abbrev main_v29 : Ref sig .tc := ⟨.hbm, 35, rfl⟩
abbrev main_c_1 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_2 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_3 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v47 : Ref sig .tc := ⟨.hbm, 59, rfl⟩
abbrev main_cst_4 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_5 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_c_6 : Ref sig .tc := ⟨.hbm, 89, rfl⟩
abbrev main_v75 : Ref sig .tc := ⟨.hbm, 90, rfl⟩
abbrev main_v76 : Ref sig .tc := ⟨.hbm, 91, rfl⟩
abbrev main_c_7 : Ref sig .tc := ⟨.hbm, 92, rfl⟩
abbrev main_v77 : Ref sig .tc := ⟨.hbm, 93, rfl⟩
abbrev main_v78 : Ref sig .tc := ⟨.hbm, 94, rfl⟩
abbrev main_c_8 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_cst_9 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_cst_10 : Ref sig .tc := ⟨.hbm, 114, rfl⟩
abbrev main_call1_v0 : Ref sig .tc := ⟨.hbm, 115, rfl⟩
abbrev main_call1_v1 : Ref sig .tc := ⟨.hbm, 116, rfl⟩
abbrev main_call1_v2 : Ref sig .tc := ⟨.hbm, 117, rfl⟩
abbrev main_v96 : Ref sig .tc := ⟨.hbm, 118, rfl⟩
abbrev main_cst_11 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_cst_12 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_c_13 : Ref sig .tc := ⟨.hbm, 148, rfl⟩
abbrev main_v124 : Ref sig .tc := ⟨.hbm, 149, rfl⟩
abbrev main_v125 : Ref sig .tc := ⟨.hbm, 150, rfl⟩
abbrev main_c_14 : Ref sig .tc := ⟨.hbm, 151, rfl⟩
abbrev main_v126 : Ref sig .tc := ⟨.hbm, 152, rfl⟩
abbrev main_v127 : Ref sig .tc := ⟨.hbm, 153, rfl⟩
abbrev main_c_15 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_cst_16 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_cst_17 : Ref sig .tc := ⟨.hbm, 173, rfl⟩
abbrev main_call2_v0 : Ref sig .tc := ⟨.hbm, 174, rfl⟩
abbrev main_call2_v1 : Ref sig .tc := ⟨.hbm, 175, rfl⟩
abbrev main_call2_v2 : Ref sig .tc := ⟨.hbm, 176, rfl⟩
abbrev main_v145 : Ref sig .tc := ⟨.hbm, 177, rfl⟩
abbrev main_cst_18 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_cst_19 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_cst_20 : Ref sig .tc := ⟨.hbm, 199, rfl⟩
abbrev main_v165 : Ref sig .tc := ⟨.hbm, 200, rfl⟩
abbrev main_cst_21 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_cst_22 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x2048x512 : Shape := ⟨3, ![8, 2048, 512]⟩
abbrev S1x1024x9728 : Shape := ⟨3, ![1, 1024, 9728]⟩
abbrev S1x9728 : Shape := ⟨2, ![1, 9728]⟩
abbrev S1x512x1024 : Shape := ⟨3, ![1, 512, 1024]⟩
abbrev S1x1024x1024 : Shape := ⟨3, ![1, 1024, 1024]⟩
abbrev S1x1024 : Shape := ⟨2, ![1, 1024]⟩
abbrev S1024x9728 : Shape := ⟨2, ![1024, 9728]⟩
abbrev S9728 : Shape := ⟨1, ![9728]⟩
abbrev S16384x1024 : Shape := ⟨2, ![16384, 1024]⟩
abbrev S16384x512 : Shape := ⟨2, ![16384, 512]⟩
abbrev S1024x2048 : Shape := ⟨2, ![1024, 2048]⟩
abbrev S1x2048 : Shape := ⟨2, ![1, 2048]⟩
abbrev S512x1024 : Shape := ⟨2, ![512, 1024]⟩
abbrev S1024x1024 : Shape := ⟨2, ![1024, 1024]⟩
abbrev S1024 : Shape := ⟨1, ![1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 30
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x1024, .bf16⟩
  | .hbm, ⟨3, _⟩ => ⟨S1x1024x9728, .f32⟩
  | .hbm, ⟨4, _⟩ => ⟨S1x9728, .f32⟩
  | .hbm, ⟨5, _⟩ => ⟨S1x512x1024, .f32⟩
  | .hbm, ⟨6, _⟩ => ⟨S1x1024x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S1024x9728, .f32⟩
  | .hbm, ⟨11, _⟩ => ⟨S1024x9728, .bf16⟩
  | .hbm, ⟨12, _⟩ => ⟨S9728, .f32⟩
  | .hbm, ⟨13, _⟩ => ⟨S1x9728, .f32⟩
  | .hbm, ⟨14, _⟩ => ⟨S16384x1024, .f32⟩
  | .hbm, ⟨15, _⟩ => ⟨S16384x512, .bf16⟩
  | .hbm, ⟨16, _⟩ => ⟨S16384x1024, .bf16⟩
  | .hbm, ⟨17, _⟩ => ⟨S1024x2048, .bf16⟩
  | .hbm, ⟨18, _⟩ => ⟨S1x2048, .f32⟩
  | .hbm, ⟨19, _⟩ => ⟨S512x1024, .f32⟩
  | .hbm, ⟨20, _⟩ => ⟨S512x1024, .bf16⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .bf16⟩
  | .hbm, ⟨25, _⟩ => ⟨S1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1x2048, .f32⟩
  | .local _ .vmem, ⟨8, _⟩ => ⟨S512x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S8x2048x1024 : Shape := ⟨3, ![8, 2048, 1024]⟩
abbrev S8x2048x512 : Shape := ⟨3, ![8, 2048, 512]⟩
abbrev S1x1024x9728 : Shape := ⟨3, ![1, 1024, 9728]⟩
abbrev S1x9728 : Shape := ⟨2, ![1, 9728]⟩
abbrev S1x512x1024 : Shape := ⟨3, ![1, 512, 1024]⟩
abbrev S1x1024x1024 : Shape := ⟨3, ![1, 1024, 1024]⟩
abbrev S1x1024 : Shape := ⟨2, ![1, 1024]⟩
abbrev S16384x1024 : Shape := ⟨2, ![16384, 1024]⟩
abbrev S16384x512 : Shape := ⟨2, ![16384, 512]⟩
abbrev S1024x9728 : Shape := ⟨2, ![1024, 9728]⟩
abbrev S16384x9728 : Shape := ⟨2, ![16384, 9728]⟩
abbrev S9728 : Shape := ⟨1, ![9728]⟩
abbrev S16384x2048 : Shape := ⟨2, ![16384, 2048]⟩
abbrev S_ : Shape := ⟨0, ![]⟩
abbrev S512x1024 : Shape := ⟨2, ![512, 1024]⟩
abbrev S1024x1024 : Shape := ⟨2, ![1024, 1024]⟩
abbrev S1024 : Shape := ⟨1, ![1024]⟩
abbrev S16384 : Shape := ⟨1, ![16384]⟩
abbrev S16384x1 : Shape := ⟨2, ![16384, 1]⟩

abbrev nBuf : Space → Nat
  | .hbm => 76
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x1024, .bf16⟩
  | .hbm, ⟨3, _⟩ => ⟨S1x1024x9728, .f32⟩
  | .hbm, ⟨4, _⟩ => ⟨S1x9728, .f32⟩
  | .hbm, ⟨5, _⟩ => ⟨S1x512x1024, .f32⟩
  | .hbm, ⟨6, _⟩ => ⟨S1x1024x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S8x2048x512, .f32⟩
  | .hbm, ⟨12, _⟩ => ⟨S16384x512, .f32⟩
  | .hbm, ⟨13, _⟩ => ⟨S8x2048x1024, .f32⟩
  | .hbm, ⟨14, _⟩ => ⟨S16384x1024, .f32⟩
  | .hbm, ⟨15, _⟩ => ⟨S1024x9728, .f32⟩
  | .hbm, ⟨16, _⟩ => ⟨S16384x9728, .f32⟩
  | .hbm, ⟨17, _⟩ => ⟨S9728, .f32⟩
  | .hbm, ⟨18, _⟩ => ⟨S1x9728, .f32⟩
  | .hbm, ⟨19, _⟩ => ⟨S16384x9728, .f32⟩
  | .hbm, ⟨20, _⟩ => ⟨S16384x9728, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S16384x1024, .f32⟩
  | .hbm, ⟨31, _⟩ => ⟨S16384x1024, .f32⟩
  | .hbm, ⟨32, _⟩ => ⟨S512x1024, .f32⟩
  | .hbm, ⟨33, _⟩ => ⟨S16384x1024, .f32⟩
  | .hbm, ⟨34, _⟩ => ⟨S16384x1024, .f32⟩
  | .hbm, ⟨35, _⟩ => ⟨S1024x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S1024x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S1024, .f32⟩
  | .hbm, ⟨46, _⟩ => ⟨S1024, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x1024, .f32⟩
  | .hbm, ⟨69, _⟩ => ⟨S16384x1024, .f32⟩
  | .hbm, ⟨70, _⟩ => ⟨S1x1024, .f32⟩
  | .hbm, ⟨71, _⟩ => ⟨S16384x1024, .f32⟩
  | .hbm, ⟨72, _⟩ => ⟨S16384x1024, .f32⟩
  | .hbm, ⟨73, _⟩ => ⟨S1x1024, .f32⟩
  | .hbm, ⟨74, _⟩ => ⟨S16384x1024, .f32⟩
  | .hbm, ⟨75, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_1 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== Kernel3.lean ====
abbrev S16384x1024 : Shape := ⟨2, ![16384, 1024]⟩
abbrev S1x1024x4096 : Shape := ⟨3, ![1, 1024, 4096]⟩
abbrev S1x4096 : Shape := ⟨2, ![1, 4096]⟩
abbrev S1x4096x1024 : Shape := ⟨3, ![1, 4096, 1024]⟩
abbrev S1x1024 : Shape := ⟨2, ![1, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 20
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024x4096, .f32⟩
  | .hbm, ⟨2, _⟩ => ⟨S1x4096, .f32⟩
  | .hbm, ⟨3, _⟩ => ⟨S1x4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x4096, .f32⟩
  | .hbm, ⟨8, _⟩ => ⟨S1024x4096, .bf16⟩
  | .hbm, ⟨9, _⟩ => ⟨S4096, .f32⟩
  | .hbm, ⟨10, _⟩ => ⟨S1x4096, .f32⟩
  | .hbm, ⟨11, _⟩ => ⟨S4096x1024, .f32⟩
  | .hbm, ⟨12, _⟩ => ⟨S4096x1024, .bf16⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16384x1024 : Shape := ⟨2, ![16384, 1024]⟩
abbrev S1x1024x4096 : Shape := ⟨3, ![1, 1024, 4096]⟩
abbrev S1x4096 : Shape := ⟨2, ![1, 4096]⟩
abbrev S1x4096x1024 : Shape := ⟨3, ![1, 4096, 1024]⟩
abbrev S1x1024 : Shape := ⟨2, ![1, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024x4096, .f32⟩
  | .hbm, ⟨2, _⟩ => ⟨S1x4096, .f32⟩
  | .hbm, ⟨3, _⟩ => ⟨S1x4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x4096, .f32⟩
  | .hbm, ⟨8, _⟩ => ⟨S4096, .f32⟩
  | .hbm, ⟨9, _⟩ => ⟨S4096x1024, .f32⟩
  | .hbm, ⟨10, _⟩ => ⟨S1024, .f32⟩
  | .hbm, ⟨11, _⟩ => ⟨S16384x4096, .f32⟩
  | .hbm, ⟨12, _⟩ => ⟨S1x4096, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S1x1024, .f32⟩
  | .hbm, ⟨56, _⟩ => ⟨S16384x1024, .f32⟩
  | .hbm, ⟨57, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Proof.Scalars.lean ====
/- The row functions that both row-tiled calls compute, over the extended reals: a layer norm of one row, and the
   feed-forward branch of one row. -/
module

public import Idealize.ShloMosaic.Lib.Pointwise

@[expose] public section

noncomputable section

namespace Cert.Rows

open Idealize.ShloMosaic

/-- The mean of a row of 1024 entries: its sum divided by 1024. -/
def mean (z : Fin 1024 → EReal) : EReal := Ideal.div (∑ k, z k) (Ideal.ofBits .f32 0x44800000#32)

/-- The layer norm of a row: centred, multiplied by the reciprocal root of its mean square plus 1e-5, times the gain,
    plus the offset. -/
def ln (z g b : Fin 1024 → EReal) (l : Fin 1024) : EReal :=
  (z l - mean z)
      * Ideal.rsqrt (Ideal.div (∑ k, (z k - mean z) * (z k - mean z)) (Ideal.ofBits .f32 0x44800000#32)
          + Ideal.ofBits .f32 0x3727C5AC#32)
      * g l + b l

/-- The feed-forward branch of a row `h` and its scaled residual: α·h + (relu(h·W₁ + b₁)² · W₂ + b₂). -/
def ff (h : Fin 1024 → EReal) (w1 : Fin 1024 → Fin 4096 → EReal) (b1 : Fin 4096 → EReal)
    (w2 : Fin 4096 → Fin 1024 → EReal) (b2 : Fin 1024 → EReal) (l : Fin 1024) : EReal :=
  Ideal.ofBits .f32 0x3F9837F0#32 * h l
    + ((∑ k, max (∑ j, h j * w1 j k + b1 k) 0 * max (∑ j, h j * w1 j k + b1 k) 0 * w2 k l) + b2 l)

/-- The logistic of the gate column `q` of a row `u`: 1 / (1 + exp (−(u·W + b))). -/
def gate (u : Fin 1024 → EReal) (w : Fin 1024 → Fin 2048 → EReal) (b : Fin 2048 → EReal) (q : Fin 2048) : EReal :=
  Ideal.div 1 (1 + Ideal.exp (-(∑ j, u j * w j q + b q)))

/-- The gated merge of a row and its scaled residual: α·u + ((gₐ ⊙ yₐ·Wₐ + gₕ ⊙ yₕ·Wₕ) · W), the first 1024 gate columns
    for the first branch and the last 1024 for the second. -/
def mg (u : Fin 1024 → EReal) (ya : Fin 512 → EReal) (yh : Fin 1024 → EReal) (wg : Fin 1024 → Fin 2048 → EReal)
    (bg : Fin 2048 → EReal) (wa : Fin 512 → Fin 1024 → EReal) (wh wo : Fin 1024 → Fin 1024 → EReal) (l : Fin 1024) : EReal :=
  Ideal.ofBits .f32 0x3F9837F0#32 * u l
    + ∑ k : Fin 1024, (gate u wg bg ⟨k.val, by omega⟩ * ∑ j, ya j * wa j k
        + gate u wg bg ⟨1024 + k.val, by omega⟩ * ∑ j, yh j * wh j k) * wo k l

end Cert.Rows

end
-- ==== Proof.FfnPure.lean ====
/- The feed-forward call: what its body stores and what the reference computes, read at an entry, are the same row
   function. -/
module

public import proofs.«01_k».proof.Proof.Scalars
public import proofs.«01_k».proof.Proof.Gen.Kernel3Ideal.Skeleton
public import proofs.«01_k».proof.Proof.Gen.Reference3Ideal.Run

@[expose] public section

set_option maxRecDepth 16384

noncomputable section

namespace Cert.Ffn

open Idealize.ShloMosaic Idealize.ShloMosaic.TcCoe Idealize.SL.Sem

section Ref
open Cert.Reference3Ideal Cert.Reference3Ideal.Gen

/-- The reference before its layer norm, over the argument arrays. -/
def pre (a0 : FVec Ideal S16384x1024 .f32) (a1 : FVec Ideal S1x1024x4096 .f32) (a2 : FVec Ideal S1x4096 .f32)
    (a3 : FVec Ideal S1x4096x1024 .f32) (a4 : FVec Ideal S1x1024 .f32) : FVec Ideal S16384x1024 .f32 :=
  addf (mulf (broadcastInDim S16384x1024 ![] bcast_S_S16384x1024 (constant S_ .f32 0x3F9837F0#32)) a0) (addf (Host.dotGeneral dot_S16384x4096_S4096x1024_S16384x1024_1_0_0_1_n_n none (mulf (maximumf (addf (Host.dotGeneral dot_S16384x1024_S1024x4096_S16384x4096_1_0_0_1_n_n none a0 (shapeCast _ a1 shapeCasts_S1x1024x4096_S1024x4096)) (broadcastInDim S16384x4096 ![0, 1] bcast_S1x4096_S16384x4096_0_1 (broadcastInDim S1x4096 ![1] bcast_S4096_S1x4096_1 (shapeCast _ a2 shapeCasts_S1x4096_S4096)))) (broadcastInDim S16384x4096 ![] bcast_S_S16384x4096 (constant S_ .f32 0x00000000#32))) (maximumf (addf (Host.dotGeneral dot_S16384x1024_S1024x4096_S16384x4096_1_0_0_1_n_n none a0 (shapeCast _ a1 shapeCasts_S1x1024x4096_S1024x4096)) (broadcastInDim S16384x4096 ![0, 1] bcast_S1x4096_S16384x4096_0_1 (broadcastInDim S1x4096 ![1] bcast_S4096_S1x4096_1 (shapeCast _ a2 shapeCasts_S1x4096_S4096)))) (broadcastInDim S16384x4096 ![] bcast_S_S16384x4096 (constant S_ .f32 0x00000000#32)))) (shapeCast _ a3 shapeCasts_S1x4096x1024_S4096x1024)) (broadcastInDim S16384x1024 ![0, 1] bcast_S1x1024_S16384x1024_0_1 (broadcastInDim S1x1024 ![1] bcast_S1024_S1x1024_1 (shapeCast _ a4 shapeCasts_S1x1024_S1024))))

/-- The mean over the last axis, kept as a column, as the reference writes it. -/
def meanCol (z : FVec Ideal S16384x1024 .f32) : FVec Ideal S16384x1 .f32 :=
  Host.divf (broadcastInDim S16384x1 ![0] bcast_S16384_S16384x1_0 (Host.reduceAdd z (constant S_ .f32 0x00000000#32) reducesTo_S16384x1024_S16384_d1 h_S_)) (broadcastInDim S16384x1 ![] bcast_S_S16384x1 (constant S_ .f32 0x44800000#32))

/-- The array centred by its mean column. -/
def centred (z : FVec Ideal S16384x1024 .f32) : FVec Ideal S16384x1024 .f32 :=
  subf z (broadcastInDim S16384x1024 ![0, 1] bcast_S16384x1_S16384x1024_0_1 (meanCol z))

/-- The reference's layer norm. -/
def lnRef (z : FVec Ideal S16384x1024 .f32) (g b : FVec Ideal S1x1024 .f32) : FVec Ideal S16384x1024 .f32 :=
  addf (mulf (mulf (centred z) (broadcastInDim S16384x1024 ![0, 1] bcast_S16384x1_S16384x1024_0_1 (Host.rsqrt (addf (meanCol (mulf (centred z) (centred z))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 (shapeCast _ g shapeCasts_S1x1024_S1024)))) (broadcastInDim S16384x1024 ![0, 1] bcast_S1x1024_S16384x1024_0_1 (broadcastInDim S1x1024 ![1] bcast_S1024_S1x1024_1 (shapeCast _ b shapeCasts_S1x1024_S1024)))

/-- What the reference's run leaves is the layer norm of `pre`. -/
theorem res_eq (m : (ℓ : Loc nD τ sig) → Buf (Elt Ideal) ℓ) (c : Dev nD) :
    Cert.Reference3Ideal.Value.res_out0 m c
      = lnRef (pre (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)))
        (m ((c.tc : Thread nD τ).loc main_arg5)) (m ((c.tc : Thread nD τ).loc main_arg6)) := rfl

/-- The mean column at row `r`. -/
theorem meanCol_at (z : FVec Ideal S16384x1024 .f32) (r : Fin 16384) (q : Fin 1) :
    meanCol z (ix2 r q) = Rows.mean fun k => z (ix2 r k) := by
  pointwise [meanCol, Rows.mean]

/-- The centred array at an entry. -/
theorem centred_at (z : FVec Ideal S16384x1024 .f32) (r : Fin 16384) (l : Fin 1024) :
    centred z (ix2 r l) = z (ix2 r l) - Rows.mean fun k => z (ix2 r k) := by
  pointwise [centred, meanCol_at]

/-- The reference's layer norm at an entry is the row's layer norm. -/
theorem lnRef_at (z : FVec Ideal S16384x1024 .f32) (g b : FVec Ideal S1x1024 .f32) (r : Fin 16384) (l : Fin 1024) :
    lnRef z g b (ix2 r l) = Rows.ln (fun k => z (ix2 r k)) (fun k => g (ix2 0 k)) (fun k => b (ix2 0 k)) l := by
  pointwise [lnRef, meanCol_at, centred_at]
  rfl

/-- The reference before its layer norm, at an entry. -/
theorem pre_at (a0 : FVec Ideal S16384x1024 .f32) (a1 : FVec Ideal S1x1024x4096 .f32) (a2 : FVec Ideal S1x4096 .f32)
    (a3 : FVec Ideal S1x4096x1024 .f32) (a4 : FVec Ideal S1x1024 .f32) (r : Fin 16384) (l : Fin 1024) :
    pre a0 a1 a2 a3 a4 (ix2 r l) = Rows.ff (fun j => a0 (ix2 r j)) (fun j k => a1 (ix3 0 j k)) (fun k => a2 (ix2 0 k))
      (fun k j => a3 (ix3 0 k j)) (fun j => a4 (ix2 0 j)) l := by
  pointwise [pre, Rows.ff]

end Ref

section Ker
open Cert.Kernel3Ideal Cert.Kernel3Ideal.Gen

/-- The row before the layer norm, centred: the body's value that its tail reads. -/
theorem pay4_at (x : FVec Ideal S512x1024 .f32) (w1 : FVec Ideal S1024x4096 .bf16) (b1 : FVec Ideal S1x4096 .f32)
    (w2 : FVec Ideal S4096x1024 .bf16) (b2 : FVec Ideal S1x1024 .f32) (r : Fin 512) (l : Fin 1024) :
    k0_pay4 (F := Ideal) x w1 b1 w2 b2 (ix2 r l)
      = Rows.ff (fun j => x (ix2 r j)) (fun j k => w1 (ix2 j k)) (fun k => b1 (ix2 0 k)) (fun k j => w2 (ix2 k j)) (fun j => b2 (ix2 0 j)) l
        - Rows.mean (Rows.ff (fun j => x (ix2 r j)) (fun j k => w1 (ix2 j k)) (fun k => b1 (ix2 0 k)) (fun k j => w2 (ix2 k j)) (fun j => b2 (ix2 0 j))) := by
  pointwise [k0_pay4, Rows.ff, Rows.mean]

/-- What the body stores, at an entry. -/
theorem pay1_at (x : FVec Ideal S512x1024 .f32) (w1 : FVec Ideal S1024x4096 .bf16) (b1 : FVec Ideal S1x4096 .f32)
    (w2 : FVec Ideal S4096x1024 .bf16) (b2 g b : FVec Ideal S1x1024 .f32) (r : Fin 512) (l : Fin 1024) :
    k0_pay1 (F := Ideal) (k0_pay2 g) (k0_pay3 b) (k0_pay4 x w1 b1 w2 b2) (k0_pay5 x w1 b1 w2 b2) k0_pay6 (ix2 r l)
      = Rows.ln (Rows.ff (fun j => x (ix2 r j)) (fun j k => w1 (ix2 j k)) (fun k => b1 (ix2 0 k)) (fun k j => w2 (ix2 k j)) (fun j => b2 (ix2 0 j)))
          (fun k => g (ix2 0 k)) (fun k => b (ix2 0 k)) l := by
  pointwise [k0_pay1, k0_pay2, k0_pay3, k0_pay5, k0_pay6, pay4_at]
  rfl

end Ker

end Cert.Ffn

end
-- ==== Proof.Ffn.lean ====
/- The feed-forward call: the array its run leaves is the reference's result. -/
module

public import proofs.«01_k».proof.Proof.FfnPure
public import proofs.«01_k».proof.Proof.Gen.Kernel3Ideal.Value
public import Idealize.ShloMosaic.Lib.Pipeline.ValueKit

@[expose] public section

set_option maxRecDepth 16384

noncomputable section

namespace Cert.Ffn

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- The windows' block indices: the rows' window and the result move with the point, the others stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

/-- The reference's term over the call's own argument arrays. -/
abbrev G (c : Dev nD) : FVec Ideal S16384x1024 .f32 :=
  lnRef (pre (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)))
        (m ((c.tc : Thread nD τ).loc main_arg5)) (m ((c.tc : Thread nD τ).loc main_arg6))

/-- The first weights where the call reads them: the argument's, unit axis dropped. -/
theorem v1_at (c : Dev nD) (j : Fin 1024) (k : Fin 4096) :
    V m c main_v1 (ix2 j k) = m ((c.tc : Thread nD τ).loc main_arg1) (ix3 0 j k) := by
  entry_read; pointwise

/-- The first offsets likewise. -/
theorem v3_at (c : Dev nD) (k : Fin 4096) :
    V m c main_v3 (ix2 0 k) = m ((c.tc : Thread nD τ).loc main_arg2) (ix2 0 k) := by
  entry_read; pointwise

/-- The second weights. -/
theorem v5_at (c : Dev nD) (j : Fin 4096) (k : Fin 1024) :
    V m c main_v5 (ix2 j k) = m ((c.tc : Thread nD τ).loc main_arg3) (ix3 0 j k) := by
  entry_read; pointwise

/-- The second offsets. -/
theorem v7_at (c : Dev nD) (k : Fin 1024) :
    V m c main_v7 (ix2 0 k) = m ((c.tc : Thread nD τ).loc main_arg4) (ix2 0 k) := by
  entry_read; pointwise

/-- The layer norm's gain. -/
theorem v9_at (c : Dev nD) (k : Fin 1024) :
    V m c main_v9 (ix2 0 k) = m ((c.tc : Thread nD τ).loc main_arg5) (ix2 0 k) := by
  entry_read; pointwise

/-- The layer norm's offset. -/
theorem v11_at (c : Dev nD) (k : Fin 1024) :
    V m c main_v11 (ix2 0 k) = m ((c.tc : Thread nD τ).loc main_arg6) (ix2 0 k) := by
  entry_read; pointwise

/-- The block of rows at point `t`: rows `512 t` on. -/
theorem blk0 (c : Dev nD) (t : Fin cfg0.N) (r : Fin 512) (l : Fin 1024) (R : Fin 16384) (hR : R.val = t.val * 512 + r.val) :
    iblk m c 0 t (ix2 r l) = m ((c.tc : Thread nD τ).loc main_arg0) (ix2 R l) := by
  blk_ext [iblk, V, idx t]

/-- The first weights' block is the whole array. -/
theorem blk1 (c : Dev nD) (t : Fin cfg0.N) (j : Fin 1024) (k : Fin 4096) :
    iblk m c 1 t (ix2 j k) = m ((c.tc : Thread nD τ).loc main_arg1) (ix3 0 j k) :=
  Eq.trans (by blk_ext [iblk, idx t]) (v1_at m c j k)

/-- The first offsets' block. -/
theorem blk2 (c : Dev nD) (t : Fin cfg0.N) (k : Fin 4096) :
    iblk m c 2 t (ix2 0 k) = m ((c.tc : Thread nD τ).loc main_arg2) (ix2 0 k) :=
  Eq.trans (by blk_ext [iblk, idx t]) (v3_at m c k)

/-- The second weights' block. -/
theorem blk3 (c : Dev nD) (t : Fin cfg0.N) (j : Fin 4096) (k : Fin 1024) :
    iblk m c 3 t (ix2 j k) = m ((c.tc : Thread nD τ).loc main_arg3) (ix3 0 j k) :=
  Eq.trans (by blk_ext [iblk, idx t]) (v5_at m c j k)

/-- The second offsets' block. -/
theorem blk4 (c : Dev nD) (t : Fin cfg0.N) (k : Fin 1024) :
    iblk m c 4 t (ix2 0 k) = m ((c.tc : Thread nD τ).loc main_arg4) (ix2 0 k) :=
  Eq.trans (by blk_ext [iblk, idx t]) (v7_at m c k)

/-- The gain's block. -/
theorem blk5 (c : Dev nD) (t : Fin cfg0.N) (k : Fin 1024) :
    iblk m c 5 t (ix2 0 k) = m ((c.tc : Thread nD τ).loc main_arg5) (ix2 0 k) :=
  Eq.trans (by blk_ext [iblk, idx t]) (v9_at m c k)

/-- The offset's block. -/
theorem blk6 (c : Dev nD) (t : Fin cfg0.N) (k : Fin 1024) :
    iblk m c 6 t (ix2 0 k) = m ((c.tc : Thread nD τ).loc main_arg6) (ix2 0 k) :=
  Eq.trans (by blk_ext [iblk, idx t]) (v11_at m c k)

/-- Block `t` of the result: what point `t` stores at an entry is the reference's term at the entry's place. -/
theorem point (c : Dev nD) (t : Fin cfg0.N) (r : Fin 512) (l : Fin 1024) (R : Fin 16384) (hR : R.val = t.val * 512 + r.val) :
    k0_pay1 (F := Ideal) (k0_pay2 (iblk m c 5 t)) (k0_pay3 (iblk m c 6 t))
      (k0_pay4 (iblk m c 0 t) (iblk m c 1 t) (iblk m c 2 t) (iblk m c 3 t) (iblk m c 4 t))
      (k0_pay5 (iblk m c 0 t) (iblk m c 1 t) (iblk m c 2 t) (iblk m c 3 t) (iblk m c 4 t)) k0_pay6 (ix2 r l)
      = G m c (ix2 R l) := by
  refine (pay1_at _ _ _ _ _ _ _ r l).trans ((lnRef_at _ _ _ R l).trans ?_).symm
  congr 1
  · funext l'
    refine (pre_at _ _ _ _ _ R l').trans ?_
    congr 1
    · funext j; exact (blk0 m c t r j R hR).symm
    · funext j k; exact (blk1 m c t j k).symm
    · funext k; exact (blk2 m c t k).symm
    · funext j k; exact (blk3 m c t j k).symm
    · funext k; exact (blk4 m c t k).symm
  · funext k; exact (blk5 m c t k).symm
  · funext k; exact (blk6 m c t k).symm

/-- The result array after the run. -/
theorem final (c : Dev nD) : (dats m 0 c).arrAt 7 cfg0.N = G m c := by
  refine (dats m 0 c).arrAt_eq_of_covers 7 _ (by decide +kernel) fun t _ y => ?_
  blk_simp
  rw [after0_7]; frame_out
  idx_vars y
  have ht : t.val < 32 := t.isLt
  refine (point m c t y0 y1 ⟨t.val * 512 + y0.val, by omega⟩ rfl).trans ?_
  blk_ext [idx t]

end Cert.Ffn

end
-- ==== Proof.MergePure.lean ====
/- The merge call: what its body stores and what the reference computes, read at an entry, are the same row function. -/
module

public import proofs.«01_k».proof.Proof.FfnPure
public import proofs.«01_k».proof.Proof.Gen.Kernel2Ideal.Skeleton
public import proofs.«01_k».proof.Proof.Gen.Reference2Ideal.Run

@[expose] public section

set_option maxRecDepth 16384

noncomputable section

namespace Cert.Merge

open Idealize.ShloMosaic Idealize.ShloMosaic.TcCoe Idealize.SL.Sem

section Ref
open Cert.Reference2Ideal Cert.Reference2Ideal.Gen

/-- The reference's gates: the logistic of the last 2048 columns of the in-projection. -/
def gates (a0 : FVec Ideal S8x2048x1024 .f32) (a3 : FVec Ideal S1x1024x9728 .f32) (a4 : FVec Ideal S1x9728 .f32) :
    FVec Ideal S16384x2048 .f32 :=
  Host.divf (broadcastInDim S16384x2048 ![] bcast_S_S16384x2048 (constant S_ .f32 0x3F800000#32))
    (addf (broadcastInDim S16384x2048 ![] bcast_S_S16384x2048 (constant S_ .f32 0x3F800000#32))
      (Host.exp (Host.negf (extractStridedSlice S16384x2048 ![0, 7680]
        (addf (Host.dotGeneral dot_S16384x1024_S1024x9728_S16384x9728_1_0_0_1_n_n none (shapeCast S16384x1024 a0 shapeCasts_S8x2048x1024_S16384x1024) (shapeCast S1024x9728 a3 shapeCasts_S1x1024x9728_S1024x9728))
          (broadcastInDim S16384x9728 ![0, 1] bcast_S1x9728_S16384x9728_0_1 (broadcastInDim S1x9728 ![1] bcast_S9728_S1x9728_1 (shapeCast S9728 a4 shapeCasts_S1x9728_S9728))))
        slices_S16384x9728_S16384x2048_0_7680))))

/-- The reference before its layer norm, over the argument arrays. -/
def pre (a0 : FVec Ideal S8x2048x1024 .f32) (a1 : FVec Ideal S8x2048x512 .bf16) (a2 : FVec Ideal S8x2048x1024 .bf16)
    (a3 : FVec Ideal S1x1024x9728 .f32) (a4 : FVec Ideal S1x9728 .f32) (a5 : FVec Ideal S1x512x1024 .f32)
    (a6 : FVec Ideal S1x1024x1024 .f32) (a7 : FVec Ideal S1x1024x1024 .f32) : FVec Ideal S16384x1024 .f32 :=
  addf (mulf (broadcastInDim S16384x1024 ![] bcast_S_S16384x1024 (constant S_ .f32 0x3F9837F0#32)) (shapeCast S16384x1024 a0 shapeCasts_S8x2048x1024_S16384x1024))
    (Host.dotGeneral dot_S16384x1024_S1024x1024_S16384x1024_1_0_0_1_n_n none
      (addf
        (mulf (extractStridedSlice S16384x1024 ![0, 0] (gates a0 a3 a4) slices_S16384x2048_S16384x1024_0_0)
          (Host.dotGeneral dot_S16384x512_S512x1024_S16384x1024_1_0_0_1_n_n none (shapeCast S16384x512 (extf .f32 a1 bitsLt_bf16_f32) shapeCasts_S8x2048x512_S16384x512) (shapeCast S512x1024 a5 shapeCasts_S1x512x1024_S512x1024)))
        (mulf (extractStridedSlice S16384x1024 ![0, 1024] (gates a0 a3 a4) slices_S16384x2048_S16384x1024_0_1024)
          (Host.dotGeneral dot_S16384x1024_S1024x1024_S16384x1024_1_0_0_1_n_n none (shapeCast S16384x1024 (extf .f32 a2 bitsLt_bf16_f32) shapeCasts_S8x2048x1024_S16384x1024) (shapeCast S1024x1024 a6 shapeCasts_S1x1024x1024_S1024x1024))))
      (shapeCast S1024x1024 a7 shapeCasts_S1x1024x1024_S1024x1024))

/-- What the reference's run leaves is the layer norm of `pre`. -/
theorem res_eq (m : (ℓ : Loc nD τ sig) → Buf (Elt Ideal) ℓ) (c : Dev nD) :
    Cert.Reference2Ideal.Value.res_out0 m c
      = Ffn.lnRef (pre (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)))
        (m ((c.tc : Thread nD τ).loc main_arg8)) (m ((c.tc : Thread nD τ).loc main_arg9)) := rfl

/-- The gates at an entry: row `R` of the flattened input is row `R % 2048` of batch `R / 2048`. -/
theorem gates_at (a0 : FVec Ideal S8x2048x1024 .f32) (a3 : FVec Ideal S1x1024x9728 .f32) (a4 : FVec Ideal S1x9728 .f32)
    (R : Fin 16384) (q : Fin 2048) :
    gates a0 a3 a4 (ix2 R q) = Rows.gate (fun j => a0 (ix3 ⟨R.val / 2048, by omega⟩ ⟨R.val % 2048, by omega⟩ j))
      (fun j q => a3 (ix3 0 j ⟨7680 + q.val, by omega⟩)) (fun q => a4 (ix2 0 ⟨7680 + q.val, by omega⟩)) q := by
  pointwise [gates, Rows.gate]

/-- The reference before its layer norm, at an entry. -/
theorem pre_at (a0 : FVec Ideal S8x2048x1024 .f32) (a1 : FVec Ideal S8x2048x512 .bf16) (a2 : FVec Ideal S8x2048x1024 .bf16)
    (a3 : FVec Ideal S1x1024x9728 .f32) (a4 : FVec Ideal S1x9728 .f32) (a5 : FVec Ideal S1x512x1024 .f32)
    (a6 : FVec Ideal S1x1024x1024 .f32) (a7 : FVec Ideal S1x1024x1024 .f32) (R : Fin 16384) (l : Fin 1024) :
    pre a0 a1 a2 a3 a4 a5 a6 a7 (ix2 R l)
      = Rows.mg (fun j => a0 (ix3 ⟨R.val / 2048, by omega⟩ ⟨R.val % 2048, by omega⟩ j))
          (fun j => a1 (ix3 ⟨R.val / 2048, by omega⟩ ⟨R.val % 2048, by omega⟩ j))
          (fun j => a2 (ix3 ⟨R.val / 2048, by omega⟩ ⟨R.val % 2048, by omega⟩ j))
          (fun j q => a3 (ix3 0 j ⟨7680 + q.val, by omega⟩)) (fun q => a4 (ix2 0 ⟨7680 + q.val, by omega⟩))
          (fun j k => a5 (ix3 0 j k)) (fun j k => a6 (ix3 0 j k)) (fun j k => a7 (ix3 0 j k)) l := by
  pointwise [pre, Rows.mg, gates_at]

end Ref

section Ker
open Cert.Kernel2Ideal Cert.Kernel2Ideal.Gen

/-- The row before the layer norm. -/
theorem pay2_at (u : FVec Ideal S512x1024 .f32) (wg : FVec Ideal S1024x2048 .bf16) (bg : FVec Ideal S1x2048 .f32)
    (ya : FVec Ideal S512x512 .bf16) (wa : FVec Ideal S512x1024 .bf16) (yh : FVec Ideal S512x1024 .bf16)
    (wh wo : FVec Ideal S1024x1024 .bf16) (r : Fin 512) (l : Fin 1024) :
    k0_pay2 (F := Ideal) u wg bg ya wa yh wh wo (ix2 r l)
      = Rows.mg (fun j => u (ix2 r j)) (fun j => ya (ix2 r j)) (fun j => yh (ix2 r j)) (fun j q => wg (ix2 j q)) (fun q => bg (ix2 0 q))
          (fun j k => wa (ix2 j k)) (fun j k => wh (ix2 j k)) (fun j k => wo (ix2 j k)) l := by
  pointwise [k0_pay2, Rows.mg, Rows.gate]
  rfl

/-- The body's tail is the row's layer norm. -/
theorem pay1_at (z : FVec Ideal S512x1024 .f32) (g b : FVec Ideal S1x1024 .f32) (r : Fin 512) (l : Fin 1024) :
    k0_pay1 (F := Ideal) z (k0_pay3 g) b (ix2 r l)
      = Rows.ln (fun k => z (ix2 r k)) (fun k => g (ix2 0 k)) (fun k => b (ix2 0 k)) l := by
  pointwise [k0_pay1, k0_pay3, Rows.ln, Rows.mean]

end Ker

end Cert.Merge

end
-- ==== Proof.Merge.lean ====
/- The merge call: the array its run leaves is the reference's result. -/
module

public import proofs.«01_k».proof.Proof.MergePure
public import proofs.«01_k».proof.Proof.Gen.Kernel2Ideal.Value
public import Idealize.ShloMosaic.Lib.Pipeline.ValueKit

@[expose] public section

set_option maxRecDepth 16384

noncomputable section

namespace Cert.Merge

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The windows' block indices: the three windows of rows and the result move with the point, the others stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

/-- The reference's term over the call's own argument arrays. -/
abbrev G (c : Dev nD) : FVec Ideal S16384x1024 .f32 :=
  Ffn.lnRef (pre (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)))
        (m ((c.tc : Thread nD τ).loc main_arg8)) (m ((c.tc : Thread nD τ).loc main_arg9))

/-- The rows, flattened, where the call reads them: an entry of the argument. -/
theorem v4_at (c : Dev nD) (R : Fin 16384) (j : Fin 1024) :
    V m c main_v4 (ix2 R j) = m ((c.tc : Thread nD τ).loc main_arg0) (ix3 ⟨R.val / 2048, by omega⟩ ⟨R.val % 2048, by omega⟩ j) := by
  entry_read; pointwise

/-- The first branch, flattened, where the call reads them: an entry of the argument. -/
theorem v5_at (c : Dev nD) (R : Fin 16384) (j : Fin 512) :
    V m c main_v5 (ix2 R j) = m ((c.tc : Thread nD τ).loc main_arg1) (ix3 ⟨R.val / 2048, by omega⟩ ⟨R.val % 2048, by omega⟩ j) := by
  entry_read; pointwise

/-- The second branch, flattened, where the call reads them: an entry of the argument. -/
theorem v6_at (c : Dev nD) (R : Fin 16384) (j : Fin 1024) :
    V m c main_v6 (ix2 R j) = m ((c.tc : Thread nD τ).loc main_arg2) (ix3 ⟨R.val / 2048, by omega⟩ ⟨R.val % 2048, by omega⟩ j) := by
  entry_read; pointwise

/-- The gate columns of the in-projection, where the call reads them: an entry of the argument. -/
theorem v7_at (c : Dev nD) (j : Fin 1024) (q : Fin 2048) :
    V m c main_v7 (ix2 j q) = m ((c.tc : Thread nD τ).loc main_arg3) (ix3 0 j ⟨7680 + q.val, by omega⟩) := by
  entry_read; pointwise

/-- Their offsets, where the call reads them: an entry of the argument. -/
theorem v8_at (c : Dev nD) (q : Fin 2048) :
    V m c main_v8 (ix2 0 q) = m ((c.tc : Thread nD τ).loc main_arg4) (ix2 0 ⟨7680 + q.val, by omega⟩) := by
  entry_read; pointwise

/-- The first branch's weights, where the call reads them: an entry of the argument. -/
theorem v10_at (c : Dev nD) (j : Fin 512) (k : Fin 1024) :
    V m c main_v10 (ix2 j k) = m ((c.tc : Thread nD τ).loc main_arg5) (ix3 0 j k) := by
  entry_read; pointwise

/-- The second branch's weights, where the call reads them: an entry of the argument. -/
theorem v12_at (c : Dev nD) (j : Fin 1024) (k : Fin 1024) :
    V m c main_v12 (ix2 j k) = m ((c.tc : Thread nD τ).loc main_arg6) (ix3 0 j k) := by
  entry_read; pointwise

/-- The out-projection, where the call reads them: an entry of the argument. -/
theorem v14_at (c : Dev nD) (j : Fin 1024) (k : Fin 1024) :
    V m c main_v14 (ix2 j k) = m ((c.tc : Thread nD τ).loc main_arg7) (ix3 0 j k) := by
  entry_read; pointwise

/-- The gain, where the call reads them: an entry of the argument. -/
theorem v16_at (c : Dev nD) (k : Fin 1024) :
    V m c main_v16 (ix2 0 k) = m ((c.tc : Thread nD τ).loc main_arg8) (ix2 0 k) := by
  entry_read; pointwise

/-- The offset, where the call reads them: an entry of the argument. -/
theorem v18_at (c : Dev nD) (k : Fin 1024) :
    V m c main_v18 (ix2 0 k) = m ((c.tc : Thread nD τ).loc main_arg9) (ix2 0 k) := by
  entry_read; pointwise

/-- The rows, flattened: the block at point `t` holds rows `512 t` on. -/
theorem blk0 (c : Dev nD) (t : Fin cfg0.N) (r : Fin 512) (j : Fin 1024) (R : Fin 16384) (hR : R.val = t.val * 512 + r.val) :
    iblk m c 0 t (ix2 r j) = m ((c.tc : Thread nD τ).loc main_arg0) (ix3 ⟨R.val / 2048, by omega⟩ ⟨R.val % 2048, by omega⟩ j) :=
  Eq.trans (b := V m c main_v4 (ix2 R j)) (by blk_ext [iblk, idx t]) (v4_at m c R j)

/-- The first branch, flattened: the block at point `t` holds rows `512 t` on. -/
theorem blk1 (c : Dev nD) (t : Fin cfg0.N) (r : Fin 512) (j : Fin 512) (R : Fin 16384) (hR : R.val = t.val * 512 + r.val) :
    iblk m c 1 t (ix2 r j) = m ((c.tc : Thread nD τ).loc main_arg1) (ix3 ⟨R.val / 2048, by omega⟩ ⟨R.val % 2048, by omega⟩ j) :=
  Eq.trans (b := V m c main_v5 (ix2 R j)) (by blk_ext [iblk, idx t]) (v5_at m c R j)

/-- The second branch, flattened: the block at point `t` holds rows `512 t` on. -/
theorem blk2 (c : Dev nD) (t : Fin cfg0.N) (r : Fin 512) (j : Fin 1024) (R : Fin 16384) (hR : R.val = t.val * 512 + r.val) :
    iblk m c 2 t (ix2 r j) = m ((c.tc : Thread nD τ).loc main_arg2) (ix3 ⟨R.val / 2048, by omega⟩ ⟨R.val % 2048, by omega⟩ j) :=
  Eq.trans (b := V m c main_v6 (ix2 R j)) (by blk_ext [iblk, idx t]) (v6_at m c R j)

/-- The gate columns of the in-projection: the block is the whole array. -/
theorem blk3 (c : Dev nD) (t : Fin cfg0.N) (j : Fin 1024) (q : Fin 2048) :
    iblk m c 3 t (ix2 j q) = m ((c.tc : Thread nD τ).loc main_arg3) (ix3 0 j ⟨7680 + q.val, by omega⟩) :=
  Eq.trans (by blk_ext [iblk, idx t]) (v7_at m c j q)

/-- Their offsets: the block is the whole array. -/
theorem blk4 (c : Dev nD) (t : Fin cfg0.N) (q : Fin 2048) :
    iblk m c 4 t (ix2 0 q) = m ((c.tc : Thread nD τ).loc main_arg4) (ix2 0 ⟨7680 + q.val, by omega⟩) :=
  Eq.trans (by blk_ext [iblk, idx t]) (v8_at m c q)

/-- The first branch's weights: the block is the whole array. -/
theorem blk5 (c : Dev nD) (t : Fin cfg0.N) (j : Fin 512) (k : Fin 1024) :
    iblk m c 5 t (ix2 j k) = m ((c.tc : Thread nD τ).loc main_arg5) (ix3 0 j k) :=
  Eq.trans (by blk_ext [iblk, idx t]) (v10_at m c j k)

/-- The second branch's weights: the block is the whole array. -/
theorem blk6 (c : Dev nD) (t : Fin cfg0.N) (j : Fin 1024) (k : Fin 1024) :
    iblk m c 6 t (ix2 j k) = m ((c.tc : Thread nD τ).loc main_arg6) (ix3 0 j k) :=
  Eq.trans (by blk_ext [iblk, idx t]) (v12_at m c j k)

/-- The out-projection: the block is the whole array. -/
theorem blk7 (c : Dev nD) (t : Fin cfg0.N) (j : Fin 1024) (k : Fin 1024) :
    iblk m c 7 t (ix2 j k) = m ((c.tc : Thread nD τ).loc main_arg7) (ix3 0 j k) :=
  Eq.trans (by blk_ext [iblk, idx t]) (v14_at m c j k)

/-- The gain: the block is the whole array. -/
theorem blk8 (c : Dev nD) (t : Fin cfg0.N) (k : Fin 1024) :
    iblk m c 8 t (ix2 0 k) = m ((c.tc : Thread nD τ).loc main_arg8) (ix2 0 k) :=
  Eq.trans (by blk_ext [iblk, idx t]) (v16_at m c k)

/-- The offset: the block is the whole array. -/
theorem blk9 (c : Dev nD) (t : Fin cfg0.N) (k : Fin 1024) :
    iblk m c 9 t (ix2 0 k) = m ((c.tc : Thread nD τ).loc main_arg9) (ix2 0 k) :=
  Eq.trans (by blk_ext [iblk, idx t]) (v18_at m c k)

/-- Block `t` of the result: what point `t` stores at an entry is the reference's term at the entry's place. -/
theorem point (c : Dev nD) (t : Fin cfg0.N) (r : Fin 512) (l : Fin 1024) (R : Fin 16384) (hR : R.val = t.val * 512 + r.val) :
    k0_pay1 (F := Ideal) (k0_pay2 (iblk m c 0 t) (iblk m c 3 t) (iblk m c 4 t) (iblk m c 1 t) (iblk m c 5 t) (iblk m c 2 t) (iblk m c 6 t) (iblk m c 7 t))
      (k0_pay3 (iblk m c 8 t)) (iblk m c 9 t) (ix2 r l)
      = G m c (ix2 R l) := by
  refine (pay1_at (k0_pay2 (F := Ideal) (iblk m c 0 t) (iblk m c 3 t) (iblk m c 4 t) (iblk m c 1 t) (iblk m c 5 t) (iblk m c 2 t) (iblk m c 6 t) (iblk m c 7 t))
    (iblk m c 8 t) (iblk m c 9 t) r l).trans (Eq.trans ?_ (Ffn.lnRef_at (pre (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)))
        (m ((c.tc : Thread nD τ).loc main_arg8)) (m ((c.tc : Thread nD τ).loc main_arg9)) R l).symm)
  refine congr (congr (congr (congrArg Rows.ln ?_) ?_) ?_) rfl
  · funext l'
    refine (pay2_at (iblk m c 0 t) (iblk m c 3 t) (iblk m c 4 t) (iblk m c 1 t) (iblk m c 5 t) (iblk m c 2 t) (iblk m c 6 t) (iblk m c 7 t) r l').trans
      (Eq.trans ?_ (pre_at (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) R l').symm)
    refine congr (congr (congr (congr (congr (congr (congr (congr (congrArg Rows.mg ?_) ?_) ?_) ?_) ?_) ?_) ?_) ?_) rfl
    · funext j; exact blk0 m c t r j R hR
    · funext j; exact blk1 m c t r j R hR
    · funext j; exact blk2 m c t r j R hR
    · funext j k; exact blk3 m c t j k
    · funext k; exact blk4 m c t k
    · funext j k; exact blk5 m c t j k
    · funext j k; exact blk6 m c t j k
    · funext j k; exact blk7 m c t j k
  · funext k; exact blk8 m c t k
  · funext k; exact blk9 m c t k

/-- The result array after the run. -/
theorem final (c : Dev nD) : (dats m 0 c).arrAt 10 cfg0.N = G m c := by
  refine (dats m 0 c).arrAt_eq_of_covers 10 _ (by decide +kernel) fun t _ y => ?_
  blk_simp
  rw [after0_10]; frame_out
  idx_vars y
  have ht : t.val < 32 := t.isLt
  refine (point m c t y0 y1 ⟨t.val * 512 + y0.val, by omega⟩ rfl).trans ?_
  blk_ext [idx t]

end Cert.Merge

end
-- ==== Proof.Attn.LoopsIdeal.lean ====
/-
  THE COUNTED LOOPS of the attention call that store through strided rectangles (dilations 16 and 4): one trip of
  each, run once at a symbolic trip number, the pieces the trips before `k` leave in the running weighted sum, the
  running maximum and the running denominator, and the invariant by which the run of the body goes through each loop.
-/
module

public import proofs.«01_k».proof.Proof.Gen.KernelIdeal.Frame
public import proofs.«01_k».proof.Proof.Gen.KernelIdeal.Loops

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The resources a trip works on: the distance tiles, the projections, the weighted sum, the maximum, the denominator. -/
abbrev Res (c : Dev nD) (arg4 : Memref sig .tc .vmem S4x128x256 .f32) (arg6 : Memref sig .tc .vmem S3x4x2048x128 .f32) (arg7 : Memref sig .tc .vmem S4x2048x128 .f32) (arg8 : Memref sig .tc .vmem S4x2048x128 .f32) (arg9 : Memref sig .tc .vmem S4x2048x128 .f32) (X4 : BufTy.Contents (Elt F) arg4.view.ty) (X6 : BufTy.Contents (Elt F) arg6.view.ty) (f7 : BufTy.Contents (Elt F) arg7.view.ty) (f8 : BufTy.Contents (Elt F) arg8.view.ty) (f9 : BufTy.Contents (Elt F) arg9.view.ty) : sProp 𝕄 :=
  iprop((arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9))

/-- One trip of the loop of dilation 16: its resources are the distance tiles and the projections, read, and the weighted sum,
    the maximum and the denominator, each handed back behind the pieces the run itself finds. -/
@[irreducible] def trip1 (𝒱 : Variants) (c : Dev nD) (bd : Option 𝒱.V) (i : grid0.Coords) (arg1 : Memref sig .tc .vmem S1x2048x1024 .bf16) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S4x128x256 .f32) (harg4 : arg4.IsWhole) (arg5 : Memref sig .tc .vmem S1x2048x512 .bf16) (harg5 : arg5.IsWhole) (arg6 : Memref sig .tc .vmem S3x4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S4x2048x128 .f32) (harg9 : arg9.IsWhole) (v1 : FVec F S2048x1024 .bf16) (v56 : FVec F S2048x512 .f32) (v57 : FVec F S2048x128 .f32) (X4 : BufTy.Contents (Elt F) arg4.view.ty) (X6 : BufTy.Contents (Elt F) arg6.view.ty) (k : Fin k0_t1_loop.trips) :
    Σ' (L7 : List (View.Piece (Elt F) S4x2048x128 .f32)) (L8 : List (View.Piece (Elt F) S4x2048x128 .f32)), { L9 : List (View.Piece (Elt F) S4x2048x128 .f32) // ∀ (E : Set ℕ) (f7 : BufTy.Contents (Elt F) arg7.view.ty) (f8 : BufTy.Contents (Elt F) arg8.view.ty) (f9 : BufTy.Contents (Elt F) arg9.view.ty),
      (Res (F := F) c arg4 arg6 arg7 arg8 arg9 X4 X6 f7 f8 f9)
      ⊢ wp frame (wpE (defs₀ (F := F)) 𝒱 (c : Thread nD τ) bd) E ((k0_t1_body (F := F) i arg1 harg1 arg2 harg2 arg3 harg3 arg4 harg4 arg5 harg5 arg6 harg6 arg7 harg7 arg8 harg8 arg9 harg9 v1 v56 v57) k PUnit.unit)
          (fun _ => (Res (F := F) c arg4 arg6 arg7 arg8 arg9 X4 X6 (arg7.view.writes (Elt F) f7 L7) (arg8.view.writes (Elt F) f8 L8) (arg9.view.writes (Elt F) f9 L9))) } := by
  have hk : k.val < 16 := Nat.lt_of_lt_of_le k.isLt k0_t1_abs.2.1
  refine ⟨?_, ?_, ?_, fun E f7 f8 f9 => ?run⟩
  case run =>
    unfold k0_t1_body
    iintro ⟨HR_arg4, HR_arg6, HW_arg7, HW_arg8, HW_arg9⟩
    sl_exec
    sl_step
    sl_close

/-- What the trips before `k` leave: the weighted sum, the maximum and the denominator, from what the loop was entered with. -/
def stI1 (𝒱 : Variants) (c : Dev nD) (bd : Option 𝒱.V) (i : grid0.Coords) (arg1 : Memref sig .tc .vmem S1x2048x1024 .bf16) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S4x128x256 .f32) (harg4 : arg4.IsWhole) (arg5 : Memref sig .tc .vmem S1x2048x512 .bf16) (harg5 : arg5.IsWhole) (arg6 : Memref sig .tc .vmem S3x4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S4x2048x128 .f32) (harg9 : arg9.IsWhole) (v1 : FVec F S2048x1024 .bf16) (v56 : FVec F S2048x512 .f32) (v57 : FVec F S2048x128 .f32) (X4 : BufTy.Contents (Elt F) arg4.view.ty) (X6 : BufTy.Contents (Elt F) arg6.view.ty) (G7 : BufTy.Contents (Elt F) arg7.view.ty) (G8 : BufTy.Contents (Elt F) arg8.view.ty) (G9 : BufTy.Contents (Elt F) arg9.view.ty) : ℕ → (BufTy.Contents (Elt F) arg7.view.ty) × (BufTy.Contents (Elt F) arg8.view.ty) × (BufTy.Contents (Elt F) arg9.view.ty)
  | 0 => (G7, G8, G9)
  | k + 1 =>
    if h : k < k0_t1_loop.trips then
      ((arg7.view.writes (Elt F) (stI1 𝒱 c bd i arg1 harg1 arg2 harg2 arg3 harg3 arg4 harg4 arg5 harg5 arg6 harg6 arg7 harg7 arg8 harg8 arg9 harg9 v1 v56 v57 X4 X6 G7 G8 G9 k).1 ((trip1 (F := F) 𝒱 c bd i arg1 harg1 arg2 harg2 arg3 harg3 arg4 harg4 arg5 harg5 arg6 harg6 arg7 harg7 arg8 harg8 arg9 harg9 v1 v56 v57 X4 X6 ⟨k, h⟩).1)),
       (arg8.view.writes (Elt F) (stI1 𝒱 c bd i arg1 harg1 arg2 harg2 arg3 harg3 arg4 harg4 arg5 harg5 arg6 harg6 arg7 harg7 arg8 harg8 arg9 harg9 v1 v56 v57 X4 X6 G7 G8 G9 k).2.1 ((trip1 (F := F) 𝒱 c bd i arg1 harg1 arg2 harg2 arg3 harg3 arg4 harg4 arg5 harg5 arg6 harg6 arg7 harg7 arg8 harg8 arg9 harg9 v1 v56 v57 X4 X6 ⟨k, h⟩).2.1)),
       (arg9.view.writes (Elt F) (stI1 𝒱 c bd i arg1 harg1 arg2 harg2 arg3 harg3 arg4 harg4 arg5 harg5 arg6 harg6 arg7 harg7 arg8 harg8 arg9 harg9 v1 v56 v57 X4 X6 G7 G8 G9 k).2.2 ((trip1 (F := F) 𝒱 c bd i arg1 harg1 arg2 harg2 arg3 harg3 arg4 harg4 arg5 harg5 arg6 harg6 arg7 harg7 arg8 harg8 arg9 harg9 v1 v56 v57 X4 X6 ⟨k, h⟩).2.2.1)))
    else stI1 𝒱 c bd i arg1 harg1 arg2 harg2 arg3 harg3 arg4 harg4 arg5 harg5 arg6 harg6 arg7 harg7 arg8 harg8 arg9 harg9 v1 v56 v57 X4 X6 G7 G8 G9 k

theorem stI1_zero (𝒱 : Variants) (c : Dev nD) (bd : Option 𝒱.V) (i : grid0.Coords) (arg1 : Memref sig .tc .vmem S1x2048x1024 .bf16) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S4x128x256 .f32) (harg4 : arg4.IsWhole) (arg5 : Memref sig .tc .vmem S1x2048x512 .bf16) (harg5 : arg5.IsWhole) (arg6 : Memref sig .tc .vmem S3x4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S4x2048x128 .f32) (harg9 : arg9.IsWhole) (v1 : FVec F S2048x1024 .bf16) (v56 : FVec F S2048x512 .f32) (v57 : FVec F S2048x128 .f32) (X4 : BufTy.Contents (Elt F) arg4.view.ty) (X6 : BufTy.Contents (Elt F) arg6.view.ty) (G7 : BufTy.Contents (Elt F) arg7.view.ty) (G8 : BufTy.Contents (Elt F) arg8.view.ty) (G9 : BufTy.Contents (Elt F) arg9.view.ty) : stI1 𝒱 c bd i arg1 harg1 arg2 harg2 arg3 harg3 arg4 harg4 arg5 harg5 arg6 harg6 arg7 harg7 arg8 harg8 arg9 harg9 v1 v56 v57 X4 X6 G7 G8 G9 0 = (G7, G8, G9) := by rw [stI1.eq_1]

theorem stI1_succ (𝒱 : Variants) (c : Dev nD) (bd : Option 𝒱.V) (i : grid0.Coords) (arg1 : Memref sig .tc .vmem S1x2048x1024 .bf16) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S4x128x256 .f32) (harg4 : arg4.IsWhole) (arg5 : Memref sig .tc .vmem S1x2048x512 .bf16) (harg5 : arg5.IsWhole) (arg6 : Memref sig .tc .vmem S3x4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S4x2048x128 .f32) (harg9 : arg9.IsWhole) (v1 : FVec F S2048x1024 .bf16) (v56 : FVec F S2048x512 .f32) (v57 : FVec F S2048x128 .f32) (X4 : BufTy.Contents (Elt F) arg4.view.ty) (X6 : BufTy.Contents (Elt F) arg6.view.ty) (G7 : BufTy.Contents (Elt F) arg7.view.ty) (G8 : BufTy.Contents (Elt F) arg8.view.ty) (G9 : BufTy.Contents (Elt F) arg9.view.ty) (k : Fin k0_t1_loop.trips) :
    stI1 𝒱 c bd i arg1 harg1 arg2 harg2 arg3 harg3 arg4 harg4 arg5 harg5 arg6 harg6 arg7 harg7 arg8 harg8 arg9 harg9 v1 v56 v57 X4 X6 G7 G8 G9 (k.val + 1) =
      ((arg7.view.writes (Elt F) (stI1 𝒱 c bd i arg1 harg1 arg2 harg2 arg3 harg3 arg4 harg4 arg5 harg5 arg6 harg6 arg7 harg7 arg8 harg8 arg9 harg9 v1 v56 v57 X4 X6 G7 G8 G9 k.val).1 ((trip1 (F := F) 𝒱 c bd i arg1 harg1 arg2 harg2 arg3 harg3 arg4 harg4 arg5 harg5 arg6 harg6 arg7 harg7 arg8 harg8 arg9 harg9 v1 v56 v57 X4 X6 k).1)),
       (arg8.view.writes (Elt F) (stI1 𝒱 c bd i arg1 harg1 arg2 harg2 arg3 harg3 arg4 harg4 arg5 harg5 arg6 harg6 arg7 harg7 arg8 harg8 arg9 harg9 v1 v56 v57 X4 X6 G7 G8 G9 k.val).2.1 ((trip1 (F := F) 𝒱 c bd i arg1 harg1 arg2 harg2 arg3 harg3 arg4 harg4 arg5 harg5 arg6 harg6 arg7 harg7 arg8 harg8 arg9 harg9 v1 v56 v57 X4 X6 k).2.1)),
       (arg9.view.writes (Elt F) (stI1 𝒱 c bd i arg1 harg1 arg2 harg2 arg3 harg3 arg4 harg4 arg5 harg5 arg6 harg6 arg7 harg7 arg8 harg8 arg9 harg9 v1 v56 v57 X4 X6 G7 G8 G9 k.val).2.2 ((trip1 (F := F) 𝒱 c bd i arg1 harg1 arg2 harg2 arg3 harg3 arg4 harg4 arg5 harg5 arg6 harg6 arg7 harg7 arg8 harg8 arg9 harg9 v1 v56 v57 X4 X6 k).2.2.1))) := by
  rw [stI1.eq_2]; exact dif_pos k.isLt

attribute [irreducible] stI1

/-- The same state, its entry in sight. -/
def st1 (𝒱 : Variants) (c : Dev nD) (bd : Option 𝒱.V) (i : grid0.Coords) (arg1 : Memref sig .tc .vmem S1x2048x1024 .bf16) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S4x128x256 .f32) (harg4 : arg4.IsWhole) (arg5 : Memref sig .tc .vmem S1x2048x512 .bf16) (harg5 : arg5.IsWhole) (arg6 : Memref sig .tc .vmem S3x4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S4x2048x128 .f32) (harg9 : arg9.IsWhole) (v1 : FVec F S2048x1024 .bf16) (v56 : FVec F S2048x512 .f32) (v57 : FVec F S2048x128 .f32) (X4 : BufTy.Contents (Elt F) arg4.view.ty) (X6 : BufTy.Contents (Elt F) arg6.view.ty) (G7 : BufTy.Contents (Elt F) arg7.view.ty) (G8 : BufTy.Contents (Elt F) arg8.view.ty) (G9 : BufTy.Contents (Elt F) arg9.view.ty) : ℕ → (BufTy.Contents (Elt F) arg7.view.ty) × (BufTy.Contents (Elt F) arg8.view.ty) × (BufTy.Contents (Elt F) arg9.view.ty)
  | 0 => (G7, G8, G9)
  | k + 1 => stI1 𝒱 c bd i arg1 harg1 arg2 harg2 arg3 harg3 arg4 harg4 arg5 harg5 arg6 harg6 arg7 harg7 arg8 harg8 arg9 harg9 v1 v56 v57 X4 X6 G7 G8 G9 (k + 1)

theorem st1_eq (𝒱 : Variants) (c : Dev nD) (bd : Option 𝒱.V) (i : grid0.Coords) (arg1 : Memref sig .tc .vmem S1x2048x1024 .bf16) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S4x128x256 .f32) (harg4 : arg4.IsWhole) (arg5 : Memref sig .tc .vmem S1x2048x512 .bf16) (harg5 : arg5.IsWhole) (arg6 : Memref sig .tc .vmem S3x4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S4x2048x128 .f32) (harg9 : arg9.IsWhole) (v1 : FVec F S2048x1024 .bf16) (v56 : FVec F S2048x512 .f32) (v57 : FVec F S2048x128 .f32) (X4 : BufTy.Contents (Elt F) arg4.view.ty) (X6 : BufTy.Contents (Elt F) arg6.view.ty) (G7 : BufTy.Contents (Elt F) arg7.view.ty) (G8 : BufTy.Contents (Elt F) arg8.view.ty) (G9 : BufTy.Contents (Elt F) arg9.view.ty) (k : ℕ) : st1 𝒱 c bd i arg1 harg1 arg2 harg2 arg3 harg3 arg4 harg4 arg5 harg5 arg6 harg6 arg7 harg7 arg8 harg8 arg9 harg9 v1 v56 v57 X4 X6 G7 G8 G9 k = stI1 𝒱 c bd i arg1 harg1 arg2 harg2 arg3 harg3 arg4 harg4 arg5 harg5 arg6 harg6 arg7 harg7 arg8 harg8 arg9 harg9 v1 v56 v57 X4 X6 G7 G8 G9 k := by
  cases k with
  | zero => exact (stI1_zero ..).symm
  | succ k => rfl

theorem st1_succ (𝒱 : Variants) (c : Dev nD) (bd : Option 𝒱.V) (i : grid0.Coords) (arg1 : Memref sig .tc .vmem S1x2048x1024 .bf16) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S4x128x256 .f32) (harg4 : arg4.IsWhole) (arg5 : Memref sig .tc .vmem S1x2048x512 .bf16) (harg5 : arg5.IsWhole) (arg6 : Memref sig .tc .vmem S3x4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S4x2048x128 .f32) (harg9 : arg9.IsWhole) (v1 : FVec F S2048x1024 .bf16) (v56 : FVec F S2048x512 .f32) (v57 : FVec F S2048x128 .f32) (X4 : BufTy.Contents (Elt F) arg4.view.ty) (X6 : BufTy.Contents (Elt F) arg6.view.ty) (G7 : BufTy.Contents (Elt F) arg7.view.ty) (G8 : BufTy.Contents (Elt F) arg8.view.ty) (G9 : BufTy.Contents (Elt F) arg9.view.ty) (k : Fin k0_t1_loop.trips) :
    st1 𝒱 c bd i arg1 harg1 arg2 harg2 arg3 harg3 arg4 harg4 arg5 harg5 arg6 harg6 arg7 harg7 arg8 harg8 arg9 harg9 v1 v56 v57 X4 X6 G7 G8 G9 (k.val + 1) =
      ((arg7.view.writes (Elt F) (st1 𝒱 c bd i arg1 harg1 arg2 harg2 arg3 harg3 arg4 harg4 arg5 harg5 arg6 harg6 arg7 harg7 arg8 harg8 arg9 harg9 v1 v56 v57 X4 X6 G7 G8 G9 k.val).1 ((trip1 (F := F) 𝒱 c bd i arg1 harg1 arg2 harg2 arg3 harg3 arg4 harg4 arg5 harg5 arg6 harg6 arg7 harg7 arg8 harg8 arg9 harg9 v1 v56 v57 X4 X6 k).1)),
       (arg8.view.writes (Elt F) (st1 𝒱 c bd i arg1 harg1 arg2 harg2 arg3 harg3 arg4 harg4 arg5 harg5 arg6 harg6 arg7 harg7 arg8 harg8 arg9 harg9 v1 v56 v57 X4 X6 G7 G8 G9 k.val).2.1 ((trip1 (F := F) 𝒱 c bd i arg1 harg1 arg2 harg2 arg3 harg3 arg4 harg4 arg5 harg5 arg6 harg6 arg7 harg7 arg8 harg8 arg9 harg9 v1 v56 v57 X4 X6 k).2.1)),
       (arg9.view.writes (Elt F) (st1 𝒱 c bd i arg1 harg1 arg2 harg2 arg3 harg3 arg4 harg4 arg5 harg5 arg6 harg6 arg7 harg7 arg8 harg8 arg9 harg9 v1 v56 v57 X4 X6 G7 G8 G9 k.val).2.2 ((trip1 (F := F) 𝒱 c bd i arg1 harg1 arg2 harg2 arg3 harg3 arg4 harg4 arg5 harg5 arg6 harg6 arg7 harg7 arg8 harg8 arg9 harg9 v1 v56 v57 X4 X6 k).2.2.1))) := by
  rw [st1_eq, st1_eq, stI1_succ]

/-- The loop's invariant before trip `k`. -/
abbrev inv1 (𝒱 : Variants) (c : Dev nD) (bd : Option 𝒱.V) (i : grid0.Coords) (arg1 : Memref sig .tc .vmem S1x2048x1024 .bf16) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S4x128x256 .f32) (harg4 : arg4.IsWhole) (arg5 : Memref sig .tc .vmem S1x2048x512 .bf16) (harg5 : arg5.IsWhole) (arg6 : Memref sig .tc .vmem S3x4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S4x2048x128 .f32) (harg9 : arg9.IsWhole) (v1 : FVec F S2048x1024 .bf16) (v56 : FVec F S2048x512 .f32) (v57 : FVec F S2048x128 .f32) (X4 : BufTy.Contents (Elt F) arg4.view.ty) (X6 : BufTy.Contents (Elt F) arg6.view.ty) (G7 : BufTy.Contents (Elt F) arg7.view.ty) (G8 : BufTy.Contents (Elt F) arg8.view.ty) (G9 : BufTy.Contents (Elt F) arg9.view.ty) (k : ℕ) (_u : PUnit) : sProp 𝕄 :=
  iprop((arg4.view.loc (c : Thread nD τ) ↦[arg4.view.set]{fullShare} X4) ∗ (arg6.view.loc (c : Thread nD τ) ↦[arg6.view.set]{fullShare} X6) ∗ (∃ f, (arg7.view.loc (c : Thread nD τ) ↦[arg7.view.set]{fullShare} f) ∗ ⌜f = (st1 𝒱 c bd i arg1 harg1 arg2 harg2 arg3 harg3 arg4 harg4 arg5 harg5 arg6 harg6 arg7 harg7 arg8 harg8 arg9 harg9 v1 v56 v57 X4 X6 G7 G8 G9 k).1⌝)
    ∗ (∃ f, (arg8.view.loc (c : Thread nD τ) ↦[arg8.view.set]{fullShare} f) ∗ ⌜f = (st1 𝒱 c bd i arg1 harg1 arg2 harg2 arg3 harg3 arg4 harg4 arg5 harg5 arg6 harg6 arg7 harg7 arg8 harg8 arg9 harg9 v1 v56 v57 X4 X6 G7 G8 G9 k).2.1⌝) ∗ (∃ f, (arg9.view.loc (c : Thread nD τ) ↦[arg9.view.set]{fullShare} f) ∗ ⌜f = (st1 𝒱 c bd i arg1 harg1 arg2 harg2 arg3 harg3 arg4 harg4 arg5 harg5 arg6 harg6 arg7 harg7 arg8 harg8 arg9 harg9 v1 v56 v57 X4 X6 G7 G8 G9 k).2.2⌝))

set_option warn.classDefReducibility false in
/-- The loop by its invariant. -/
@[sl_loop] def loopInv1 (𝒱 : Variants) (c : Dev nD) (bd : Option 𝒱.V) (E : Set ℕ) (i : grid0.Coords) (arg1 : Memref sig .tc .vmem S1x2048x1024 .bf16) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S4x128x256 .f32) (harg4 : arg4.IsWhole) (arg5 : Memref sig .tc .vmem S1x2048x512 .bf16) (harg5 : arg5.IsWhole) (arg6 : Memref sig .tc .vmem S3x4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S4x2048x128 .f32) (harg9 : arg9.IsWhole) (v1 : FVec F S2048x1024 .bf16) (v56 : FVec F S2048x512 .f32) (v57 : FVec F S2048x128 .f32) (X4 : BufTy.Contents (Elt F) arg4.view.ty) (X6 : BufTy.Contents (Elt F) arg6.view.ty) (G7 : BufTy.Contents (Elt F) arg7.view.ty) (G8 : BufTy.Contents (Elt F) arg8.view.ty) (G9 : BufTy.Contents (Elt F) arg9.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 v1 v56 v57 where
  inv := inv1 (F := F) 𝒱 c bd i arg1 harg1 arg2 harg2 arg3 harg3 arg4 harg4 arg5 harg5 arg6 harg6 arg7 harg7 arg8 harg8 arg9 harg9 v1 v56 v57 X4 X6 G7 G8 G9
  step k acc := by
    iintro ⟨HR4, HR6, ⟨%f7, HW7, %h7⟩, ⟨%f8, HW8, %h8⟩, ⟨%f9, HW9, %h9⟩⟩
    iapply (wp_wand_r Idealize.ShloMosaic.frame (wpE (defs₀ (F := F)) 𝒱 (c : Thread nD τ) bd) E)
    isplitl [HR4 HR6 HW7 HW8 HW9]
    · iapply ((trip1 (F := F) 𝒱 c bd i arg1 harg1 arg2 harg2 arg3 harg3 arg4 harg4 arg5 harg5 arg6 harg6 arg7 harg7 arg8 harg8 arg9 harg9 v1 v56 v57 X4 X6 k).2.2.2 E f7 f8 f9)
      isplitl [HR4]; · iexact HR4
      isplitl [HR6]; · iexact HR6
      isplitl [HW7]; · iexact HW7
      isplitl [HW8]; · iexact HW8
      iexact HW9
    · iintro %_ ⟨HR4, HR6, HW7, HW8, HW9⟩
      isplitl [HR4]; · iexact HR4
      isplitl [HR6]; · iexact HR6
      rw [st1_succ]
      isplitl [HW7]
      · iexists _; isplitl [HW7]; · iexact HW7
        ipureintro; rw [h7]
      isplitl [HW8]
      · iexists _; isplitl [HW8]; · iexact HW8
        ipureintro; rw [h8]
      iexists _; isplitl [HW9]; · iexact HW9
      ipureintro; rw [h9]

/-- One trip of the loop of dilation 4: its resources are the distance tiles and the projections, read, and the weighted sum,
    the maximum and the denominator, each handed back behind the pieces the run itself finds. -/
@[irreducible] def trip2 (𝒱 : Variants) (c : Dev nD) (bd : Option 𝒱.V) (i : grid0.Coords) (arg1 : Memref sig .tc .vmem S1x2048x1024 .bf16) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S4x128x256 .f32) (harg4 : arg4.IsWhole) (arg5 : Memref sig .tc .vmem S1x2048x512 .bf16) (harg5 : arg5.IsWhole) (arg6 : Memref sig .tc .vmem S3x4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S4x2048x128 .f32) (harg9 : arg9.IsWhole) (v1 : FVec F S2048x1024 .bf16) (v141 : FVec F S2048x128 .f32) (X4 : BufTy.Contents (Elt F) arg4.view.ty) (X6 : BufTy.Contents (Elt F) arg6.view.ty) (k : Fin k0_t2_loop.trips) :
    Σ' (L7 : (BufTy.Contents (Elt F) arg7.view.ty) → (BufTy.Contents (Elt F) arg8.view.ty) → (BufTy.Contents (Elt F) arg9.view.ty) → List (View.Piece (Elt F) S4x2048x128 .f32)) (L8 : (BufTy.Contents (Elt F) arg7.view.ty) → (BufTy.Contents (Elt F) arg8.view.ty) → (BufTy.Contents (Elt F) arg9.view.ty) → List (View.Piece (Elt F) S4x2048x128 .f32)), { L9 : (BufTy.Contents (Elt F) arg7.view.ty) → (BufTy.Contents (Elt F) arg8.view.ty) → (BufTy.Contents (Elt F) arg9.view.ty) → List (View.Piece (Elt F) S4x2048x128 .f32) // ∀ (E : Set ℕ) (f7 : BufTy.Contents (Elt F) arg7.view.ty) (f8 : BufTy.Contents (Elt F) arg8.view.ty) (f9 : BufTy.Contents (Elt F) arg9.view.ty),
      (Res (F := F) c arg4 arg6 arg7 arg8 arg9 X4 X6 f7 f8 f9)
      ⊢ wp frame (wpE (defs₀ (F := F)) 𝒱 (c : Thread nD τ) bd) E ((k0_t2_body (F := F) i arg1 harg1 arg2 harg2 arg3 harg3 arg4 harg4 arg5 harg5 arg6 harg6 arg7 harg7 arg8 harg8 arg9 harg9 v1 v141) k PUnit.unit)
          (fun _ => (Res (F := F) c arg4 arg6 arg7 arg8 arg9 X4 X6 (arg7.view.writes (Elt F) f7 (L7 f7 f8 f9)) (arg8.view.writes (Elt F) f8 (L8 f7 f8 f9)) (arg9.view.writes (Elt F) f9 (L9 f7 f8 f9)))) } := by
  have hk : k.val < 16 := Nat.lt_of_lt_of_le k.isLt k0_t2_abs.2.1
  refine ⟨?_, ?_, ?_, fun E f7 f8 f9 => ?run⟩
  case run =>
    unfold k0_t2_body
    iintro ⟨HR_arg4, HR_arg6, HW_arg7, HW_arg8, HW_arg9⟩
    sl_exec
    sl_step
    sl_close

/-- What the trips before `k` leave: the weighted sum, the maximum and the denominator, from what the loop was entered with. -/
def stI2 (𝒱 : Variants) (c : Dev nD) (bd : Option 𝒱.V) (i : grid0.Coords) (arg1 : Memref sig .tc .vmem S1x2048x1024 .bf16) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S4x128x256 .f32) (harg4 : arg4.IsWhole) (arg5 : Memref sig .tc .vmem S1x2048x512 .bf16) (harg5 : arg5.IsWhole) (arg6 : Memref sig .tc .vmem S3x4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S4x2048x128 .f32) (harg9 : arg9.IsWhole) (v1 : FVec F S2048x1024 .bf16) (v141 : FVec F S2048x128 .f32) (X4 : BufTy.Contents (Elt F) arg4.view.ty) (X6 : BufTy.Contents (Elt F) arg6.view.ty) (G7 : BufTy.Contents (Elt F) arg7.view.ty) (G8 : BufTy.Contents (Elt F) arg8.view.ty) (G9 : BufTy.Contents (Elt F) arg9.view.ty) : ℕ → (BufTy.Contents (Elt F) arg7.view.ty) × (BufTy.Contents (Elt F) arg8.view.ty) × (BufTy.Contents (Elt F) arg9.view.ty)
  | 0 => (G7, G8, G9)
  | k + 1 =>
    if h : k < k0_t2_loop.trips then
      ((arg7.view.writes (Elt F) (stI2 𝒱 c bd i arg1 harg1 arg2 harg2 arg3 harg3 arg4 harg4 arg5 harg5 arg6 harg6 arg7 harg7 arg8 harg8 arg9 harg9 v1 v141 X4 X6 G7 G8 G9 k).1 ((trip2 (F := F) 𝒱 c bd i arg1 harg1 arg2 harg2 arg3 harg3 arg4 harg4 arg5 harg5 arg6 harg6 arg7 harg7 arg8 harg8 arg9 harg9 v1 v141 X4 X6 ⟨k, h⟩).1 (stI2 𝒱 c bd i arg1 harg1 arg2 harg2 arg3 harg3 arg4 harg4 arg5 harg5 arg6 harg6 arg7 harg7 arg8 harg8 arg9 harg9 v1 v141 X4 X6 G7 G8 G9 k).1 (stI2 𝒱 c bd i arg1 harg1 arg2 harg2 arg3 harg3 arg4 harg4 arg5 harg5 arg6 harg6 arg7 harg7 arg8 harg8 arg9 harg9 v1 v141 X4 X6 G7 G8 G9 k).2.1 (stI2 𝒱 c bd i arg1 harg1 arg2 harg2 arg3 harg3 arg4 harg4 arg5 harg5 arg6 harg6 arg7 harg7 arg8 harg8 arg9 harg9 v1 v141 X4 X6 G7 G8 G9 k).2.2)),
       (arg8.view.writes (Elt F) (stI2 𝒱 c bd i arg1 harg1 arg2 harg2 arg3 harg3 arg4 harg4 arg5 harg5 arg6 harg6 arg7 harg7 arg8 harg8 arg9 harg9 v1 v141 X4 X6 G7 G8 G9 k).2.1 ((trip2 (F := F) 𝒱 c bd i arg1 harg1 arg2 harg2 arg3 harg3 arg4 harg4 arg5 harg5 arg6 harg6 arg7 harg7 arg8 harg8 arg9 harg9 v1 v141 X4 X6 ⟨k, h⟩).2.1 (stI2 𝒱 c bd i arg1 harg1 arg2 harg2 arg3 harg3 arg4 harg4 arg5 harg5 arg6 harg6 arg7 harg7 arg8 harg8 arg9 harg9 v1 v141 X4 X6 G7 G8 G9 k).1 (stI2 𝒱 c bd i arg1 harg1 arg2 harg2 arg3 harg3 arg4 harg4 arg5 harg5 arg6 harg6 arg7 harg7 arg8 harg8 arg9 harg9 v1 v141 X4 X6 G7 G8 G9 k).2.1 (stI2 𝒱 c bd i arg1 harg1 arg2 harg2 arg3 harg3 arg4 harg4 arg5 harg5 arg6 harg6 arg7 harg7 arg8 harg8 arg9 harg9 v1 v141 X4 X6 G7 G8 G9 k).2.2)),
       (arg9.view.writes (Elt F) (stI2 𝒱 c bd i arg1 harg1 arg2 harg2 arg3 harg3 arg4 harg4 arg5 harg5 arg6 harg6 arg7 harg7 arg8 harg8 arg9 harg9 v1 v141 X4 X6 G7 G8 G9 k).2.2 ((trip2 (F := F) 𝒱 c bd i arg1 harg1 arg2 harg2 arg3 harg3 arg4 harg4 arg5 harg5 arg6 harg6 arg7 harg7 arg8 harg8 arg9 harg9 v1 v141 X4 X6 ⟨k, h⟩).2.2.1 (stI2 𝒱 c bd i arg1 harg1 arg2 harg2 arg3 harg3 arg4 harg4 arg5 harg5 arg6 harg6 arg7 harg7 arg8 harg8 arg9 harg9 v1 v141 X4 X6 G7 G8 G9 k).1 (stI2 𝒱 c bd i arg1 harg1 arg2 harg2 arg3 harg3 arg4 harg4 arg5 harg5 arg6 harg6 arg7 harg7 arg8 harg8 arg9 harg9 v1 v141 X4 X6 G7 G8 G9 k).2.1 (stI2 𝒱 c bd i arg1 harg1 arg2 harg2 arg3 harg3 arg4 harg4 arg5 harg5 arg6 harg6 arg7 harg7 arg8 harg8 arg9 harg9 v1 v141 X4 X6 G7 G8 G9 k).2.2)))
    else stI2 𝒱 c bd i arg1 harg1 arg2 harg2 arg3 harg3 arg4 harg4 arg5 harg5 arg6 harg6 arg7 harg7 arg8 harg8 arg9 harg9 v1 v141 X4 X6 G7 G8 G9 k

theorem stI2_zero (𝒱 : Variants) (c : Dev nD) (bd : Option 𝒱.V) (i : grid0.Coords) (arg1 : Memref sig .tc .vmem S1x2048x1024 .bf16) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S4x128x256 .f32) (harg4 : arg4.IsWhole) (arg5 : Memref sig .tc .vmem S1x2048x512 .bf16) (harg5 : arg5.IsWhole) (arg6 : Memref sig .tc .vmem S3x4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S4x2048x128 .f32) (harg9 : arg9.IsWhole) (v1 : FVec F S2048x1024 .bf16) (v141 : FVec F S2048x128 .f32) (X4 : BufTy.Contents (Elt F) arg4.view.ty) (X6 : BufTy.Contents (Elt F) arg6.view.ty) (G7 : BufTy.Contents (Elt F) arg7.view.ty) (G8 : BufTy.Contents (Elt F) arg8.view.ty) (G9 : BufTy.Contents (Elt F) arg9.view.ty) : stI2 𝒱 c bd i arg1 harg1 arg2 harg2 arg3 harg3 arg4 harg4 arg5 harg5 arg6 harg6 arg7 harg7 arg8 harg8 arg9 harg9 v1 v141 X4 X6 G7 G8 G9 0 = (G7, G8, G9) := by rw [stI2.eq_1]

theorem stI2_succ (𝒱 : Variants) (c : Dev nD) (bd : Option 𝒱.V) (i : grid0.Coords) (arg1 : Memref sig .tc .vmem S1x2048x1024 .bf16) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S4x128x256 .f32) (harg4 : arg4.IsWhole) (arg5 : Memref sig .tc .vmem S1x2048x512 .bf16) (harg5 : arg5.IsWhole) (arg6 : Memref sig .tc .vmem S3x4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S4x2048x128 .f32) (harg9 : arg9.IsWhole) (v1 : FVec F S2048x1024 .bf16) (v141 : FVec F S2048x128 .f32) (X4 : BufTy.Contents (Elt F) arg4.view.ty) (X6 : BufTy.Contents (Elt F) arg6.view.ty) (G7 : BufTy.Contents (Elt F) arg7.view.ty) (G8 : BufTy.Contents (Elt F) arg8.view.ty) (G9 : BufTy.Contents (Elt F) arg9.view.ty) (k : Fin k0_t2_loop.trips) :
    stI2 𝒱 c bd i arg1 harg1 arg2 harg2 arg3 harg3 arg4 harg4 arg5 harg5 arg6 harg6 arg7 harg7 arg8 harg8 arg9 harg9 v1 v141 X4 X6 G7 G8 G9 (k.val + 1) =
      ((arg7.view.writes (Elt F) (stI2 𝒱 c bd i arg1 harg1 arg2 harg2 arg3 harg3 arg4 harg4 arg5 harg5 arg6 harg6 arg7 harg7 arg8 harg8 arg9 harg9 v1 v141 X4 X6 G7 G8 G9 k.val).1 ((trip2 (F := F) 𝒱 c bd i arg1 harg1 arg2 harg2 arg3 harg3 arg4 harg4 arg5 harg5 arg6 harg6 arg7 harg7 arg8 harg8 arg9 harg9 v1 v141 X4 X6 k).1 (stI2 𝒱 c bd i arg1 harg1 arg2 harg2 arg3 harg3 arg4 harg4 arg5 harg5 arg6 harg6 arg7 harg7 arg8 harg8 arg9 harg9 v1 v141 X4 X6 G7 G8 G9 k.val).1 (stI2 𝒱 c bd i arg1 harg1 arg2 harg2 arg3 harg3 arg4 harg4 arg5 harg5 arg6 harg6 arg7 harg7 arg8 harg8 arg9 harg9 v1 v141 X4 X6 G7 G8 G9 k.val).2.1 (stI2 𝒱 c bd i arg1 harg1 arg2 harg2 arg3 harg3 arg4 harg4 arg5 harg5 arg6 harg6 arg7 harg7 arg8 harg8 arg9 harg9 v1 v141 X4 X6 G7 G8 G9 k.val).2.2)),
       (arg8.view.writes (Elt F) (stI2 𝒱 c bd i arg1 harg1 arg2 harg2 arg3 harg3 arg4 harg4 arg5 harg5 arg6 harg6 arg7 harg7 arg8 harg8 arg9 harg9 v1 v141 X4 X6 G7 G8 G9 k.val).2.1 ((trip2 (F := F) 𝒱 c bd i arg1 harg1 arg2 harg2 arg3 harg3 arg4 harg4 arg5 harg5 arg6 harg6 arg7 harg7 arg8 harg8 arg9 harg9 v1 v141 X4 X6 k).2.1 (stI2 𝒱 c bd i arg1 harg1 arg2 harg2 arg3 harg3 arg4 harg4 arg5 harg5 arg6 harg6 arg7 harg7 arg8 harg8 arg9 harg9 v1 v141 X4 X6 G7 G8 G9 k.val).1 (stI2 𝒱 c bd i arg1 harg1 arg2 harg2 arg3 harg3 arg4 harg4 arg5 harg5 arg6 harg6 arg7 harg7 arg8 harg8 arg9 harg9 v1 v141 X4 X6 G7 G8 G9 k.val).2.1 (stI2 𝒱 c bd i arg1 harg1 arg2 harg2 arg3 harg3 arg4 harg4 arg5 harg5 arg6 harg6 arg7 harg7 arg8 harg8 arg9 harg9 v1 v141 X4 X6 G7 G8 G9 k.val).2.2)),
       (arg9.view.writes (Elt F) (stI2 𝒱 c bd i arg1 harg1 arg2 harg2 arg3 harg3 arg4 harg4 arg5 harg5 arg6 harg6 arg7 harg7 arg8 harg8 arg9 harg9 v1 v141 X4 X6 G7 G8 G9 k.val).2.2 ((trip2 (F := F) 𝒱 c bd i arg1 harg1 arg2 harg2 arg3 harg3 arg4 harg4 arg5 harg5 arg6 harg6 arg7 harg7 arg8 harg8 arg9 harg9 v1 v141 X4 X6 k).2.2.1 (stI2 𝒱 c bd i arg1 harg1 arg2 harg2 arg3 harg3 arg4 harg4 arg5 harg5 arg6 harg6 arg7 harg7 arg8 harg8 arg9 harg9 v1 v141 X4 X6 G7 G8 G9 k.val).1 (stI2 𝒱 c bd i arg1 harg1 arg2 harg2 arg3 harg3 arg4 harg4 arg5 harg5 arg6 harg6 arg7 harg7 arg8 harg8 arg9 harg9 v1 v141 X4 X6 G7 G8 G9 k.val).2.1 (stI2 𝒱 c bd i arg1 harg1 arg2 harg2 arg3 harg3 arg4 harg4 arg5 harg5 arg6 harg6 arg7 harg7 arg8 harg8 arg9 harg9 v1 v141 X4 X6 G7 G8 G9 k.val).2.2))) := by
  rw [stI2.eq_2]; exact dif_pos k.isLt

attribute [irreducible] stI2

/-- The same state, its entry in sight. -/
def st2 (𝒱 : Variants) (c : Dev nD) (bd : Option 𝒱.V) (i : grid0.Coords) (arg1 : Memref sig .tc .vmem S1x2048x1024 .bf16) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S4x128x256 .f32) (harg4 : arg4.IsWhole) (arg5 : Memref sig .tc .vmem S1x2048x512 .bf16) (harg5 : arg5.IsWhole) (arg6 : Memref sig .tc .vmem S3x4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S4x2048x128 .f32) (harg9 : arg9.IsWhole) (v1 : FVec F S2048x1024 .bf16) (v141 : FVec F S2048x128 .f32) (X4 : BufTy.Contents (Elt F) arg4.view.ty) (X6 : BufTy.Contents (Elt F) arg6.view.ty) (G7 : BufTy.Contents (Elt F) arg7.view.ty) (G8 : BufTy.Contents (Elt F) arg8.view.ty) (G9 : BufTy.Contents (Elt F) arg9.view.ty) : ℕ → (BufTy.Contents (Elt F) arg7.view.ty) × (BufTy.Contents (Elt F) arg8.view.ty) × (BufTy.Contents (Elt F) arg9.view.ty)
  | 0 => (G7, G8, G9)
  | k + 1 => stI2 𝒱 c bd i arg1 harg1 arg2 harg2 arg3 harg3 arg4 harg4 arg5 harg5 arg6 harg6 arg7 harg7 arg8 harg8 arg9 harg9 v1 v141 X4 X6 G7 G8 G9 (k + 1)

theorem st2_eq (𝒱 : Variants) (c : Dev nD) (bd : Option 𝒱.V) (i : grid0.Coords) (arg1 : Memref sig .tc .vmem S1x2048x1024 .bf16) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S4x128x256 .f32) (harg4 : arg4.IsWhole) (arg5 : Memref sig .tc .vmem S1x2048x512 .bf16) (harg5 : arg5.IsWhole) (arg6 : Memref sig .tc .vmem S3x4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S4x2048x128 .f32) (harg9 : arg9.IsWhole) (v1 : FVec F S2048x1024 .bf16) (v141 : FVec F S2048x128 .f32) (X4 : BufTy.Contents (Elt F) arg4.view.ty) (X6 : BufTy.Contents (Elt F) arg6.view.ty) (G7 : BufTy.Contents (Elt F) arg7.view.ty) (G8 : BufTy.Contents (Elt F) arg8.view.ty) (G9 : BufTy.Contents (Elt F) arg9.view.ty) (k : ℕ) : st2 𝒱 c bd i arg1 harg1 arg2 harg2 arg3 harg3 arg4 harg4 arg5 harg5 arg6 harg6 arg7 harg7 arg8 harg8 arg9 harg9 v1 v141 X4 X6 G7 G8 G9 k = stI2 𝒱 c bd i arg1 harg1 arg2 harg2 arg3 harg3 arg4 harg4 arg5 harg5 arg6 harg6 arg7 harg7 arg8 harg8 arg9 harg9 v1 v141 X4 X6 G7 G8 G9 k := by
  cases k with
  | zero => exact (stI2_zero ..).symm
  | succ k => rfl

theorem st2_succ (𝒱 : Variants) (c : Dev nD) (bd : Option 𝒱.V) (i : grid0.Coords) (arg1 : Memref sig .tc .vmem S1x2048x1024 .bf16) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S4x128x256 .f32) (harg4 : arg4.IsWhole) (arg5 : Memref sig .tc .vmem S1x2048x512 .bf16) (harg5 : arg5.IsWhole) (arg6 : Memref sig .tc .vmem S3x4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S4x2048x128 .f32) (harg9 : arg9.IsWhole) (v1 : FVec F S2048x1024 .bf16) (v141 : FVec F S2048x128 .f32) (X4 : BufTy.Contents (Elt F) arg4.view.ty) (X6 : BufTy.Contents (Elt F) arg6.view.ty) (G7 : BufTy.Contents (Elt F) arg7.view.ty) (G8 : BufTy.Contents (Elt F) arg8.view.ty) (G9 : BufTy.Contents (Elt F) arg9.view.ty) (k : Fin k0_t2_loop.trips) :
    st2 𝒱 c bd i arg1 harg1 arg2 harg2 arg3 harg3 arg4 harg4 arg5 harg5 arg6 harg6 arg7 harg7 arg8 harg8 arg9 harg9 v1 v141 X4 X6 G7 G8 G9 (k.val + 1) =
      ((arg7.view.writes (Elt F) (st2 𝒱 c bd i arg1 harg1 arg2 harg2 arg3 harg3 arg4 harg4 arg5 harg5 arg6 harg6 arg7 harg7 arg8 harg8 arg9 harg9 v1 v141 X4 X6 G7 G8 G9 k.val).1 ((trip2 (F := F) 𝒱 c bd i arg1 harg1 arg2 harg2 arg3 harg3 arg4 harg4 arg5 harg5 arg6 harg6 arg7 harg7 arg8 harg8 arg9 harg9 v1 v141 X4 X6 k).1 (st2 𝒱 c bd i arg1 harg1 arg2 harg2 arg3 harg3 arg4 harg4 arg5 harg5 arg6 harg6 arg7 harg7 arg8 harg8 arg9 harg9 v1 v141 X4 X6 G7 G8 G9 k.val).1 (st2 𝒱 c bd i arg1 harg1 arg2 harg2 arg3 harg3 arg4 harg4 arg5 harg5 arg6 harg6 arg7 harg7 arg8 harg8 arg9 harg9 v1 v141 X4 X6 G7 G8 G9 k.val).2.1 (st2 𝒱 c bd i arg1 harg1 arg2 harg2 arg3 harg3 arg4 harg4 arg5 harg5 arg6 harg6 arg7 harg7 arg8 harg8 arg9 harg9 v1 v141 X4 X6 G7 G8 G9 k.val).2.2)),
       (arg8.view.writes (Elt F) (st2 𝒱 c bd i arg1 harg1 arg2 harg2 arg3 harg3 arg4 harg4 arg5 harg5 arg6 harg6 arg7 harg7 arg8 harg8 arg9 harg9 v1 v141 X4 X6 G7 G8 G9 k.val).2.1 ((trip2 (F := F) 𝒱 c bd i arg1 harg1 arg2 harg2 arg3 harg3 arg4 harg4 arg5 harg5 arg6 harg6 arg7 harg7 arg8 harg8 arg9 harg9 v1 v141 X4 X6 k).2.1 (st2 𝒱 c bd i arg1 harg1 arg2 harg2 arg3 harg3 arg4 harg4 arg5 harg5 arg6 harg6 arg7 harg7 arg8 harg8 arg9 harg9 v1 v141 X4 X6 G7 G8 G9 k.val).1 (st2 𝒱 c bd i arg1 harg1 arg2 harg2 arg3 harg3 arg4 harg4 arg5 harg5 arg6 harg6 arg7 harg7 arg8 harg8 arg9 harg9 v1 v141 X4 X6 G7 G8 G9 k.val).2.1 (st2 𝒱 c bd i arg1 harg1 arg2 harg2 arg3 harg3 arg4 harg4 arg5 harg5 arg6 harg6 arg7 harg7 arg8 harg8 arg9 harg9 v1 v141 X4 X6 G7 G8 G9 k.val).2.2)),
       (arg9.view.writes (Elt F) (st2 𝒱 c bd i arg1 harg1 arg2 harg2 arg3 harg3 arg4 harg4 arg5 harg5 arg6 harg6 arg7 harg7 arg8 harg8 arg9 harg9 v1 v141 X4 X6 G7 G8 G9 k.val).2.2 ((trip2 (F := F) 𝒱 c bd i arg1 harg1 arg2 harg2 arg3 harg3 arg4 harg4 arg5 harg5 arg6 harg6 arg7 harg7 arg8 harg8 arg9 harg9 v1 v141 X4 X6 k).2.2.1 (st2 𝒱 c bd i arg1 harg1 arg2 harg2 arg3 harg3 arg4 harg4 arg5 harg5 arg6 harg6 arg7 harg7 arg8 harg8 arg9 harg9 v1 v141 X4 X6 G7 G8 G9 k.val).1 (st2 𝒱 c bd i arg1 harg1 arg2 harg2 arg3 harg3 arg4 harg4 arg5 harg5 arg6 harg6 arg7 harg7 arg8 harg8 arg9 harg9 v1 v141 X4 X6 G7 G8 G9 k.val).2.1 (st2 𝒱 c bd i arg1 harg1 arg2 harg2 arg3 harg3 arg4 harg4 arg5 harg5 arg6 harg6 arg7 harg7 arg8 harg8 arg9 harg9 v1 v141 X4 X6 G7 G8 G9 k.val).2.2))) := by
  rw [st2_eq, st2_eq, stI2_succ]

/-- The loop's invariant before trip `k`. -/
abbrev inv2 (𝒱 : Variants) (c : Dev nD) (bd : Option 𝒱.V) (i : grid0.Coords) (arg1 : Memref sig .tc .vmem S1x2048x1024 .bf16) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S4x128x256 .f32) (harg4 : arg4.IsWhole) (arg5 : Memref sig .tc .vmem S1x2048x512 .bf16) (harg5 : arg5.IsWhole) (arg6 : Memref sig .tc .vmem S3x4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S4x2048x128 .f32) (harg9 : arg9.IsWhole) (v1 : FVec F S2048x1024 .bf16) (v141 : FVec F S2048x128 .f32) (X4 : BufTy.Contents (Elt F) arg4.view.ty) (X6 : BufTy.Contents (Elt F) arg6.view.ty) (G7 : BufTy.Contents (Elt F) arg7.view.ty) (G8 : BufTy.Contents (Elt F) arg8.view.ty) (G9 : BufTy.Contents (Elt F) arg9.view.ty) (k : ℕ) (_u : PUnit) : sProp 𝕄 :=
  iprop((arg4.view.loc (c : Thread nD τ) ↦[arg4.view.set]{fullShare} X4) ∗ (arg6.view.loc (c : Thread nD τ) ↦[arg6.view.set]{fullShare} X6) ∗ (∃ f, (arg7.view.loc (c : Thread nD τ) ↦[arg7.view.set]{fullShare} f) ∗ ⌜f = (st2 𝒱 c bd i arg1 harg1 arg2 harg2 arg3 harg3 arg4 harg4 arg5 harg5 arg6 harg6 arg7 harg7 arg8 harg8 arg9 harg9 v1 v141 X4 X6 G7 G8 G9 k).1⌝)
    ∗ (∃ f, (arg8.view.loc (c : Thread nD τ) ↦[arg8.view.set]{fullShare} f) ∗ ⌜f = (st2 𝒱 c bd i arg1 harg1 arg2 harg2 arg3 harg3 arg4 harg4 arg5 harg5 arg6 harg6 arg7 harg7 arg8 harg8 arg9 harg9 v1 v141 X4 X6 G7 G8 G9 k).2.1⌝) ∗ (∃ f, (arg9.view.loc (c : Thread nD τ) ↦[arg9.view.set]{fullShare} f) ∗ ⌜f = (st2 𝒱 c bd i arg1 harg1 arg2 harg2 arg3 harg3 arg4 harg4 arg5 harg5 arg6 harg6 arg7 harg7 arg8 harg8 arg9 harg9 v1 v141 X4 X6 G7 G8 G9 k).2.2⌝))

set_option warn.classDefReducibility false in
/-- The loop by its invariant. -/
@[sl_loop] def loopInv2 (𝒱 : Variants) (c : Dev nD) (bd : Option 𝒱.V) (E : Set ℕ) (i : grid0.Coords) (arg1 : Memref sig .tc .vmem S1x2048x1024 .bf16) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S4x128x256 .f32) (harg4 : arg4.IsWhole) (arg5 : Memref sig .tc .vmem S1x2048x512 .bf16) (harg5 : arg5.IsWhole) (arg6 : Memref sig .tc .vmem S3x4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S4x2048x128 .f32) (harg9 : arg9.IsWhole) (v1 : FVec F S2048x1024 .bf16) (v141 : FVec F S2048x128 .f32) (X4 : BufTy.Contents (Elt F) arg4.view.ty) (X6 : BufTy.Contents (Elt F) arg6.view.ty) (G7 : BufTy.Contents (Elt F) arg7.view.ty) (G8 : BufTy.Contents (Elt F) arg8.view.ty) (G9 : BufTy.Contents (Elt F) arg9.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 v1 v141 where
  inv := inv2 (F := F) 𝒱 c bd i arg1 harg1 arg2 harg2 arg3 harg3 arg4 harg4 arg5 harg5 arg6 harg6 arg7 harg7 arg8 harg8 arg9 harg9 v1 v141 X4 X6 G7 G8 G9
  step k acc := by
    iintro ⟨HR4, HR6, ⟨%f7, HW7, %h7⟩, ⟨%f8, HW8, %h8⟩, ⟨%f9, HW9, %h9⟩⟩
    iapply (wp_wand_r Idealize.ShloMosaic.frame (wpE (defs₀ (F := F)) 𝒱 (c : Thread nD τ) bd) E)
    isplitl [HR4 HR6 HW7 HW8 HW9]
    · iapply ((trip2 (F := F) 𝒱 c bd i arg1 harg1 arg2 harg2 arg3 harg3 arg4 harg4 arg5 harg5 arg6 harg6 arg7 harg7 arg8 harg8 arg9 harg9 v1 v141 X4 X6 k).2.2.2 E f7 f8 f9)
      isplitl [HR4]; · iexact HR4
      isplitl [HR6]; · iexact HR6
      isplitl [HW7]; · iexact HW7
      isplitl [HW8]; · iexact HW8
      iexact HW9
    · iintro %_ ⟨HR4, HR6, HW7, HW8, HW9⟩
      isplitl [HR4]; · iexact HR4
      isplitl [HR6]; · iexact HR6
      rw [st2_succ]
      isplitl [HW7]
      · iexists _; isplitl [HW7]; · iexact HW7
        ipureintro; rw [h7, h8, h9]
      isplitl [HW8]
      · iexists _; isplitl [HW8]; · iexact HW8
        ipureintro; rw [h7, h8, h9]
      iexists _; isplitl [HW9]; · iexact HW9
      ipureintro; rw [h7, h8, h9]

end Cert.KernelIdeal.Attn
-- ==== Proof.Attn.BodyIdeal.lean ====
/-
  THE BODY of the attention call, run once at symbolic operands: from the staged blocks of `x`, `w`, `b` and the
  distance tiles, the output's buffer and the four scratch buffers at any contents, to the output's buffer behind the
  pieces the run finds.
-/
module

public import proofs.«01_k».proof.Defs
public import proofs.«01_k».proof.Proof.Attn.LoopsIdeal

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body leaves in the output's buffer: pieces found by the run, from the four input blocks `f1 … f4` and the
    scratch contents `f6 … f9` the body is entered with. -/
@[irreducible] def kernelRun (c : Dev nD) (i : grid0.Coords) (arg1 : Memref sig .tc .vmem S1x2048x1024 .bf16) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S4x128x256 .f32) (harg4 : arg4.IsWhole) (arg5 : Memref sig .tc .vmem S1x2048x512 .bf16) (harg5 : arg5.IsWhole) (arg6 : Memref sig .tc .vmem S3x4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S4x2048x128 .f32) (harg9 : arg9.IsWhole) (f1 : BufTy.Contents (Elt F) arg1.view.ty) (f2 : BufTy.Contents (Elt F) arg2.view.ty) (f3 : BufTy.Contents (Elt F) arg3.view.ty) (f4 : BufTy.Contents (Elt F) arg4.view.ty) (f6 : BufTy.Contents (Elt F) arg6.view.ty) (f7 : BufTy.Contents (Elt F) arg7.view.ty) (f8 : BufTy.Contents (Elt F) arg8.view.ty) (f9 : BufTy.Contents (Elt F) arg9.view.ty) :
    { L5 : List (View.Piece (Elt F) S1x2048x512 .bf16) // ∀ (E : Set ℕ) (f5 : BufTy.Contents (Elt F) arg5.view.ty) (K : PUnit → sProp 𝕄),
      iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
        ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} (arg5.view.writes (Elt F) f5 L5)) ∗ (∃ g, (arg6.view.loc (c : Thread nD τ) ↦[arg6.view.set]{fullShare} g)) ∗ (∃ g, (arg7.view.loc (c : Thread nD τ) ↦[arg7.view.set]{fullShare} g)) ∗ (∃ g, (arg8.view.loc (c : Thread nD τ) ↦[arg8.view.set]{fullShare} g)) ∗ (∃ g, (arg9.view.loc (c : Thread nD τ) ↦[arg9.view.set]{fullShare} g))) -∗ K ⟨⟩))
      ⊢ wp frame (wpE (defs₀ (F := F)) Variants.none (c : Thread nD τ) none) E (cc0_dilated_attention (F := F) i arg1 harg1 arg2 harg2 arg3 harg3 arg4 harg4 arg5 harg5 arg6 harg6 arg7 harg7 arg8 harg8 arg9 harg9) K } := by
  refine ⟨?_, fun E f5 K => ?run⟩
  case run =>
    simp only [cc0_dilated_attention_eq_skeleton]; unfold cc0_dilated_attention_skel
    simp only [k0_part17_eq_skeleton, k0_part18_eq_skeleton, k0_part19_eq_skeleton, k0_part20_eq_skeleton, k0_part21_eq_skeleton, k0_part22_eq_skeleton, k0_part23_eq_skeleton]
    iintro ⟨H1, H2, H3, H4, H5, H6, H7, H8, H9, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iexists _; iexact H9

end Cert.KernelIdeal.Attn
-- ==== Proof.Attn.FrameIdeal.lean ====
/-
  THE FRAME of the attention call: every weakly fair run of the program terminates with its arguments unchanged and no
  semaphore left raised.  The output's contents are forgotten, so nothing is said here of what the body computes.
-/
module

public import proofs.«01_k».proof.Defs
public import proofs.«01_k».proof.Proof.Attn.BodyIdeal

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.ShloMosaic.Pipeline
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data, the output window forgotten -/

/-- The proof data of the one pipeline on core `c`: the arrays as the region finds them; after the body at point `t`
    each input's buffer at its block; of the output's buffer nothing is read (the window is forgotten below). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ _ := Pipeline.ΦA spec0 c
  q _ := fullShare
  owed _ := 0

/-- The output window, of whose contents the frame reads nothing. -/
abbrev forgets : Fin cfg0.W → Bool := fun w => decide (w = 4)

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

/-- The body at any point: the scratch buffers are taken out of the scoped rest for the run and put back after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3]
  unfold Pipeline.ΦA
  rw [scopedRest0_eq]
  simp only [← owns_whole]
  unfold owns
  iintro ⟨⟨⟨⟨%g6, %f6, -, H6⟩, ⟨%g7, %f7, -, H7⟩, ⟨%g8, %f8, -, H8⟩, ⟨%g9, %f9, -, H9⟩⟩, Hr⟩, Ho, ⟨%d0, %f0, %h0, H0⟩, ⟨%d1, %f1, %h1, H1⟩, ⟨%d2, %f2, %h2, H2⟩, ⟨%d3, %f3, %h3, H3⟩, ⟨%d4, %f4, -, H4⟩⟩
  iapply ((kernelRun (F := F) c (grid0.coords t) _ _ _ _ _ _ _ _ _ _ _ _ _ _ _ _ _ _ f0 f1 f2 f3 f6 f7 f8 f9).2 Set.univ f4 _)
  isplitl [H0]; · iexact H0
  isplitl [H1]; · iexact H1
  isplitl [H2]; · iexact H2
  isplitl [H3]; · iexact H3
  isplitl [H4]; · iexact H4
  isplitl [H6]; · iexact H6
  isplitl [H7]; · iexact H7
  isplitl [H8]; · iexact H8
  isplitl [H9]; · iexact H9
  iintro ⟨H0, H1, H2, H3, H4, ⟨%e6, H6⟩, ⟨%e7, H7⟩, ⟨%e8, H8⟩, ⟨%e9, H9⟩⟩
  isplitl [H6 H7 H8 H9 Hr]
  · isplitl [H6 H7 H8 H9]
    · isplitl [H6]
      · iexists _; iexists e6; isplitr; · ipureintro; rfl
        iexact H6
      isplitl [H7]
      · iexists _; iexists e7; isplitr; · ipureintro; rfl
        iexact H7
      isplitl [H8]
      · iexists _; iexists e8; isplitr; · ipureintro; rfl
        iexact H8
      iexists _; iexists e9; isplitr; · ipureintro; rfl
      iexact H9
    iexact Hr
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  iexists _; iexists _; isplitr
  swap; · iexact H4
  ipureintro; rfl

theorem defs₀_row (t : Fin cfg0.N) :
    defs₀ (F := F) .tc cfg0.body (cfg0.bodyArgs t (cfg0.slots t)) = bodyAt0 t := by
  unfold defs₀; rw [Defs.onTc_tc]

/-- The library's body obligation, at every point, the output window forgotten. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every weakly fair run terminates, at the library's post of the frame run, every semaphore at zero. -/
theorem run_main : θ_run defs (onTc (τ := τ) (main (F := F))) (s₀ m ρ)
    (fun r => Pipeline.RDat.FramePost cfg0 (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: every weakly fair run terminates, the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.KernelIdeal.Attn
-- ==== Proof.Attn.Online.lean ====
/- The running softmax of one row, over the extended reals: a running maximum, a running denominator and a running
   weighted sum that are rescaled whenever the maximum moves represent the plain sums of exponentials, whatever the
   blocks in which the keys are met. -/
module

public import Idealize.ShloMosaic.Lib.Pointwise

@[expose] public section

noncomputable section

namespace Cert.Online

open Idealize.ShloMosaic

/-- A sum of reals read in the extended reals is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight of a score: its exponential, zero for a masked score (−∞). -/
def W (x : EReal) : ℝ := (Ideal.exp x).toReal

theorem W_bot : W ⊥ = 0 := rfl
theorem W_coe (r : ℝ) : W (r : EReal) = Real.exp r := rfl
theorem W_nonneg (x : EReal) : 0 ≤ W x := by
  induction x with
  | bot => exact le_of_eq W_bot.symm
  | top => exact le_of_eq rfl
  | coe r => exact (Real.exp_pos r).le

/-- The exponential of a score lowered by a real is its weight scaled. -/
theorem exp_sub (x : EReal) (hx : x ≠ ⊤) (μ : ℝ) : Ideal.exp (x - μ) = ((W x * Real.exp (-μ) : ℝ) : EReal) := by
  induction x with
  | bot => rw [EReal.bot_sub, W_bot, zero_mul]; rfl
  | top => exact absurd rfl hx
  | coe r =>
    rw [← EReal.coe_sub, Ideal.exp_coe, W_coe, ← Real.exp_add, sub_eq_add_neg]

/-- The largest of finitely many scores, none +∞ and not all −∞, is real. -/
theorem fold_real {n : ℕ} (σ : Fin n → EReal) (h : ∀ u, σ u ≠ ⊤) (h' : ∃ u, σ u ≠ ⊥) :
    ∃ μ : ℝ, Finset.univ.fold max ⊥ σ = (μ : EReal) := by
  have e : Finset.univ.fold max ⊥ σ = Finset.univ.sup σ := rfl
  rw [e]
  obtain ⟨u, hu⟩ := h'
  have hb : Finset.univ.sup σ ≠ ⊥ := fun hh => hu (le_bot_iff.mp (hh ▸ Finset.le_sup (f := σ) (Finset.mem_univ u)))
  have ht : Finset.univ.sup σ ≠ ⊤ := by
    obtain ⟨w, -, hw⟩ := Finset.exists_mem_eq_sup Finset.univ ⟨u, Finset.mem_univ u⟩ σ
    rw [hw]; exact h w
  exact ⟨(Finset.univ.sup σ).toReal, (EReal.coe_toReal ht hb).symm⟩

/-- A row's running maximum `m`, denominator `l` and weighted sum `a` (along the 128 lanes) represent the plain
    weighted sum `A` and the plain denominator `L`: both scaled by the exponential of minus the maximum. -/
def Rep (A : Fin 128 → ℝ) (L : ℝ) (m l a : Fin 128 → EReal) : Prop :=
  ∃ μ : ℝ, (∀ d, m d = μ) ∧ (∀ d, l d = ((L * Real.exp (-μ) : ℝ) : EReal)) ∧ ∀ d, a d = ((A d * Real.exp (-μ) : ℝ) : EReal)

variable {n : ℕ} (σ : Fin n → EReal) (v : Fin n → Fin 128 → EReal) (w : Fin n → Fin 128 → ℝ)

/-- The sum of the lowered exponentials. -/
theorem sum_exp (h : ∀ u, σ u ≠ ⊤) (μ : ℝ) :
    ∑ u, Ideal.exp (σ u - μ) = (((∑ u, W (σ u)) * Real.exp (-μ) : ℝ) : EReal) := by
  rw [Finset.sum_mul, coe_sum]
  exact Finset.sum_congr rfl fun u _ => exp_sub _ (h u) μ

/-- The sum of the lowered exponentials times the values. -/
theorem sum_exp_mul (h : ∀ u, σ u ≠ ⊤) (hv : ∀ u d, v u d = (w u d : EReal)) (μ : ℝ) (d : Fin 128) :
    ∑ u, Ideal.exp (σ u - μ) * v u d = (((∑ u, W (σ u) * w u d) * Real.exp (-μ) : ℝ) : EReal) := by
  rw [Finset.sum_mul, coe_sum]
  refine Finset.sum_congr rfl fun u _ => ?_
  rw [exp_sub _ (h u), hv, ← EReal.coe_mul]
  congr 1; ring

/-- The first block. -/
theorem rep_first (h : ∀ u, σ u ≠ ⊤) (h' : ∃ u, σ u ≠ ⊥) (hv : ∀ u d, v u d = (w u d : EReal)) :
    Rep (fun d => ∑ u, W (σ u) * w u d) (∑ u, W (σ u))
      (fun _ => Finset.univ.fold max ⊥ σ)
      (fun _ => ∑ u, Ideal.exp (σ u - Finset.univ.fold max ⊥ σ))
      (fun d => ∑ u, Ideal.exp (σ u - Finset.univ.fold max ⊥ σ) * v u d) := by
  obtain ⟨μ, hμ⟩ := fold_real σ h h'
  rw [hμ]
  exact ⟨μ, fun _ => rfl, fun _ => sum_exp σ h μ, fun d => sum_exp_mul σ v w h hv μ d⟩

/-- A later block: the maximum moves, what was there is rescaled, the block's own sums are added. -/
theorem rep_step {A : Fin 128 → ℝ} {L : ℝ} {m l a : Fin 128 → EReal} (hr : Rep A L m l a)
    (h : ∀ u, σ u ≠ ⊤) (h' : ∃ u, σ u ≠ ⊥) (hv : ∀ u d, v u d = (w u d : EReal)) :
    Rep (fun d => A d + ∑ u, W (σ u) * w u d) (L + ∑ u, W (σ u))
      (fun d => max (m d) (Finset.univ.fold max ⊥ σ))
      (fun d => Ideal.exp (m d - max (m d) (Finset.univ.fold max ⊥ σ)) * l d
        + ∑ u, Ideal.exp (σ u - max (m 0) (Finset.univ.fold max ⊥ σ)))
      (fun d => Ideal.exp (m d - max (m d) (Finset.univ.fold max ⊥ σ)) * a d
        + ∑ u, Ideal.exp (σ u - max (m 0) (Finset.univ.fold max ⊥ σ)) * v u d) := by
  obtain ⟨ν, hν⟩ := fold_real σ h h'
  obtain ⟨μ, hm, hl, ha⟩ := hr
  have key (x : ℝ) (y : ℝ) : Ideal.exp ((μ : EReal) - ((max μ ν : ℝ) : EReal)) * ((x * Real.exp (-μ) : ℝ) : EReal)
      + ((y * Real.exp (-(max μ ν)) : ℝ) : EReal) = (((x + y) * Real.exp (-(max μ ν)) : ℝ) : EReal) := by
    rw [exp_sub _ (EReal.coe_ne_top μ), W_coe, ← EReal.coe_mul, ← EReal.coe_add]
    congr 1
    have e : Real.exp μ * Real.exp (-μ) = 1 := by rw [← Real.exp_add, add_neg_cancel, Real.exp_zero]
    linear_combination x * Real.exp (-(max μ ν)) * e
  rw [hν]
  have hmax (d : Fin 128) : max (m d) (ν : EReal) = ((max μ ν : ℝ) : EReal) := by
    rw [hm d]; exact (EReal.coe_strictMono.monotone.map_max).symm
  refine ⟨max μ ν, hmax, fun d => ?_, fun d => ?_⟩
  · simp only [hmax]
    rw [hm d, hl d, sum_exp σ h]
    exact key _ _
  · simp only [hmax]
    rw [hm d, ha d, sum_exp_mul σ v w h hv]
    exact key _ _

/-- The quotient of a represented row is the quotient of the plain sums. -/
theorem rep_quot {A : Fin 128 → ℝ} {L : ℝ} {m l a : Fin 128 → EReal} (hr : Rep A L m l a) (hL : 0 < L) (d : Fin 128) :
    Ideal.div (a d) (l d) = ((A d / L : ℝ) : EReal) := by
  obtain ⟨μ, -, hl, ha⟩ := hr
  have he : Real.exp (-μ) ≠ 0 := (Real.exp_pos _).ne'
  have hne : L * Real.exp (-μ) ≠ 0 := mul_ne_zero hL.ne' he
  rw [ha d, hl d, Ideal.div_coe hne, ← EReal.coe_mul]
  congr 1
  field_simp

end Cert.Online

end
-- ==== Proof.Attn.Blocks.lean ====
/- The weights of one query row, and that a block of keys that holds every key the row attends to sums to the sums over
   all keys. -/
module

public import proofs.«01_k».proof.Proof.Attn.Online

@[expose] public section

noncomputable section

namespace Cert.Online

open Idealize.ShloMosaic

/-- The distance of two positions. -/
def ad (r t : ℕ) : ℕ := (r - t) + (t - r)

/-- The entry of a distance tile for an offset: the offset, +∞ beyond 64. -/
def dent (off : ℕ) : EReal := if off ≤ 64 then ((off : ℝ) : EReal) else ⊤

/-- The weight of key `t` for query `r` at a dilation: the exponential of the score `x` lowered in proportion to the
    distance, zero where the key is out of the window or off the dilation's grid. -/
def wgt (dil : ℕ) (cf : ℝ) (x : Fin 2048 → Fin 2048 → ℝ) (r t : Fin 2048) : ℝ :=
  if ad r t ≤ 64 * dil ∧ dil ∣ ad r t then Real.exp (x r t + ((ad r t / dil : ℕ) : ℝ) * cf) else 0

section
variable (x cf : ℝ) (off : ℕ) (hcf : cf < 0)
include hcf

theorem score_in (h : off ≤ 64) : (x : EReal) + dent off * (cf : EReal) = ((x + off * cf : ℝ) : EReal) := by
  rw [dent, if_pos h, ← EReal.coe_mul, ← EReal.coe_add]

theorem score_out (h : ¬ off ≤ 64) : (x : EReal) + dent off * (cf : EReal) = ⊥ := by
  rw [dent, if_neg h, EReal.top_mul_coe_of_neg hcf, EReal.add_bot]

theorem score_ne_top : (x : EReal) + dent off * (cf : EReal) ≠ ⊤ := by
  by_cases h : off ≤ 64
  · rw [score_in x cf off hcf h]; exact EReal.coe_ne_top _
  · rw [score_out x cf off hcf h]; exact bot_ne_top

theorem score_W : W ((x : EReal) + dent off * (cf : EReal)) = if off ≤ 64 then Real.exp (x + off * cf) else 0 := by
  by_cases h : off ≤ 64
  · rw [score_in x cf off hcf h, if_pos h, W_coe]
  · rw [score_out x cf off hcf h, if_neg h, W_bot]
end

/-- A block of keys for a query row: which keys, at which offsets, and that no key of the row is left out. -/
structure Blk (dil : ℕ) (r : Fin 2048) {n : ℕ} (τ : Fin n → Fin 2048) (off : Fin n → ℕ) : Prop where
  pos : 0 < dil
  inj : Function.Injective τ
  dist : ∀ u, ad r (τ u) = dil * off u
  all : ∀ t : Fin 2048, ad r t ≤ 64 * dil → dil ∣ ad r t → ∃ u, τ u = t

namespace Blk

variable {dil : ℕ} {r : Fin 2048} {n : ℕ} {τ : Fin n → Fin 2048} {off : Fin n → ℕ} (B : Blk dil r τ off)
  {cf : ℝ} (hcf : cf < 0) {x : Fin 2048 → Fin 2048 → ℝ} {σ : Fin n → EReal}
  (hσ : ∀ u, σ u = (x r (τ u) : EReal) + dent (off u) * (cf : EReal))
include B hcf hσ

theorem W_eq (u : Fin n) : W (σ u) = wgt dil cf x r (τ u) := by
  rw [hσ, score_W _ _ _ hcf, wgt, B.dist u, Nat.mul_div_cancel_left _ B.pos]
  have e : (dil * off u ≤ 64 * dil ∧ dil ∣ dil * off u) ↔ off u ≤ 64 := by
    rw [Nat.mul_comm 64 dil]
    exact ⟨fun h => Nat.le_of_mul_le_mul_left h.1 B.pos, fun h => ⟨Nat.mul_le_mul_left _ h, Nat.dvd_mul_right _ _⟩⟩
  simp only [e]

theorem ne_top (u : Fin n) : σ u ≠ ⊤ := by rw [hσ]; exact score_ne_top _ _ _ hcf

theorem ne_bot : ∃ u, σ u ≠ ⊥ := by
  obtain ⟨u, hu⟩ := B.all r (by simp [ad]) (by simp [ad])
  refine ⟨u, ?_⟩
  have h0 : off u = 0 := by
    have := B.dist u
    rw [hu] at this
    have h1 : dil * off u = 0 := by rw [← this]; simp [ad]
    exact (Nat.mul_eq_zero.mp h1).resolve_left B.pos.ne'
  rw [hσ, score_in _ _ _ hcf (by omega)]
  exact EReal.coe_ne_bot _

theorem sum_eq (f : Fin 2048 → ℝ) : ∑ u, W (σ u) * f (τ u) = ∑ t, wgt dil cf x r t * f t := by
  classical
  rw [Finset.sum_congr rfl fun u _ => by rw [B.W_eq hcf hσ u],
    ← Finset.sum_image (f := fun t => wgt dil cf x r t * f t) (g := τ) (fun a _ b _ e => B.inj e)]
  refine Finset.sum_subset (Finset.subset_univ _) fun t _ ht => ?_
  have : ¬ (ad r t ≤ 64 * dil ∧ dil ∣ ad r t) := fun hh => by
    obtain ⟨u, hu⟩ := B.all t hh.1 hh.2
    exact ht (Finset.mem_image.mpr ⟨u, Finset.mem_univ u, hu⟩)
  rw [wgt, if_neg this, zero_mul]

theorem sum_W : ∑ u, W (σ u) = ∑ t, wgt dil cf x r t := by
  simpa using B.sum_eq hcf hσ (fun _ => 1)

/-- The first block represents the sums over all keys. -/
theorem first {v : Fin n → Fin 128 → EReal} {y : Fin 2048 → Fin 128 → ℝ} (hv : ∀ u d, v u d = (y (τ u) d : EReal)) :
    Rep (fun d => ∑ t, wgt dil cf x r t * y t d) (∑ t, wgt dil cf x r t)
      (fun _ => Finset.univ.fold max ⊥ σ)
      (fun _ => ∑ u, Ideal.exp (σ u - Finset.univ.fold max ⊥ σ))
      (fun d => ∑ u, Ideal.exp (σ u - Finset.univ.fold max ⊥ σ) * v u d) := by
  have h := rep_first σ v (fun u d => y (τ u) d) (B.ne_top hcf hσ) (B.ne_bot hcf hσ) hv
  rw [B.sum_W hcf hσ] at h
  have e : (fun d => ∑ u, W (σ u) * y (τ u) d) = fun d => ∑ t, wgt dil cf x r t * y t d :=
    funext fun d => B.sum_eq hcf hσ (fun t => y t d)
  rw [e] at h
  exact h

/-- A later block adds its sums over all keys. -/
theorem step {A : Fin 128 → ℝ} {L : ℝ} {m l a : Fin 128 → EReal} (hr : Rep A L m l a)
    {v : Fin n → Fin 128 → EReal} {y : Fin 2048 → Fin 128 → ℝ} (hv : ∀ u d, v u d = (y (τ u) d : EReal)) :
    Rep (fun d => A d + ∑ t, wgt dil cf x r t * y t d) (L + ∑ t, wgt dil cf x r t)
      (fun d => max (m d) (Finset.univ.fold max ⊥ σ))
      (fun d => Ideal.exp (m d - max (m d) (Finset.univ.fold max ⊥ σ)) * l d
        + ∑ u, Ideal.exp (σ u - max (m 0) (Finset.univ.fold max ⊥ σ)))
      (fun d => Ideal.exp (m d - max (m d) (Finset.univ.fold max ⊥ σ)) * a d
        + ∑ u, Ideal.exp (σ u - max (m 0) (Finset.univ.fold max ⊥ σ)) * v u d) := by
  have h := rep_step σ v (fun u d => y (τ u) d) hr (B.ne_top hcf hσ) (B.ne_bot hcf hσ) hv
  rw [B.sum_W hcf hσ] at h
  have e : (fun d => A d + ∑ u, W (σ u) * y (τ u) d) = fun d => A d + ∑ t, wgt dil cf x r t * y t d :=
    funext fun d => congrArg (A d + ·) (B.sum_eq hcf hσ (fun t => y t d))
  rw [e] at h
  exact h

end Blk

end Cert.Online

end
-- ==== Proof.Attn.Tiles.lean ====
/- What one block of queries does to one head, as the body computes it, and the entries of the results at the exact
   instance: the block's scores, the running maximum, the denominator and the weighted sum. -/
module

public import proofs.«01_k».proof.Proof.Attn.BodyIdeal
public import proofs.«01_k».proof.Proof.Attn.Online

@[expose] public section

noncomputable section

namespace Cert.KernelIdeal.Attn

open Cert.KernelIdeal Cert.KernelIdeal.Gen
open Idealize.ShloMosaic Idealize.ShloMosaic.Tactic

section Def
variable {F : FTy → Type} [FloatOps F]

/-- The scores of 128 queries against 128 keys. -/
def sc1 (w : BitVec 32) (D : Vec F S1x128x128 .f32) (q k : Vec F S1x1x128x128 .f32) : FVec F S128x128 .f32 :=
  addf (matmul dot_S128x128_S128x128_S128x128_1_1_0_0_n_n none (truncf .bf16 (shapeCast S128x128 q shapeCasts_S1x1x128x128_S128x128) bitsLt_bf16_f32) (truncf .bf16 (shapeCast S128x128 k shapeCasts_S1x1x128x128_S128x128) bitsLt_bf16_f32) (constant S128x128 .f32 0x00000000#32))
    (mulf (shapeCast S128x128 D shapeCasts_S1x128x128_S128x128) (broadcast S128x128 (Scalar.ofBits .f32 w)))

/-- The largest score of each row, along the lanes. -/
def mx1 (s : FVec F S128x128 .f32) : FVec F S128x128 .f32 :=
  broadcastTo S128x128 (shapeCast S128x1 (shapeCast S128x1 (multiReduction .maximumf [1] S128 s 0xFF800000#32 reduces_S128x128_S128 (.inl rfl) rfl) shapeCasts_S128_S128x1) shapeCasts_S128x1_S128x1) broadcasts_S128x1_S128x128

/-- The exponentials of the scores lowered by the row's largest. -/
def pr1 (s : FVec F S128x128 .f32) : FVec F S128x128 .f32 :=
  exp (subf s (broadcastTo S128x128 (extractStridedSlice S128x1 ![0, 0] (mx1 s) slices_S128x128_o0_0_S128x1) broadcasts_S128x1_S128x128))

/-- Their sums, along the lanes. -/
def dn1 (s : FVec F S128x128 .f32) : FVec F S128x128 .f32 :=
  broadcastTo S128x128 (shapeCast S128x1 (shapeCast S128x1 (multiReduction .add [1] S128 (pr1 s) 0x00000000#32 reduces_S128x128_S128 (.inl rfl) rfl) shapeCasts_S128_S128x1) shapeCasts_S128x1_S128x1) broadcasts_S128x1_S128x128

/-- Their products with the values. -/
def ac1 (s : FVec F S128x128 .f32) (v : Vec F S1x1x128x128 .f32) : FVec F S128x128 .f32 :=
  matmul dot_S128x128_S128x128_S128x128_1_0_0_1_n_n none (truncf .bf16 (pr1 s) bitsLt_bf16_f32) (truncf .bf16 (shapeCast S128x128 v shapeCasts_S1x1x128x128_S128x128) bitsLt_bf16_f32) (constant S128x128 .f32 0x00000000#32)

/-- The scores of 128 queries against 256 keys. -/
def sc2 (w : BitVec 32) (D : Vec F S1x128x256 .f32) (q : Vec F S1x1x128x128 .f32) (k : Vec F S1x1x256x128 .f32) : FVec F S128x256 .f32 :=
  addf (matmul dot_S128x128_S256x128_S128x256_1_1_0_0_n_n none (truncf .bf16 (shapeCast S128x128 q shapeCasts_S1x1x128x128_S128x128) bitsLt_bf16_f32) (truncf .bf16 (shapeCast S256x128 k shapeCasts_S1x1x256x128_S256x128) bitsLt_bf16_f32) (constant S128x256 .f32 0x00000000#32))
    (mulf (shapeCast S128x256 D shapeCasts_S1x128x256_S128x256) (broadcast S128x256 (Scalar.ofBits .f32 w)))

/-- The maximum so far and of the block. -/
def mx2 (s : FVec F S128x256 .f32) (m : Vec F S1x128x128 .f32) : FVec F S128x128 .f32 :=
  maximumf (shapeCast S128x128 m shapeCasts_S1x128x128_S128x128) (broadcastTo S128x128 (shapeCast S128x1 (multiReduction .maximumf [1] S128 s 0xFF800000#32 reduces_S128x256_S128 (.inl rfl) rfl) shapeCasts_S128_S128x1) broadcasts_S128x1_S128x128)

/-- The exponentials of the scores lowered by that maximum. -/
def pr2 (s : FVec F S128x256 .f32) (m : Vec F S1x128x128 .f32) : FVec F S128x256 .f32 :=
  exp (subf s (broadcastTo S128x256 (extractStridedSlice S128x1 ![0, 0] (mx2 s m) slices_S128x128_o0_0_S128x1) broadcasts_S128x1_S128x256))

/-- The factor that rescales what was there. -/
def al2 (s : FVec F S128x256 .f32) (m : Vec F S1x128x128 .f32) : FVec F S128x128 .f32 :=
  exp (subf (shapeCast S128x128 m shapeCasts_S1x128x128_S128x128) (mx2 s m))

/-- The new denominator. -/
def dn2 (s : FVec F S128x256 .f32) (m l : Vec F S1x128x128 .f32) : FVec F S128x128 .f32 :=
  addf (mulf (al2 s m) (shapeCast S128x128 l shapeCasts_S1x128x128_S128x128))
    (broadcastTo S128x128 (shapeCast S128x1 (multiReduction .add [1] S128 (pr2 s m) 0x00000000#32 reduces_S128x256_S128 (.inl rfl) rfl) shapeCasts_S128_S128x1) broadcasts_S128x1_S128x128)

/-- The new weighted sum. -/
def ac2 (s : FVec F S128x256 .f32) (m a : Vec F S1x128x128 .f32) (v : Vec F S1x1x256x128 .f32) : FVec F S128x128 .f32 :=
  addf (mulf (al2 s m) (shapeCast S128x128 a shapeCasts_S1x128x128_S128x128))
    (matmul dot_S128x256_S256x128_S128x128_1_0_0_1_n_n none (truncf .bf16 (pr2 s m) bitsLt_bf16_f32) (truncf .bf16 (shapeCast S256x128 v shapeCasts_S1x1x256x128_S256x128) bitsLt_bf16_f32) (constant S128x128 .f32 0x00000000#32))

/-- A block of a head, as stored. -/
def up (x : FVec F S128x128 .f32) : FVec F S1x128x128 .f32 := shapeCast S1x128x128 x shapeCasts_S128x128_S1x128x128

end Def

end Cert.KernelIdeal.Attn

end
-- ==== Proof.Attn.TilesAt.lean ====
/- The entries of one block's results at the exact instance. -/
module

public import proofs.«01_k».proof.Proof.Attn.Tiles

@[expose] public section

set_option maxHeartbeats 1000000

noncomputable section

namespace Cert.KernelIdeal.Attn

open Cert.KernelIdeal Cert.KernelIdeal.Gen
open Idealize.ShloMosaic Idealize.ShloMosaic.Tactic

/-- The word of −∞. -/
theorem negInf : Ideal.ofBits .f32 0xFF800000#32 = ⊥ := by simp [Ideal.ofBits, Ideal.ieee]

theorem sc1_at (w : BitVec 32) (D : Vec Ideal S1x128x128 .f32) (q k : Vec Ideal S1x1x128x128 .f32) (l u : Fin 128) :
    (sc1 w D q k (ix2 l u) : EReal) = (∑ d : Fin 128, q (ix4 0 0 l d) * k (ix4 0 0 u d)) + D (ix3 0 l u) * Ideal.ofBits .f32 w := by
  pointwise [sc1]

theorem mx1_at (s : FVec Ideal S128x128 .f32) (l d : Fin 128) :
    (mx1 s (ix2 l d) : EReal) = Finset.univ.fold max ⊥ (fun u : Fin 128 => s (ix2 l u)) := by
  pointwise [mx1]
  rw [negInf]

theorem pr1_at (s : FVec Ideal S128x128 .f32) (l u : Fin 128) :
    (pr1 s (ix2 l u) : EReal) = Ideal.exp (s (ix2 l u) - Finset.univ.fold max ⊥ (fun u : Fin 128 => s (ix2 l u))) := by
  rw [← mx1_at s l 0]
  pointwise [pr1]

theorem dn1_at (s : FVec Ideal S128x128 .f32) (l d : Fin 128) :
    (dn1 s (ix2 l d) : EReal) = ∑ u : Fin 128, Ideal.exp (s (ix2 l u) - Finset.univ.fold max ⊥ (fun u : Fin 128 => s (ix2 l u))) := by
  simp only [← pr1_at]
  pointwise [dn1]

theorem ac1_at (s : FVec Ideal S128x128 .f32) (v : Vec Ideal S1x1x128x128 .f32) (l d : Fin 128) :
    (ac1 s v (ix2 l d) : EReal) = ∑ u : Fin 128, Ideal.exp (s (ix2 l u) - Finset.univ.fold max ⊥ (fun u : Fin 128 => s (ix2 l u))) * v (ix4 0 0 u d) := by
  simp only [← pr1_at]
  pointwise [ac1]

theorem sc2_at (w : BitVec 32) (D : Vec Ideal S1x128x256 .f32) (q : Vec Ideal S1x1x128x128 .f32) (k : Vec Ideal S1x1x256x128 .f32) (l : Fin 128) (u : Fin 256) :
    (sc2 w D q k (ix2 l u) : EReal) = (∑ d : Fin 128, q (ix4 0 0 l d) * k (ix4 0 0 u d)) + D (ix3 0 l u) * Ideal.ofBits .f32 w := by
  pointwise [sc2]

theorem mx2_at (s : FVec Ideal S128x256 .f32) (m : Vec Ideal S1x128x128 .f32) (l d : Fin 128) :
    (mx2 s m (ix2 l d) : EReal) = max (m (ix3 0 l d)) (Finset.univ.fold max ⊥ (fun u : Fin 256 => s (ix2 l u))) := by
  pointwise [mx2]
  rw [negInf]

theorem pr2_at (s : FVec Ideal S128x256 .f32) (m : Vec Ideal S1x128x128 .f32) (l : Fin 128) (u : Fin 256) :
    (pr2 s m (ix2 l u) : EReal) = Ideal.exp (s (ix2 l u) - max (m (ix3 0 l 0)) (Finset.univ.fold max ⊥ (fun u : Fin 256 => s (ix2 l u)))) := by
  rw [← mx2_at s m l 0]
  pointwise [pr2]

theorem al2_at (s : FVec Ideal S128x256 .f32) (m : Vec Ideal S1x128x128 .f32) (l d : Fin 128) :
    (al2 s m (ix2 l d) : EReal) = Ideal.exp (m (ix3 0 l d) - max (m (ix3 0 l d)) (Finset.univ.fold max ⊥ (fun u : Fin 256 => s (ix2 l u)))) := by
  rw [← mx2_at s m l d]
  pointwise [al2]

theorem dn2_at (s : FVec Ideal S128x256 .f32) (m o : Vec Ideal S1x128x128 .f32) (l d : Fin 128) :
    (dn2 s m o (ix2 l d) : EReal) = Ideal.exp (m (ix3 0 l d) - max (m (ix3 0 l d)) (Finset.univ.fold max ⊥ (fun u : Fin 256 => s (ix2 l u)))) * o (ix3 0 l d)
      + ∑ u : Fin 256, Ideal.exp (s (ix2 l u) - max (m (ix3 0 l 0)) (Finset.univ.fold max ⊥ (fun u : Fin 256 => s (ix2 l u)))) := by
  rw [← al2_at]
  refine Eq.trans ?_ (congrArg _ (Finset.sum_congr rfl fun u _ => pr2_at s m l u))
  pointwise [dn2]

theorem ac2_at (s : FVec Ideal S128x256 .f32) (m o : Vec Ideal S1x128x128 .f32) (v : Vec Ideal S1x1x256x128 .f32) (l d : Fin 128) :
    (ac2 s m o v (ix2 l d) : EReal) = Ideal.exp (m (ix3 0 l d) - max (m (ix3 0 l d)) (Finset.univ.fold max ⊥ (fun u : Fin 256 => s (ix2 l u)))) * o (ix3 0 l d)
      + ∑ u : Fin 256, Ideal.exp (s (ix2 l u) - max (m (ix3 0 l 0)) (Finset.univ.fold max ⊥ (fun u : Fin 256 => s (ix2 l u)))) * v (ix4 0 0 u d) := by
  rw [← al2_at]
  refine Eq.trans ?_ (congrArg _ (Finset.sum_congr rfl fun u _ => congrArg (· * v (ix4 0 0 u d)) (pr2_at s m l u)))
  pointwise [ac2]

theorem up_at {F : FTy → Type} [FloatOps F] (x : FVec F S128x128 .f32) (l d : Fin 128) : up x (ix3 0 l d) = x (ix2 l d) := by
  pointwise [up]

end Cert.KernelIdeal.Attn

end
-- ==== Proof.Attn.Trips.lean ====
/- The pieces one trip stores, told by the blocks of `Tiles`: the same four blocks, one per head, for each of the
   three running arrays. -/
module

public import proofs.«01_k».proof.Proof.Attn.Tiles

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open Idealize.ShloMosaic.Rounds

variable {F : FTy → Type} [FloatOps F]

/-- Four stores, one per head, head 0 first in time, each of 128 rows at a stride. -/
def four (s : ℕ) (hs : ∀ a, 0 < (![1, s, 1] : Fin 3 → ℕ) a) (o : Fin 4 → Fin 3 → ℕ)
    (inb : ∀ h a, S1x128x128.size a = 0 ∨ o h a + (![1, s, 1] : Fin 3 → ℕ) a * (S1x128x128.size a - 1) < S4x2048x128.size a)
    (w : Fin 4 → FVec F S1x128x128 .f32) : List (View.Piece (Elt F) S4x2048x128 .f32) :=
  [⟨⟨⟨o 3, S1x128x128.size, ![1, s, 1], inb 3⟩, hs⟩, w 3⟩, ⟨⟨⟨o 2, S1x128x128.size, ![1, s, 1], inb 2⟩, hs⟩, w 2⟩,
   ⟨⟨⟨o 1, S1x128x128.size, ![1, s, 1], inb 1⟩, hs⟩, w 1⟩, ⟨⟨⟨o 0, S1x128x128.size, ![1, s, 1], inb 0⟩, hs⟩, w 0⟩]

/-- Where the queries of each head lie. -/
def qo1 (k : Fin k0_t1_loop.trips) : Fin 4 → Fin 4 → ℕ := ![k0_off1 k, k0_off3 k, k0_off5 k, k0_off7 k]

theorem qo1_inb (k : Fin k0_t1_loop.trips) (h : Fin 4) (a : Fin 4) : S1x1x128x128.size a = 0 ∨ qo1 k h a + (![1, 1, 16, 1] : Fin 4 → ℕ) a * (S1x1x128x128.size a - 1) < S3x4x2048x128.size a := by
  fin_cases h
  · exact k0_off1_inb k a
  · exact k0_off3_inb k a
  · exact k0_off5_inb k a
  · exact k0_off7_inb k a

/-- Where the keys of each head lie. -/
def ko1 (k : Fin k0_t1_loop.trips) : Fin 4 → Fin 4 → ℕ := ![k0_off2 k, k0_off4 k, k0_off6 k, k0_off8 k]

theorem ko1_inb (k : Fin k0_t1_loop.trips) (h : Fin 4) (a : Fin 4) : S1x1x128x128.size a = 0 ∨ ko1 k h a + (![1, 1, 16, 1] : Fin 4 → ℕ) a * (S1x1x128x128.size a - 1) < S3x4x2048x128.size a := by
  fin_cases h
  · exact k0_off2_inb k a
  · exact k0_off4_inb k a
  · exact k0_off6_inb k a
  · exact k0_off8_inb k a

/-- Where the values of each head lie. -/
def vo1 (k : Fin k0_t1_loop.trips) : Fin 4 → Fin 4 → ℕ := ![k0_off9 k, k0_off10 k, k0_off11 k, k0_off12 k]

theorem vo1_inb (k : Fin k0_t1_loop.trips) (h : Fin 4) (a : Fin 4) : S1x1x128x128.size a = 0 ∨ vo1 k h a + (![1, 1, 16, 1] : Fin 4 → ℕ) a * (S1x1x128x128.size a - 1) < S3x4x2048x128.size a := by
  fin_cases h
  · exact k0_off9_inb k a
  · exact k0_off10_inb k a
  · exact k0_off11_inb k a
  · exact k0_off12_inb k a

/-- Where the results of each head lie. -/
def so1 (k : Fin k0_t1_loop.trips) : Fin 4 → Fin 3 → ℕ := ![k0_off13 k, k0_off14 k, k0_off15 k, k0_off16 k]

theorem so1_inb (k : Fin k0_t1_loop.trips) (h : Fin 4) (a : Fin 3) : S1x128x128.size a = 0 ∨ so1 k h a + (![1, 16, 1] : Fin 3 → ℕ) a * (S1x128x128.size a - 1) < S4x2048x128.size a := by
  fin_cases h
  · exact k0_off13_inb k a
  · exact k0_off14_inb k a
  · exact k0_off15_inb k a
  · exact k0_off16_inb k a

/-- Where the queries of each head lie. -/
def qo2 (k : Fin k0_t2_loop.trips) : Fin 4 → Fin 4 → ℕ := ![k0_off18 k, k0_off20 k, k0_off22 k, k0_off24 k]

theorem qo2_inb (k : Fin k0_t2_loop.trips) (h : Fin 4) (a : Fin 4) : S1x1x128x128.size a = 0 ∨ qo2 k h a + (![1, 1, 4, 1] : Fin 4 → ℕ) a * (S1x1x128x128.size a - 1) < S3x4x2048x128.size a := by
  fin_cases h
  · exact k0_off18_inb k a
  · exact k0_off20_inb k a
  · exact k0_off22_inb k a
  · exact k0_off24_inb k a

/-- Where the keys of each head lie. -/
def ko2 (k : Fin k0_t2_loop.trips) : Fin 4 → Fin 4 → ℕ := ![k0_off19 k, k0_off21 k, k0_off23 k, k0_off25 k]

theorem ko2_inb (k : Fin k0_t2_loop.trips) (h : Fin 4) (a : Fin 4) : S1x1x256x128.size a = 0 ∨ ko2 k h a + (![1, 1, 4, 1] : Fin 4 → ℕ) a * (S1x1x256x128.size a - 1) < S3x4x2048x128.size a := by
  fin_cases h
  · exact k0_off19_inb k a
  · exact k0_off21_inb k a
  · exact k0_off23_inb k a
  · exact k0_off25_inb k a

/-- Where the values of each head lie. -/
def vo2 (k : Fin k0_t2_loop.trips) : Fin 4 → Fin 4 → ℕ := ![k0_off30 k, k0_off31 k, k0_off32 k, k0_off33 k]

theorem vo2_inb (k : Fin k0_t2_loop.trips) (h : Fin 4) (a : Fin 4) : S1x1x256x128.size a = 0 ∨ vo2 k h a + (![1, 1, 4, 1] : Fin 4 → ℕ) a * (S1x1x256x128.size a - 1) < S3x4x2048x128.size a := by
  fin_cases h
  · exact k0_off30_inb k a
  · exact k0_off31_inb k a
  · exact k0_off32_inb k a
  · exact k0_off33_inb k a

/-- Where the results of each head lie. -/
def so2 (k : Fin k0_t2_loop.trips) : Fin 4 → Fin 3 → ℕ := ![k0_off26 k, k0_off27 k, k0_off28 k, k0_off29 k]

theorem so2_inb (k : Fin k0_t2_loop.trips) (h : Fin 4) (a : Fin 3) : S1x128x128.size a = 0 ∨ so2 k h a + (![1, 4, 1] : Fin 3 → ℕ) a * (S1x128x128.size a - 1) < S4x2048x128.size a := by
  fin_cases h
  · exact k0_off26_inb k a
  · exact k0_off27_inb k a
  · exact k0_off28_inb k a
  · exact k0_off29_inb k a

/-- The coefficient of the distance, head by head, for dilation 16. -/
def cw1 : Fin 4 → BitVec 32 := ![0xBE800000#32, 0xBE214518#32, 0xBDCB2FF5#32, 0xBD800000#32]
/-- The coefficient of the distance, head by head, for dilation 4. -/
def cw2 : Fin 4 → BitVec 32 := ![0xBECB2FF5#32, 0xBE800000#32, 0xBE214518#32, 0xBDCB2FF5#32]

section
variable (arg4 : Memref sig .tc .vmem S4x128x256 .f32) (arg6 : Memref sig .tc .vmem S3x4x2048x128 .f32) (arg7 arg8 arg9 : Memref sig .tc .vmem S4x2048x128 .f32)
  (X4 : BufTy.Contents (Elt F) arg4.view.ty) (X6 : BufTy.Contents (Elt F) arg6.view.ty) (f7 : BufTy.Contents (Elt F) arg7.view.ty) (f8 : BufTy.Contents (Elt F) arg8.view.ty) (f9 : BufTy.Contents (Elt F) arg9.view.ty)

/-- The scores of head `h` in trip `k` of the loop of dilation 16. -/
def ts1 (k : Fin k0_t1_loop.trips) (h : Fin 4) : FVec F S128x128 .f32 :=
  sc1 (cw1 h) (View.readAt (Elt F) arg4.view (Rect.unit (s := S4x128x256) ![3, 0, 0] S1x128x128.size inb_S4x128x256_S1x128x128_3_0_0).toLoadRect X4)
    (View.readAt (Elt F) arg6.view ⟨qo1 k h, S1x1x128x128.size, ![1, 1, 16, 1], qo1_inb k h⟩ X6)
    (View.readAt (Elt F) arg6.view ⟨ko1 k h, S1x1x128x128.size, ![1, 1, 16, 1], ko1_inb k h⟩ X6)

/-- The values of head `h` in that trip. -/
def tv1 (k : Fin k0_t1_loop.trips) (h : Fin 4) : Vec F S1x1x128x128 .f32 :=
  View.readAt (Elt F) arg6.view ⟨vo1 k h, S1x1x128x128.size, ![1, 1, 16, 1], vo1_inb k h⟩ X6

/-- The scores of head `h` in trip `k` of the loop of dilation 4. -/
def ts2 (k : Fin k0_t2_loop.trips) (h : Fin 4) : FVec F S128x256 .f32 :=
  sc2 (cw2 h) (View.readAt (Elt F) arg4.view (Rect.unit (s := S4x128x256) (k0_off17 k) S1x128x256.size (k0_off17_inb k)).toLoadRect X4)
    (View.readAt (Elt F) arg6.view ⟨qo2 k h, S1x1x128x128.size, ![1, 1, 4, 1], qo2_inb k h⟩ X6)
    (View.readAt (Elt F) arg6.view ⟨ko2 k h, S1x1x256x128.size, ![1, 1, 4, 1], ko2_inb k h⟩ X6)

/-- The values of head `h` in that trip. -/
def tv2 (k : Fin k0_t2_loop.trips) (h : Fin 4) : Vec F S1x1x256x128 .f32 :=
  View.readAt (Elt F) arg6.view ⟨vo2 k h, S1x1x256x128.size, ![1, 1, 4, 1], vo2_inb k h⟩ X6

/-- The rows of one head of a running array that trip `k` of that loop works on. -/
def old2 (A : Memref sig .tc .vmem S4x2048x128 .f32) (f : BufTy.Contents (Elt F) A.view.ty) (k : Fin k0_t2_loop.trips) (h : Fin 4) : Vec F S1x128x128 .f32 :=
  View.readAt (Elt F) A.view ⟨so2 k h, S1x128x128.size, ![1, 4, 1], so2_inb k h⟩ f
end

theorem trip1_a {𝒱 : Variants} {c : Dev nD} {bd : Option 𝒱.V} {i : grid0.Coords} {arg1 : Memref sig .tc .vmem S1x2048x1024 .bf16} {harg1 : arg1.IsWhole} {arg2 : Memref sig .tc .vmem S1024x4608 .bf16} {harg2 : arg2.IsWhole} {arg3 : Memref sig .tc .vmem S1x4608 .f32} {harg3 : arg3.IsWhole} {arg4 : Memref sig .tc .vmem S4x128x256 .f32} {harg4 : arg4.IsWhole} {arg5 : Memref sig .tc .vmem S1x2048x512 .bf16} {harg5 : arg5.IsWhole} {arg6 : Memref sig .tc .vmem S3x4x2048x128 .f32} {harg6 : arg6.IsWhole} {arg7 : Memref sig .tc .vmem S4x2048x128 .f32} {harg7 : arg7.IsWhole} {arg8 : Memref sig .tc .vmem S4x2048x128 .f32} {harg8 : arg8.IsWhole} {arg9 : Memref sig .tc .vmem S4x2048x128 .f32} {harg9 : arg9.IsWhole} {v1 : FVec F S2048x1024 .bf16} {v56 : FVec F S2048x512 .f32} {v57 : FVec F S2048x128 .f32} {X4 : BufTy.Contents (Elt F) arg4.view.ty} {X6 : BufTy.Contents (Elt F) arg6.view.ty} {k : Fin k0_t1_loop.trips} :
    (trip1 (F := F) 𝒱 c bd i arg1 harg1 arg2 harg2 arg3 harg3 arg4 harg4 arg5 harg5 arg6 harg6 arg7 harg7 arg8 harg8 arg9 harg9 v1 v56 v57 X4 X6 k).1 = four 16 spos_1_16_1 (so1 k) (so1_inb k) (fun h => up (ac1 (ts1 arg4 arg6 X4 X6 k h) (tv1 arg6 X6 k h))) := by
  unfold trip1; rfl

theorem trip1_m {𝒱 : Variants} {c : Dev nD} {bd : Option 𝒱.V} {i : grid0.Coords} {arg1 : Memref sig .tc .vmem S1x2048x1024 .bf16} {harg1 : arg1.IsWhole} {arg2 : Memref sig .tc .vmem S1024x4608 .bf16} {harg2 : arg2.IsWhole} {arg3 : Memref sig .tc .vmem S1x4608 .f32} {harg3 : arg3.IsWhole} {arg4 : Memref sig .tc .vmem S4x128x256 .f32} {harg4 : arg4.IsWhole} {arg5 : Memref sig .tc .vmem S1x2048x512 .bf16} {harg5 : arg5.IsWhole} {arg6 : Memref sig .tc .vmem S3x4x2048x128 .f32} {harg6 : arg6.IsWhole} {arg7 : Memref sig .tc .vmem S4x2048x128 .f32} {harg7 : arg7.IsWhole} {arg8 : Memref sig .tc .vmem S4x2048x128 .f32} {harg8 : arg8.IsWhole} {arg9 : Memref sig .tc .vmem S4x2048x128 .f32} {harg9 : arg9.IsWhole} {v1 : FVec F S2048x1024 .bf16} {v56 : FVec F S2048x512 .f32} {v57 : FVec F S2048x128 .f32} {X4 : BufTy.Contents (Elt F) arg4.view.ty} {X6 : BufTy.Contents (Elt F) arg6.view.ty} {k : Fin k0_t1_loop.trips} :
    (trip1 (F := F) 𝒱 c bd i arg1 harg1 arg2 harg2 arg3 harg3 arg4 harg4 arg5 harg5 arg6 harg6 arg7 harg7 arg8 harg8 arg9 harg9 v1 v56 v57 X4 X6 k).2.1 = four 16 spos_1_16_1 (so1 k) (so1_inb k) (fun h => up (mx1 (ts1 arg4 arg6 X4 X6 k h))) := by
  unfold trip1; rfl

theorem trip1_l {𝒱 : Variants} {c : Dev nD} {bd : Option 𝒱.V} {i : grid0.Coords} {arg1 : Memref sig .tc .vmem S1x2048x1024 .bf16} {harg1 : arg1.IsWhole} {arg2 : Memref sig .tc .vmem S1024x4608 .bf16} {harg2 : arg2.IsWhole} {arg3 : Memref sig .tc .vmem S1x4608 .f32} {harg3 : arg3.IsWhole} {arg4 : Memref sig .tc .vmem S4x128x256 .f32} {harg4 : arg4.IsWhole} {arg5 : Memref sig .tc .vmem S1x2048x512 .bf16} {harg5 : arg5.IsWhole} {arg6 : Memref sig .tc .vmem S3x4x2048x128 .f32} {harg6 : arg6.IsWhole} {arg7 : Memref sig .tc .vmem S4x2048x128 .f32} {harg7 : arg7.IsWhole} {arg8 : Memref sig .tc .vmem S4x2048x128 .f32} {harg8 : arg8.IsWhole} {arg9 : Memref sig .tc .vmem S4x2048x128 .f32} {harg9 : arg9.IsWhole} {v1 : FVec F S2048x1024 .bf16} {v56 : FVec F S2048x512 .f32} {v57 : FVec F S2048x128 .f32} {X4 : BufTy.Contents (Elt F) arg4.view.ty} {X6 : BufTy.Contents (Elt F) arg6.view.ty} {k : Fin k0_t1_loop.trips} :
    (trip1 (F := F) 𝒱 c bd i arg1 harg1 arg2 harg2 arg3 harg3 arg4 harg4 arg5 harg5 arg6 harg6 arg7 harg7 arg8 harg8 arg9 harg9 v1 v56 v57 X4 X6 k).2.2.1 = four 16 spos_1_16_1 (so1 k) (so1_inb k) (fun h => up (dn1 (ts1 arg4 arg6 X4 X6 k h))) := by
  unfold trip1; rfl

theorem trip2_a {𝒱 : Variants} {c : Dev nD} {bd : Option 𝒱.V} {i : grid0.Coords} {arg1 : Memref sig .tc .vmem S1x2048x1024 .bf16} {harg1 : arg1.IsWhole} {arg2 : Memref sig .tc .vmem S1024x4608 .bf16} {harg2 : arg2.IsWhole} {arg3 : Memref sig .tc .vmem S1x4608 .f32} {harg3 : arg3.IsWhole} {arg4 : Memref sig .tc .vmem S4x128x256 .f32} {harg4 : arg4.IsWhole} {arg5 : Memref sig .tc .vmem S1x2048x512 .bf16} {harg5 : arg5.IsWhole} {arg6 : Memref sig .tc .vmem S3x4x2048x128 .f32} {harg6 : arg6.IsWhole} {arg7 : Memref sig .tc .vmem S4x2048x128 .f32} {harg7 : arg7.IsWhole} {arg8 : Memref sig .tc .vmem S4x2048x128 .f32} {harg8 : arg8.IsWhole} {arg9 : Memref sig .tc .vmem S4x2048x128 .f32} {harg9 : arg9.IsWhole} {v1 : FVec F S2048x1024 .bf16} {v141 : FVec F S2048x128 .f32} {X4 : BufTy.Contents (Elt F) arg4.view.ty} {X6 : BufTy.Contents (Elt F) arg6.view.ty} {k : Fin k0_t2_loop.trips} {f7 : BufTy.Contents (Elt F) arg7.view.ty} {f8 : BufTy.Contents (Elt F) arg8.view.ty} {f9 : BufTy.Contents (Elt F) arg9.view.ty} :
    (trip2 (F := F) 𝒱 c bd i arg1 harg1 arg2 harg2 arg3 harg3 arg4 harg4 arg5 harg5 arg6 harg6 arg7 harg7 arg8 harg8 arg9 harg9 v1 v141 X4 X6 k).1 f7 f8 f9 = four 4 spos_1_4_1 (so2 k) (so2_inb k) (fun h => up (ac2 (ts2 arg4 arg6 X4 X6 k h) (old2 arg8 f8 k h) (old2 arg7 f7 k h) (tv2 arg6 X6 k h))) := by
  unfold trip2; rfl

theorem trip2_m {𝒱 : Variants} {c : Dev nD} {bd : Option 𝒱.V} {i : grid0.Coords} {arg1 : Memref sig .tc .vmem S1x2048x1024 .bf16} {harg1 : arg1.IsWhole} {arg2 : Memref sig .tc .vmem S1024x4608 .bf16} {harg2 : arg2.IsWhole} {arg3 : Memref sig .tc .vmem S1x4608 .f32} {harg3 : arg3.IsWhole} {arg4 : Memref sig .tc .vmem S4x128x256 .f32} {harg4 : arg4.IsWhole} {arg5 : Memref sig .tc .vmem S1x2048x512 .bf16} {harg5 : arg5.IsWhole} {arg6 : Memref sig .tc .vmem S3x4x2048x128 .f32} {harg6 : arg6.IsWhole} {arg7 : Memref sig .tc .vmem S4x2048x128 .f32} {harg7 : arg7.IsWhole} {arg8 : Memref sig .tc .vmem S4x2048x128 .f32} {harg8 : arg8.IsWhole} {arg9 : Memref sig .tc .vmem S4x2048x128 .f32} {harg9 : arg9.IsWhole} {v1 : FVec F S2048x1024 .bf16} {v141 : FVec F S2048x128 .f32} {X4 : BufTy.Contents (Elt F) arg4.view.ty} {X6 : BufTy.Contents (Elt F) arg6.view.ty} {k : Fin k0_t2_loop.trips} {f7 : BufTy.Contents (Elt F) arg7.view.ty} {f8 : BufTy.Contents (Elt F) arg8.view.ty} {f9 : BufTy.Contents (Elt F) arg9.view.ty} :
    (trip2 (F := F) 𝒱 c bd i arg1 harg1 arg2 harg2 arg3 harg3 arg4 harg4 arg5 harg5 arg6 harg6 arg7 harg7 arg8 harg8 arg9 harg9 v1 v141 X4 X6 k).2.1 f7 f8 f9 = four 4 spos_1_4_1 (so2 k) (so2_inb k) (fun h => up (mx2 (ts2 arg4 arg6 X4 X6 k h) (old2 arg8 f8 k h))) := by
  unfold trip2; rfl

theorem trip2_l {𝒱 : Variants} {c : Dev nD} {bd : Option 𝒱.V} {i : grid0.Coords} {arg1 : Memref sig .tc .vmem S1x2048x1024 .bf16} {harg1 : arg1.IsWhole} {arg2 : Memref sig .tc .vmem S1024x4608 .bf16} {harg2 : arg2.IsWhole} {arg3 : Memref sig .tc .vmem S1x4608 .f32} {harg3 : arg3.IsWhole} {arg4 : Memref sig .tc .vmem S4x128x256 .f32} {harg4 : arg4.IsWhole} {arg5 : Memref sig .tc .vmem S1x2048x512 .bf16} {harg5 : arg5.IsWhole} {arg6 : Memref sig .tc .vmem S3x4x2048x128 .f32} {harg6 : arg6.IsWhole} {arg7 : Memref sig .tc .vmem S4x2048x128 .f32} {harg7 : arg7.IsWhole} {arg8 : Memref sig .tc .vmem S4x2048x128 .f32} {harg8 : arg8.IsWhole} {arg9 : Memref sig .tc .vmem S4x2048x128 .f32} {harg9 : arg9.IsWhole} {v1 : FVec F S2048x1024 .bf16} {v141 : FVec F S2048x128 .f32} {X4 : BufTy.Contents (Elt F) arg4.view.ty} {X6 : BufTy.Contents (Elt F) arg6.view.ty} {k : Fin k0_t2_loop.trips} {f7 : BufTy.Contents (Elt F) arg7.view.ty} {f8 : BufTy.Contents (Elt F) arg8.view.ty} {f9 : BufTy.Contents (Elt F) arg9.view.ty} :
    (trip2 (F := F) 𝒱 c bd i arg1 harg1 arg2 harg2 arg3 harg3 arg4 harg4 arg5 harg5 arg6 harg6 arg7 harg7 arg8 harg8 arg9 harg9 v1 v141 X4 X6 k).2.2.1 f7 f8 f9 = four 4 spos_1_4_1 (so2 k) (so2_inb k) (fun h => up (dn2 (ts2 arg4 arg6 X4 X6 k h) (old2 arg8 f8 k h) (old2 arg9 f9 k h))) := by
  unfold trip2; rfl

end Cert.KernelIdeal.Attn

end
-- ==== Proof.Attn.Reads.lean ====
/- Where the trips of the two strided loops read and store, and the running arrays read after a trip's stores. -/
module

public import proofs.«01_k».proof.Proof.Attn.Trips

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

theorem trips1 : k0_t1_loop.trips = 16 := by decide +kernel
theorem trips2 : k0_t2_loop.trips = 16 := by decide +kernel
theorem trips3 : k0_t3_loop.trips = 16 := by decide +kernel

/-- The first key of block `n` of a stream, in steps of the stream: the block's own first row less 64, kept inside. -/
def lo (len n : ℕ) : ℕ := min (n * 128 - 64) (len - 256)

/-- The distance tile of block `n` out of `nb`. -/
def tile (nb n : ℕ) : ℕ := if n = 0 then 0 else if n = nb - 1 then 2 else 1

theorem qo1_eq (k : Fin k0_t1_loop.trips) (h : Fin 4) : qo1 k h = ![0, h.val, k.val, 0] := by revert k h; decide +kernel
theorem ko1_eq (k : Fin k0_t1_loop.trips) (h : Fin 4) : ko1 k h = ![1, h.val, k.val, 0] := by revert k h; decide +kernel
theorem vo1_eq (k : Fin k0_t1_loop.trips) (h : Fin 4) : vo1 k h = ![2, h.val, k.val, 0] := by revert k h; decide +kernel
theorem so1_eq (k : Fin k0_t1_loop.trips) (h : Fin 4) : so1 k h = ![h.val, k.val, 0] := by revert k h; decide +kernel
theorem qo2_eq (k : Fin k0_t2_loop.trips) (h : Fin 4) : qo2 k h = ![0, h.val, k.val / 4 + k.val % 4 * 512, 0] := by revert k h; decide +kernel
theorem ko2_eq (k : Fin k0_t2_loop.trips) (h : Fin 4) : ko2 k h = ![1, h.val, k.val / 4 + lo 512 (k.val % 4) * 4, 0] := by revert k h; decide +kernel
theorem vo2_eq (k : Fin k0_t2_loop.trips) (h : Fin 4) : vo2 k h = ![2, h.val, k.val / 4 + lo 512 (k.val % 4) * 4, 0] := by revert k h; decide +kernel
theorem so2_eq (k : Fin k0_t2_loop.trips) (h : Fin 4) : so2 k h = ![h.val, k.val / 4 + k.val % 4 * 512, 0] := by revert k h; decide +kernel
theorem do2_eq (k : Fin k0_t2_loop.trips) : k0_off17 k = ![tile 4 (k.val % 4), 0, 0] := by revert k; decide +kernel

section
variable {F : FTy → Type} [FloatOps F] (A : Memref sig .tc .vmem S4x2048x128 .f32) (f : BufTy.Contents (Elt F) A.view.ty)
  (s : ℕ) (hs : ∀ a, 0 < (![1, s, 1] : Fin 3 → ℕ) a) (o : Fin 4 → Fin 3 → ℕ)
  (inb : ∀ h a, S1x128x128.size a = 0 ∨ o h a + (![1, s, 1] : Fin 3 → ℕ) a * (S1x128x128.size a - 1) < S4x2048x128.size a)
  (w : Fin 4 → FVec F S1x128x128 .f32) (b : ℕ) (ho : ∀ h : Fin 4, o h = ![h.val, b, 0])
include ho

/-- A row that a trip stores reads the block stored there. -/
theorem four_hit (h : Fin 4) (r : Fin 2048) (l d : Fin 128) (hr : r.val = b + s * l.val) :
    A.view.read (Elt F) (A.view.writes (Elt F) f (four s hs o inb w)) (ix3 h r d) = w h (ix3 0 l d) := by
  have hit (h : Fin 4) (L : List (View.Piece (Elt F) S4x2048x128 .f32)) :
      A.view.read (Elt F) (A.view.writes (Elt F) f (⟨⟨⟨o h, S1x128x128.size, ![1, s, 1], inb h⟩, hs⟩, w h⟩ :: L)) (ix3 h r d) = w h (ix3 0 l d) := by
    refine View.read_writes_cons_hit_of_coords A.view f ⟨⟨o h, S1x128x128.size, ![1, s, 1], inb h⟩, hs⟩ (w h) L (ix3 0 l d) (ix3 h r d) fun a => ?_
    refine Eq.trans ?_ (congrArg (· + (![1, s, 1] : Fin 3 → ℕ) a * ((ix3 0 l d : S1x128x128.Idx) a).val) (congrFun (ho h) a).symm)
    fin_cases a
    · show h.val = h.val + 1 * 0; omega
    · exact hr
    · show d.val = 0 + 1 * d.val; omega
  have miss (g : Fin 4) (hg : h ≠ g) (L : List (View.Piece (Elt F) S4x2048x128 .f32)) :
      A.view.read (Elt F) (A.view.writes (Elt F) f (⟨⟨⟨o g, S1x128x128.size, ![1, s, 1], inb g⟩, hs⟩, w g⟩ :: L)) (ix3 h r d)
        = A.view.read (Elt F) (A.view.writes (Elt F) f L) (ix3 h r d) := by
    refine View.read_writes_cons_miss_of_axis A.view f _ L (ix3 h r d) (0 : Fin 3) g.val 1 ?_ rfl rfl ?_
    · show o g 0 = _; rw [ho g]; rfl
    · show h.val < g.val ∨ g.val + 1 ≤ h.val
      have : h.val ≠ g.val := fun e => hg (Fin.ext e)
      omega
  unfold four
  by_cases h3 : h = 3
  · subst h3; exact hit 3 _
  rw [miss 3 h3]
  by_cases h2 : h = 2
  · subst h2; exact hit 2 _
  rw [miss 2 h2]
  by_cases h1 : h = 1
  · subst h1; exact hit 1 _
  rw [miss 1 h1]
  have h0 : h = 0 := by omega
  subst h0; exact hit 0 _

/-- A row that a trip does not store reads what was there. -/
theorem four_miss (h : Fin 4) (r : Fin 2048) (d : Fin 128) (hr : ∀ l : Fin 128, r.val ≠ b + s * l.val) :
    A.view.read (Elt F) (A.view.writes (Elt F) f (four s hs o inb w)) (ix3 h r d) = A.view.read (Elt F) f (ix3 h r d) := by
  have miss (g : Fin 4) (L : List (View.Piece (Elt F) S4x2048x128 .f32)) :
      A.view.read (Elt F) (A.view.writes (Elt F) f (⟨⟨⟨o g, S1x128x128.size, ![1, s, 1], inb g⟩, hs⟩, w g⟩ :: L)) (ix3 h r d)
        = A.view.read (Elt F) (A.view.writes (Elt F) f L) (ix3 h r d) := by
    refine View.read_writes_cons_miss A.view f _ L (ix3 h r d) fun hm => ?_
    obtain ⟨j, hj, e⟩ := (Rect.toLoadRect _).mem_set.mp hm (1 : Fin 3)
    refine hr ⟨j, hj⟩ ?_
    have e' : r.val = o g 1 + s * j := e
    rw [ho g] at e'
    exact e'
  unfold four
  rw [miss 3, miss 2, miss 1, miss 0]
  rfl
end

end Cert.KernelIdeal.Attn

end
-- ==== Proof.Attn.Geom.lean ====
/- The two strided loops, trip by trip: after the trips before `k`, the rows they have met represent the weighted sums
   over all keys. -/
module

public import proofs.«01_k».proof.Proof.Attn.Blocks
public import proofs.«01_k».proof.Proof.Attn.TilesAt
public import proofs.«01_k».proof.Proof.Attn.Reads

@[expose] public section

set_option maxRecDepth 16384
set_option maxHeartbeats 2000000

noncomputable section

namespace Cert.KernelIdeal.Attn

open Cert.KernelIdeal Cert.KernelIdeal.Gen Cert.Online
open Idealize.ShloMosaic Idealize.ShloMosaic.TcCoe Idealize.ShloMosaic.Tactic
open Idealize.ShloMosaic.Rounds

/-- The distance tiles: three of 256 keys for the first, the middle and the last block of a stream, one of 128 keys. -/
def dtab (t : Fin 4) (l : Fin 128) (u : Fin 256) : EReal :=
  if t.val = 3 then (if u.val < 128 then dent (ad l u) else ⊤) else dent (ad (l.val + 64 * t.val) u)

/-- The score of a query and a key before the distance is taken off: their inner product. -/
def dotp (P : Fin 3 → Fin 4 → Fin 2048 → Fin 128 → ℝ) (h : Fin 4) (r t : Fin 2048) : ℝ := ∑ d, P 0 h r d * P 1 h t d

theorem rep_congr {A : Fin 128 → ℝ} {L : ℝ} {m l a m' l' a' : Fin 128 → EReal} (hr : Rep A L m' l' a')
    (hm : ∀ d, m d = m' d) (hl : ∀ d, l d = l' d) (ha : ∀ d, a d = a' d) : Rep A L m l a := by
  rw [funext hm, funext hl, funext ha]; exact hr

theorem ad_scale (s c x y : ℕ) : ad (c + s * x) (c + s * y) = s * ad x y := by
  unfold ad
  rw [Nat.mul_add, Nat.mul_sub, Nat.mul_sub]
  omega

/-- A block of consecutive keys of a stream that holds every position within 64 of the query's. -/
theorem mkBlk {s len c r' b N : ℕ} (hs : 0 < s) (hlen : s * len = 2048) (hc : c < s) (r : Fin 2048) (hr : r.val = c + s * r')
    (τ : Fin N → Fin 2048) (hτ : ∀ u, (τ u).val = c + s * (b + u.val)) (off : Fin N → ℕ) (hoff : ∀ u, off u = ad r' (b + u.val))
    (hcov : ∀ t, t < len → ad r' t ≤ 64 → b ≤ t ∧ t < b + N) : Blk s r τ off where
  pos := hs
  inj u v e := by
    have e' : c + s * (b + u.val) = c + s * (b + v.val) := by rw [← hτ, ← hτ, e]
    have := Nat.eq_of_mul_eq_mul_left hs (Nat.add_left_cancel e')
    exact Fin.ext (by omega)
  dist u := by rw [hr, hτ, ad_scale, hoff]
  all t h1 h2 := by
    have ht : ∃ t', t.val = c + s * t' := by
      obtain ⟨q, hq⟩ := h2
      rcases Nat.le_total r.val t.val with h | h
      · refine ⟨r' + q, ?_⟩
        have : t.val - r.val = s * q := by rw [← hq]; unfold ad; omega
        rw [Nat.mul_add]; omega
      · refine ⟨r' - q, ?_⟩
        have e : r.val - t.val = s * q := by rw [← hq]; unfold ad; omega
        have hq' : q ≤ r' := by
          by_contra hh
          have h3 : s * (r' + 1) ≤ s * q := Nat.mul_le_mul_left s (by omega)
          rw [Nat.mul_add] at h3
          omega
        have h4 : s * q ≤ s * r' := Nat.mul_le_mul_left s hq'
        rw [Nat.mul_sub]; omega
    obtain ⟨t', ht'⟩ := ht
    have hlt : t' < len := by
      by_contra hh
      have h3 : s * len ≤ s * t' := Nat.mul_le_mul_left s (by omega)
      have := t.isLt
      omega
    rw [hr, ht', ad_scale, Nat.mul_comm 64 s] at h1
    obtain ⟨h5, h6⟩ := hcov t' hlt (Nat.le_of_mul_le_mul_left h1 hs)
    refine ⟨⟨t' - b, by omega⟩, Fin.ext ?_⟩
    rw [hτ, ht']
    show c + s * (b + (t' - b)) = _
    rw [Nat.add_sub_cancel' h5]

theorem lo_le (len n : ℕ) : lo len n ≤ len - 256 := Nat.min_le_right _ _

theorem shift4 (n : ℕ) (hn : n < 4) : n * 128 = lo 512 n + 64 * tile 4 n := by unfold lo tile; split_ifs <;> omega

theorem cov4 (n l t : ℕ) (hl : l < 128) (hn : n < 4) (ht : t < 512) (h : ad (n * 128 + l) t ≤ 64) :
    lo 512 n ≤ t ∧ t < lo 512 n + 256 := by unfold ad at h; unfold lo; omega

theorem ad_shift (a b c u : ℕ) : ad (a + b + c) (a + u) = ad (c + b) u := by unfold ad; omega

/-- The block of a trip of the loop of dilation 4. -/
theorem blk4 (c n : ℕ) (l : Fin 128) (hc : c < 4) (hn : n < 4) (r : Fin 2048) (hr : r.val = c + n * 512 + 4 * l.val) (τ : Fin 256 → Fin 2048)
    (hτ : ∀ u, (τ u).val = c + lo 512 n * 4 + 4 * u.val) : Blk 4 r τ (fun u => ad (l.val + 64 * tile 4 n) u) :=
  mkBlk (len := 512) (c := c) (r' := n * 128 + l.val) (b := lo 512 n) (by omega) rfl hc r (by omega) τ
    (fun u => by rw [hτ]; omega) _ (fun u => by rw [shift4 n hn, ad_shift]) (fun t ht h => cov4 n l t l.isLt hn ht h)

theorem shift1 (n : ℕ) (hn : n < 16) : n * 128 = lo 2048 n + 64 * tile 16 n := by unfold lo tile; split_ifs <;> omega

theorem cov1 (n l t : ℕ) (hl : l < 128) (hn : n < 16) (ht : t < 2048) (h : ad (n * 128 + l) t ≤ 64) :
    lo 2048 n ≤ t ∧ t < lo 2048 n + 256 := by unfold ad at h; unfold lo; omega

/-- The block of a trip of the loop of dilation 1. -/
theorem blk1 (n : ℕ) (l : Fin 128) (hn : n < 16) (r : Fin 2048) (hr : r.val = n * 128 + l.val) (τ : Fin 256 → Fin 2048)
    (hτ : ∀ u, (τ u).val = lo 2048 n + u.val) : Blk 1 r τ (fun u => ad (l.val + 64 * tile 16 n) u) :=
  mkBlk (len := 2048) (c := 0) (r' := n * 128 + l.val) (b := lo 2048 n) (by omega) rfl (by omega) r (by omega) τ
    (fun u => by rw [hτ]; omega) _ (fun u => by rw [shift1 n hn, ad_shift]) (fun t ht h => cov1 n l t l.isLt hn ht h)

section
variable (arg4 : Memref sig .tc .vmem S4x128x256 .f32) (arg6 : Memref sig .tc .vmem S3x4x2048x128 .f32)
  (X4 : BufTy.Contents (Elt Ideal) arg4.view.ty) (X6 : BufTy.Contents (Elt Ideal) arg6.view.ty)
  (P : Fin 3 → Fin 4 → Fin 2048 → Fin 128 → ℝ)
  (h4 : ∀ t l u, arg4.view.read (Elt Ideal) X4 (ix3 t l u) = dtab t l u)
  (h6 : ∀ p h r d, arg6.view.read (Elt Ideal) X6 (ix4 p h r d) = ((P p h r d : ℝ) : EReal))

section
include h6
/-- Rows of the projections loaded at a stride, 128 of them. -/
theorem rd128 (s : ℕ) (off : Fin 4 → ℕ) (inb) (p : Fin 3) (h : Fin 4) (b : ℕ) (ho : off = ![p.val, h.val, b, 0]) (l d : Fin 128) (r : Fin 2048)
    (hr : r.val = b + s * l.val) :
    (View.readAt (Elt Ideal) arg6.view ⟨off, S1x1x128x128.size, ![1, 1, s, 1], inb⟩ X6 (ix4 0 0 l d) : EReal) = ((P p h r d : ℝ) : EReal) := by
  subst ho
  rw [View.readAt_apply, ← h6]
  congr 1
  funext a
  refine Fin.ext ?_
  fin_cases a
  · show p.val + 1 * 0 = p.val; omega
  · show h.val + 1 * 0 = h.val; omega
  · exact hr.symm
  · show 0 + 1 * d.val = d.val; omega

/-- Rows of the projections loaded at a stride, 256 of them. -/
theorem rd256 (s : ℕ) (off : Fin 4 → ℕ) (inb) (p : Fin 3) (h : Fin 4) (b : ℕ) (ho : off = ![p.val, h.val, b, 0]) (l : Fin 256) (d : Fin 128) (r : Fin 2048)
    (hr : r.val = b + s * l.val) :
    (View.readAt (Elt Ideal) arg6.view ⟨off, S1x1x256x128.size, ![1, 1, s, 1], inb⟩ X6 (ix4 0 0 l d) : EReal) = ((P p h r d : ℝ) : EReal) := by
  subst ho
  rw [View.readAt_apply, ← h6]
  congr 1
  funext a
  refine Fin.ext ?_
  fin_cases a
  · show p.val + 1 * 0 = p.val; omega
  · show h.val + 1 * 0 = h.val; omega
  · exact hr.symm
  · show 0 + 1 * d.val = d.val; omega
end

include h4 in
/-- The distance tile of 128 keys. -/
theorem rdD1 (l u : Fin 128) :
    (View.readAt (Elt Ideal) arg4.view (Rect.unit (s := S4x128x256) ![3, 0, 0] S1x128x128.size inb_S4x128x256_S1x128x128_3_0_0).toLoadRect X4 (ix3 0 l u) : EReal)
      = dent (ad l u) := by
  have e : dtab 3 l ⟨u.val, by omega⟩ = dent (ad l u) := by
    unfold dtab; exact (if_pos (show (3 : Fin 4).val = 3 from rfl)).trans (if_pos u.isLt)
  rw [View.readAt_apply, ← e, ← h4]
  congr 1
  funext a
  refine Fin.ext ?_
  fin_cases a
  · rfl
  · show 0 + 1 * l.val = l.val; omega
  · show 0 + 1 * u.val = u.val; omega

include h4 in
/-- A distance tile of 256 keys. -/
theorem rdD2 (off : Fin 3 → ℕ) (inb) (t : ℕ) (ht : t < 3) (ho : off = ![t, 0, 0]) (l : Fin 128) (u : Fin 256) :
    (View.readAt (Elt Ideal) arg4.view (Rect.unit (s := S4x128x256) off S1x128x256.size inb).toLoadRect X4 (ix3 0 l u) : EReal)
      = dent (ad (l.val + 64 * t) u) := by
  have e : dtab ⟨t, by omega⟩ l u = dent (ad (l.val + 64 * t) u) := by
    unfold dtab; rw [if_neg (by show ¬ t = 3; omega)]
  subst ho
  rw [View.readAt_apply, ← e, ← h4]
  congr 1
  funext a
  refine Fin.ext ?_
  fin_cases a
  · show t + 1 * 0 = t; omega
  · show 0 + 1 * l.val = l.val; omega
  · show 0 + 1 * u.val = u.val; omega

include h4 h6 in
/-- The scores of a trip of the loop of dilation 16. -/
theorem ts1_at (k : Fin k0_t1_loop.trips) (h : Fin 4) (l u : Fin 128) (r t : Fin 2048) (hr : r.val = k.val + 16 * l.val) (ht : t.val = k.val + 16 * u.val)
    (cf : ℝ) (hcw : Ideal.ofBits .f32 (cw1 h) = (cf : EReal)) :
    (ts1 arg4 arg6 X4 X6 k h (ix2 l u) : EReal) = ((dotp P h r t : ℝ) : EReal) + dent (ad l u) * (cf : EReal) := by
  unfold ts1
  rw [sc1_at, rdD1 arg4 X4 h4, hcw, dotp, coe_sum]
  congr 1
  refine Finset.sum_congr rfl fun d _ => ?_
  rw [EReal.coe_mul, rd128 arg6 X6 P h6 16 _ _ 0 h k.val (qo1_eq k h) l d r hr, rd128 arg6 X6 P h6 16 _ _ 1 h k.val (ko1_eq k h) u d t ht]

include h4 h6 in
/-- The scores of a trip of the loop of dilation 4. -/
theorem ts2_at (k : Fin k0_t2_loop.trips) (h : Fin 4) (l : Fin 128) (u : Fin 256) (r t : Fin 2048)
    (hr : r.val = k.val / 4 + k.val % 4 * 512 + 4 * l.val) (ht : t.val = k.val / 4 + lo 512 (k.val % 4) * 4 + 4 * u.val)
    (cf : ℝ) (hcw : Ideal.ofBits .f32 (cw2 h) = (cf : EReal)) :
    (ts2 arg4 arg6 X4 X6 k h (ix2 l u) : EReal) = ((dotp P h r t : ℝ) : EReal) + dent (ad (l.val + 64 * tile 4 (k.val % 4)) u) * (cf : EReal) := by
  have hti : tile 4 (k.val % 4) < 3 := by unfold tile; split_ifs <;> omega
  unfold ts2
  rw [sc2_at, rdD2 arg4 X4 h4 _ _ _ hti (do2_eq k), hcw, dotp, coe_sum]
  congr 1
  refine Finset.sum_congr rfl fun d _ => ?_
  rw [EReal.coe_mul, rd128 arg6 X6 P h6 4 _ _ 0 h _ (qo2_eq k h) l d r hr, rd256 arg6 X6 P h6 4 _ _ 1 h _ (ko2_eq k h) u d t ht]
end

end Cert.KernelIdeal.Attn

end
-- ==== Proof.Attn.RefPure.lean ====
/- The reference of the attention call: one dilation's masked softmax and the combination of the three, read at an entry. -/
module

public import proofs.«01_k».proof.Proof.Scalars
public import proofs.«01_k».proof.Proof.Gen.ReferenceIdeal.Run

@[expose] public section

set_option maxRecDepth 16384
set_option maxHeartbeats 1000000

noncomputable section

namespace Cert.AttnRef

open Idealize.ShloMosaic Idealize.ShloMosaic.TcCoe Idealize.SL.Sem
open Cert.ReferenceIdeal Cert.ReferenceIdeal.Gen

/-- The projections of queries, keys and values. -/
def projs (x : FVec Ideal S8x2048x1024 .f32) (w : FVec Ideal S1x1024x9728 .f32) (b : FVec Ideal S1x9728 .f32) : FVec Ideal S8x2048x4608 .f32 :=
  extractStridedSlice S8x2048x4608 ![0, 0, 0] (addf (Host.dotGeneral dot_S8x2048x1024_S1024x9728_S8x2048x9728_2_0_01_1_n_n none x (shapeCast _ w shapeCasts_S1x1024x9728_S1024x9728)) (broadcastInDim S8x2048x9728 ![0, 1, 2] bcast_S1x1x9728_S8x2048x9728_0_1_2 (broadcastInDim S1x1x9728 ![2] bcast_S9728_S1x1x9728_2 (shapeCast _ b shapeCasts_S1x9728_S9728)))) slices_S8x2048x9728_S8x2048x4608_0_0_0

/-- The part of the projections that starts at column `off 2`, its columns told by group, head and lane. -/
def part (off : Fin 3 → ℕ) (ho : S8x2048x4608.Slices off S8x2048x1536) (p : FVec Ideal S8x2048x4608 .f32) : FVec Ideal S8x2048x3x4x128 .f32 :=
  shapeCast _ (extractStridedSlice S8x2048x1536 off p ho) shapeCasts_S8x2048x1536_S8x2048x3x4x128

/-- One group of such a part. -/
def grp (off : Fin 5 → ℕ) (ho : S8x2048x3x4x128.Slices off S8x2048x1x4x128) (p : FVec Ideal S8x2048x3x4x128 .f32) : FVec Ideal S8x2048x4x128 .f32 :=
  shapeCast _ (extractStridedSlice S8x2048x1x4x128 off p ho) shapeCasts_S8x2048x1x4x128_S8x2048x4x128

/-- The slopes, group by group. -/
def slopes : FVec Ideal S3x4 .f32 := shapeCast _ ((fun i => FloatOps.ofBits .f32 (Cert.ReferenceIdeal.lit0 (S12.rowMajor i)) : FVec Ideal S12 .f32)) shapeCasts_S12_S3x4

/-- The slopes of one group. -/
def slp (off : Fin 2 → ℕ) (ho : S3x4.Slices off S1x4) : FVec Ideal S4 .f32 :=
  shapeCast _ (extractStridedSlice S1x4 off slopes ho) shapeCasts_S1x4_S4

/-- The distance of two positions. -/
def dst : IVec S2048x2048 32 := absi (subi (iotaInDim S2048x2048 32 0) (iotaInDim S2048x2048 32 1))

/-- Which keys a query attends to. -/
def msk (rad dl : BitVec 32) : IVec S2048x2048 1 :=
  andi (cmpi .sle dst (broadcastInDim S2048x2048 ![] bcast_S_S2048x2048 (constantI S_ 32 rad))) (cmpi .eq (Host.remsi dst (broadcastInDim S2048x2048 ![] bcast_S_S2048x2048 (constantI S_ 32 dl))) (broadcastInDim S2048x2048 ![] bcast_S_S2048x2048 (constantI S_ 32 0#32)))

/-- The masked scores of one group. -/
def scr (rad dl : BitVec 32) (q k : FVec Ideal S8x2048x4x128 .f32) (sl : FVec Ideal S4 .f32) : FVec Ideal S8x4x2048x2048 .f32 :=
  select (broadcastInDim S8x4x2048x2048 ![0, 1, 2, 3] bcast_S1x1x2048x2048_S8x4x2048x2048_0_1_2_3 (broadcastInDim S1x1x2048x2048 ![2, 3] bcast_S2048x2048_S1x1x2048x2048_2_3 (msk rad dl))) (addf (mulf (Host.dotGeneral dot_S8x2048x4x128_S8x2048x4x128_S8x4x2048x2048_3_3_1_1_02_02 none q k) (broadcastInDim S8x4x2048x2048 ![] bcast_S_S8x4x2048x2048 (constant S_ .f32 0x3DB504F3#32))) (broadcastInDim S8x4x2048x2048 ![0, 1, 2, 3] bcast_S1x4x2048x2048_S8x4x2048x2048_0_1_2_3 (broadcastInDim S1x4x2048x2048 ![1, 2, 3] bcast_S4x2048x2048_S1x4x2048x2048_1_2_3 (mulf (broadcastInDim S4x2048x2048 ![0, 1, 2] bcast_S4x1x1_S4x2048x2048_0_1_2 (Host.negf (broadcastInDim S4x1x1 ![0] bcast_S4_S4x1x1_0 sl))) (broadcastInDim S4x2048x2048 ![0, 1, 2] bcast_S1x2048x2048_S4x2048x2048_0_1_2 (broadcastInDim S1x2048x2048 ![1, 2] bcast_S2048x2048_S1x2048x2048_1_2 (sitofp .f32 dst))))))) (broadcastInDim S8x4x2048x2048 ![] bcast_S_S8x4x2048x2048 (id (constant S_ .f32 0xFF800000#32)))

/-- The largest score of each row. -/
def mxr (s : FVec Ideal S8x4x2048x2048 .f32) : FVec Ideal S8x4x2048x1 .f32 :=
  broadcastInDim S8x4x2048x1 ![0, 1, 2] bcast_S8x4x2048_S8x4x2048x1_0_1_2 (Host.reduce FloatOps.maximumf s (constant S_ .f32 0xFF800000#32) reducesTo_S8x4x2048x2048_S8x4x2048_d3 h_S_)

/-- The exponentials of the scores lowered by the row's largest. -/
def per (s : FVec Ideal S8x4x2048x2048 .f32) : FVec Ideal S8x4x2048x2048 .f32 :=
  Host.exp (subf s (broadcastInDim S8x4x2048x2048 ![0, 1, 2, 3] bcast_S8x4x2048x1_S8x4x2048x2048_0_1_2_3 (mxr s)))

/-- Their sums. -/
def der (s : FVec Ideal S8x4x2048x2048 .f32) : FVec Ideal S8x4x2048x1 .f32 :=
  broadcastInDim S8x4x2048x1 ![0, 1, 2] bcast_S8x4x2048_S8x4x2048x1_0_1_2 (Host.reduceAdd (per s) (constant S_ .f32 0x00000000#32) reducesTo_S8x4x2048x2048_S8x4x2048_d3 h_S_)

/-- The logarithms of the sums of the exponentials. -/
def lse (s : FVec Ideal S8x4x2048x2048 .f32) : FVec Ideal S1x8x2048x4 .f32 :=
  broadcastInDim S1x8x2048x4 ![1, 2, 3] bcast_S8x2048x4_S1x8x2048x4_1_2_3 (transpose S8x2048x4 [0, 2, 1] (shapeCast _ (addf (mxr s) (Host.log (der s))) shapeCasts_S8x4x2048x1_S8x4x2048) transposes_S8x4x2048_S8x2048x4_0_2_1)

/-- The outputs of one group. -/
def otr (s : FVec Ideal S8x4x2048x2048 .f32) (v : FVec Ideal S8x2048x4x128 .f32) : FVec Ideal S1x8x2048x4x128 .f32 :=
  broadcastInDim S1x8x2048x4x128 ![1, 2, 3, 4] bcast_S8x2048x4x128_S1x8x2048x4x128_1_2_3_4 (transpose S8x2048x4x128 [0, 3, 1, 2] (Host.dotGeneral dot_S8x2048x4x128_S8x4x2048x2048_S8x4x128x2048_1_3_3_2_02_01 none v (Host.divf (per s) (broadcastInDim S8x4x2048x2048 ![0, 1, 2, 3] bcast_S8x4x2048x1_S8x4x2048x2048_0_1_2_3 (der s)))) transposes_S8x4x128x2048_S8x2048x4x128_0_3_1_2)

/-- The three groups' logarithms together. -/
def cat (a b c : FVec Ideal S1x8x2048x4 .f32) : FVec Ideal S3x8x2048x4 .f32 :=
  concatenate S3x8x2048x4 0 [⟨S1x8x2048x4, a⟩, ⟨S1x8x2048x4, b⟩, ⟨S1x8x2048x4, c⟩] concatenates_S1x8x2048x4_S1x8x2048x4_S1x8x2048x4_S3x8x2048x4_d0

/-- The three groups' outputs together. -/
def cato (a b c : FVec Ideal S1x8x2048x4x128 .f32) : FVec Ideal S3x8x2048x4x128 .f32 :=
  concatenate S3x8x2048x4x128 0 [⟨S1x8x2048x4x128, a⟩, ⟨S1x8x2048x4x128, b⟩, ⟨S1x8x2048x4x128, c⟩] concatenates_S1x8x2048x4x128_S1x8x2048x4x128_S1x8x2048x4x128_S3x8x2048x4x128_d0

/-- The exponentials over the groups. -/
def gex (l : FVec Ideal S3x8x2048x4 .f32) : FVec Ideal S3x8x2048x4 .f32 :=
  Host.exp (subf l (broadcastInDim S3x8x2048x4 ![0, 1, 2, 3] bcast_S1x8x2048x4_S3x8x2048x4_0_1_2_3 (broadcastInDim S1x8x2048x4 ![1, 2, 3] bcast_S8x2048x4_S1x8x2048x4_1_2_3 (maximumf (broadcastInDim S8x2048x4 ![] bcast_S_S8x2048x4 (constant S_ .f32 0xFF800000#32)) (Host.reduce FloatOps.maximumf l (constant S_ .f32 0xFF800000#32) reducesTo_S3x8x2048x4_S8x2048x4_d0 h_S_)))))

/-- The weights of the groups. -/
def gwt (l : FVec Ideal S3x8x2048x4 .f32) : FVec Ideal S3x8x2048x4 .f32 :=
  Host.divf (gex l) (broadcastInDim S3x8x2048x4 ![0, 1, 2, 3] bcast_S1x8x2048x4_S3x8x2048x4_0_1_2_3 (broadcastInDim S1x8x2048x4 ![1, 2, 3] bcast_S8x2048x4_S1x8x2048x4_1_2_3 (Host.reduceAdd (gex l) (constant S_ .f32 0x00000000#32) reducesTo_S3x8x2048x4_S8x2048x4_d0 h_S_)))

/-- The combination of the groups. -/
def mixd (l : FVec Ideal S3x8x2048x4 .f32) (o : FVec Ideal S3x8x2048x4x128 .f32) : FVec Ideal S8x2048x512 .bf16 :=
  truncf .bf16 (shapeCast _ (Host.dotGeneral dot_S3x8x2048x4_S3x8x2048x4x128_S8x2048x4x128_0_0_n_4_123_123 none (gwt l) o) shapeCasts_S8x2048x4x128_S8x2048x512) bitsLt_bf16_f32

section
variable (p : FVec Ideal S8x2048x4608 .f32)

/-- The masked scores of the three groups. -/
def s0 : FVec Ideal S8x4x2048x2048 .f32 := scr 64#32 1#32 (grp ![0, 0, 0, 0, 0] slices_S8x2048x3x4x128_S8x2048x1x4x128_0_0_0_0_0 (part ![0, 0, 0] slices_S8x2048x4608_S8x2048x1536_0_0_0 p)) (grp ![0, 0, 0, 0, 0] slices_S8x2048x3x4x128_S8x2048x1x4x128_0_0_0_0_0 (part ![0, 0, 1536] slices_S8x2048x4608_S8x2048x1536_0_0_1536 p)) (slp ![0, 0] slices_S3x4_S1x4_0_0)
@[inherit_doc s0] def s1 : FVec Ideal S8x4x2048x2048 .f32 := scr 256#32 4#32 (grp ![0, 0, 1, 0, 0] slices_S8x2048x3x4x128_S8x2048x1x4x128_0_0_1_0_0 (part ![0, 0, 0] slices_S8x2048x4608_S8x2048x1536_0_0_0 p)) (grp ![0, 0, 1, 0, 0] slices_S8x2048x3x4x128_S8x2048x1x4x128_0_0_1_0_0 (part ![0, 0, 1536] slices_S8x2048x4608_S8x2048x1536_0_0_1536 p)) (slp ![1, 0] slices_S3x4_S1x4_1_0)
@[inherit_doc s0] def s2 : FVec Ideal S8x4x2048x2048 .f32 := scr 1024#32 16#32 (grp ![0, 0, 2, 0, 0] slices_S8x2048x3x4x128_S8x2048x1x4x128_0_0_2_0_0 (part ![0, 0, 0] slices_S8x2048x4608_S8x2048x1536_0_0_0 p)) (grp ![0, 0, 2, 0, 0] slices_S8x2048x3x4x128_S8x2048x1x4x128_0_0_2_0_0 (part ![0, 0, 1536] slices_S8x2048x4608_S8x2048x1536_0_0_1536 p)) (slp ![2, 0] slices_S3x4_S1x4_2_0)

/-- The reference's result from the projections. -/
def out : FVec Ideal S8x2048x512 .bf16 :=
  mixd (cat (lse (s0 p)) (lse (s1 p)) (lse (s2 p)))
    (cato (otr (s0 p) (grp ![0, 0, 0, 0, 0] slices_S8x2048x3x4x128_S8x2048x1x4x128_0_0_0_0_0 (part ![0, 0, 3072] slices_S8x2048x4608_S8x2048x1536_0_0_3072 p)))
      (otr (s1 p) (grp ![0, 0, 1, 0, 0] slices_S8x2048x3x4x128_S8x2048x1x4x128_0_0_1_0_0 (part ![0, 0, 3072] slices_S8x2048x4608_S8x2048x1536_0_0_3072 p)))
      (otr (s2 p) (grp ![0, 0, 2, 0, 0] slices_S8x2048x3x4x128_S8x2048x1x4x128_0_0_2_0_0 (part ![0, 0, 3072] slices_S8x2048x4608_S8x2048x1536_0_0_3072 p))))
end

/-- The reference's run leaves `out` of the projections, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v182) = out (projs (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1, (h c).2⟩) (Cert.ReferenceIdeal.Value.run (F := Ideal) m ρ)

end Cert.AttnRef

end
-- ==== Proof.Attn.RefAt.lean ====
/- The entries of the attention reference's terms, over the extended reals. -/
module

public import proofs.«01_k».proof.Proof.Attn.RefPure
public import proofs.«01_k».proof.Proof.Attn.Blocks

@[expose] public section

set_option maxRecDepth 16384

noncomputable section

namespace Cert.AttnRef

open Idealize.ShloMosaic Idealize.ShloMosaic.TcCoe Idealize.SL.Sem
open Cert.ReferenceIdeal Cert.ReferenceIdeal.Gen Cert.Online

theorem negInf : Ideal.ofBits .f32 0xFF800000#32 = ⊥ := by simp [Ideal.ofBits, Ideal.ieee]

/-- The distance of two positions, as a word. -/
theorem absi_sub (r t : Fin 2048) : IntOp.absi (IntOp.subi (BitVec.ofNat 32 r) (BitVec.ofNat 32 t)) = BitVec.ofNat 32 (ad r t) := by
  have hr := r.isLt
  have ht := t.isLt
  unfold IntOp.absi IntOp.subi ad
  by_cases h : t.val ≤ r.val
  · have e : BitVec.ofNat 32 r.val - BitVec.ofNat 32 t.val = BitVec.ofNat 32 (r.val - t.val) := by
      apply BitVec.eq_of_toNat_eq
      simp only [BitVec.toNat_sub, BitVec.toNat_ofNat]
      omega
    rw [e, show t.val - r.val = 0 by omega, Nat.add_zero, if_neg]
    simp only [BitVec.msb_eq_decide, BitVec.toNat_ofNat, decide_eq_true_eq]
    omega
  · have e : BitVec.ofNat 32 r.val - BitVec.ofNat 32 t.val = -BitVec.ofNat 32 (t.val - r.val) := by
      apply BitVec.eq_of_toNat_eq
      simp only [BitVec.toNat_sub, BitVec.toNat_neg, BitVec.toNat_ofNat]
      omega
    rw [e, show r.val - t.val = 0 by omega, Nat.zero_add, if_pos, BitVec.neg_neg]
    simp only [BitVec.msb_eq_decide, BitVec.toNat_neg, BitVec.toNat_ofNat, decide_eq_true_eq]
    omega

theorem toInt_ad (n : ℕ) (hn : n < 2048) : (BitVec.ofNat 32 n).toInt = n := by
  rw [BitVec.toInt_eq_toNat_cond]
  simp only [BitVec.toNat_ofNat]
  split_ifs <;> omega

theorem dst_at (r t : Fin 2048) : dst (ix2 r t) = BitVec.ofNat 32 (ad r t) := by
  refine Eq.trans (b := IntOp.absi (IntOp.subi (BitVec.ofNat 32 r) (BitVec.ofNat 32 t))) ?_ (absi_sub r t)
  pointwise [dst]

/-- The mask's word for a distance. -/
def mword (rad dl : BitVec 32) (n : ℕ) : BitVec 1 :=
  IntOp.andi (IntOp.cmpi CmpIPredicate.sle (BitVec.ofNat 32 n) rad) (IntOp.cmpi CmpIPredicate.eq (IntOp.remsi ArithUnit.host (BitVec.ofNat 32 n) dl) 0#32)

theorem mword1 : ∀ n : Fin 2048, mword 64#32 1#32 n = if n.val ≤ 64 * 1 ∧ 1 ∣ n.val then 1 else 0 := by decide +kernel
theorem mword4 : ∀ n : Fin 2048, mword 256#32 4#32 n = if n.val ≤ 64 * 4 ∧ 4 ∣ n.val then 1 else 0 := by decide +kernel
theorem mword16 : ∀ n : Fin 2048, mword 1024#32 16#32 n = if n.val ≤ 64 * 16 ∧ 16 ∣ n.val then 1 else 0 := by decide +kernel

theorem msk_at (rad dl : BitVec 32) (r t : Fin 2048) : msk rad dl (ix2 r t) = mword rad dl (ad r t) := by
  unfold mword
  rw [← dst_at]
  pointwise [msk]

theorem scr_at (rad dl : BitVec 32) (q k : FVec Ideal S8x2048x4x128 .f32) (sl : FVec Ideal S4 .f32) (b : Fin 8) (h : Fin 4) (r t : Fin 2048) :
    (scr rad dl q k sl (ix4 b h r t) : EReal) = Scalar.select (mword rad dl (ad r t))
      ((∑ x, q (ix4 b r h x) * k (ix4 b t h x)) * Ideal.ofBits FTy.f32 0x3DB504F3#32 + -sl (ix1 h) * (((ad r t : ℕ) : ℝ) : EReal)) ⊥ := by
  have e : (FloatOps.sitofp (F := Ideal) FTy.f32 (dst (ix2 r t)) : EReal) = (((ad r t : ℕ) : ℝ) : EReal) := by
    rw [dst_at]
    show (((BitVec.ofNat 32 (ad r t)).toInt : ℝ) : EReal) = _
    rw [toInt_ad _ (by unfold ad; omega)]
    norm_cast
  rw [← e, ← msk_at, ← negInf]
  pointwise [scr]
  rfl

theorem per_at (s : FVec Ideal S8x4x2048x2048 .f32) (b : Fin 8) (h : Fin 4) (r t : Fin 2048) :
    (per s (ix4 b h r t) : EReal) = Ideal.exp (s (ix4 b h r t) - Finset.fold max ⊥ (fun x => s (ix4 b h r x)) Finset.univ) := by
  rw [← negInf]
  pointwise [per, mxr]

theorem der_at (s : FVec Ideal S8x4x2048x2048 .f32) (b : Fin 8) (h : Fin 4) (r : Fin 2048) : (der s (ix4 b h r 0) : EReal) = ∑ x, per s (ix4 b h r x) := by
  pointwise [der]

theorem mxr_at (s : FVec Ideal S8x4x2048x2048 .f32) (b : Fin 8) (h : Fin 4) (r : Fin 2048) :
    (mxr s (ix4 b h r 0) : EReal) = Finset.fold max ⊥ (fun x => s (ix4 b h r x)) Finset.univ := by
  rw [← negInf]
  pointwise [mxr]

theorem otr_at (s : FVec Ideal S8x4x2048x2048 .f32) (v : FVec Ideal S8x2048x4x128 .f32) (b : Fin 8) (h : Fin 4) (r : Fin 2048) (d : Fin 128) :
    (otr s v (ix5 0 b r h d) : EReal) = ∑ x, v (ix4 b x h d) * Ideal.div (per s (ix4 b h r x)) (der s (ix4 b h r 0)) := by
  pointwise [otr]

theorem cat_at (x y z : FVec Ideal S1x8x2048x4 .f32) (b : Fin 8) (h : Fin 4) (r : Fin 2048) (g : Fin 3) :
    (cat x y z (ix4 g b r h) : EReal) = ![x (ix4 0 b r h), y (ix4 0 b r h), z (ix4 0 b r h)] g := by
  pointwise [cat]
  fin_cases g <;> rfl

theorem cato_at (x y z : FVec Ideal S1x8x2048x4x128 .f32) (b : Fin 8) (h : Fin 4) (r : Fin 2048) (g : Fin 3) (d : Fin 128) :
    (cato x y z (ix5 g b r h d) : EReal) = ![x (ix5 0 b r h d), y (ix5 0 b r h d), z (ix5 0 b r h d)] g := by
  pointwise [cato]
  fin_cases g <;> rfl

theorem gex_at (l : FVec Ideal S3x8x2048x4 .f32) (b : Fin 8) (h : Fin 4) (r : Fin 2048) (g : Fin 3) :
    (gex l (ix4 g b r h) : EReal) = Ideal.exp (l (ix4 g b r h) - max ⊥ (Finset.fold max ⊥ (fun x => l (ix4 x b r h)) Finset.univ)) := by
  rw [← negInf]
  pointwise [gex]

theorem gwt_at (l : FVec Ideal S3x8x2048x4 .f32) (b : Fin 8) (h : Fin 4) (r : Fin 2048) (g : Fin 3) :
    (gwt l (ix4 g b r h) : EReal) = Ideal.div (gex l (ix4 g b r h)) (∑ x, gex l (ix4 x b r h)) := by
  pointwise [gwt]

theorem mixd_at (l : FVec Ideal S3x8x2048x4 .f32) (o : FVec Ideal S3x8x2048x4x128 .f32) (b : Fin 8) (r : Fin 2048) (h : Fin 4) (d : Fin 128) (j : Fin 512) (hj : j.val = h.val * 128 + d.val) :
    mixd l o (ix3 b r j) = (∑ x, gwt l (ix4 x b r h) * o (ix5 x b r h d) : EReal) := by
  have e1 : (⟨j.val / 128, by omega⟩ : Fin 4) = h := Fin.ext (by show j.val / 128 = h.val; omega)
  have e2 : (⟨j.val % 128, by omega⟩ : Fin 128) = d := Fin.ext (by show j.val % 128 = d.val; omega)
  refine Eq.trans (b := (∑ x, gwt l (ix4 x b r ⟨j.val / 128, by omega⟩) * o (ix5 x b r ⟨j.val / 128, by omega⟩ ⟨j.val % 128, by omega⟩) : EReal)) ?_ ?_
  · pointwise [mixd]
  · rw [e1, e2]

end Cert.AttnRef

end
-- ==== Proof.Attn.RefVal.lean ====
/- The attention reference under real projections: one dilation's output and the logarithm of its denominator, and the
   softmax over the three dilations, which leaves the quotient of the sums of all three. -/
module

public import proofs.«01_k».proof.Proof.Attn.RefAt

@[expose] public section

set_option maxRecDepth 16384

noncomputable section

namespace Cert.AttnRef

open Idealize.ShloMosaic Idealize.ShloMosaic.TcCoe Idealize.SL.Sem
open Cert.ReferenceIdeal Cert.ReferenceIdeal.Gen Cert.Online

theorem unit_at (Y : FVec Ideal S8x4x2048x1 .f32) (b : Fin 8) (h : Fin 4) (r : Fin 2048) :
    (shapeCast S8x4x2048 Y shapeCasts_S8x4x2048x1_S8x4x2048) (ix3 b h r) = Y (ix4 b h r 0) := by
  pointwise

theorem turn_at (Y : FVec Ideal S8x4x2048 .f32) (b : Fin 8) (h : Fin 4) (r : Fin 2048) :
    broadcastInDim S1x8x2048x4 ![1, 2, 3] bcast_S8x2048x4_S1x8x2048x4_1_2_3 (transpose S8x2048x4 [0, 2, 1] Y transposes_S8x4x2048_S8x2048x4_0_2_1) (ix4 0 b r h)
      = Y (ix3 b h r) := by
  pointwise

theorem logs_at (M D : FVec Ideal S8x4x2048x1 .f32) (b : Fin 8) (h : Fin 4) (r : Fin 2048) :
    (broadcastInDim S1x8x2048x4 ![1, 2, 3] bcast_S8x2048x4_S1x8x2048x4_1_2_3 (transpose S8x2048x4 [0, 2, 1] (shapeCast _ (addf M (Host.log D)) shapeCasts_S8x4x2048x1_S8x4x2048) transposes_S8x4x2048_S8x2048x4_0_2_1) (ix4 0 b r h) : EReal)
      = M (ix4 b h r 0) + Ideal.log (D (ix4 b h r 0)) := by
  rw [turn_at, unit_at]
  rfl

theorem lse_at (s : FVec Ideal S8x4x2048x2048 .f32) (b : Fin 8) (h : Fin 4) (r : Fin 2048) :
    (lse s (ix4 0 b r h) : EReal) = mxr s (ix4 b h r 0) + Ideal.log (der s (ix4 b h r 0)) := by
  unfold lse
  exact logs_at (mxr s) (der s) b h r

attribute [local irreducible] scr per der mxr lse otr gex gwt mixd

/-- The scaled inner products of queries and keys. -/
def dotq (sc : ℝ) (Q K : Fin 2048 → Fin 128 → ℝ) (r t : Fin 2048) : ℝ := ∑ d, Q r d * sc * K t d

section
variable (rad dl : BitVec 32) (dil : ℕ) (hd : 0 < dil)
  (hm : ∀ n : Fin 2048, mword rad dl n = if n.val ≤ 64 * dil ∧ dil ∣ n.val then 1 else 0)
  (q k v : FVec Ideal S8x2048x4x128 .f32) (sl : FVec Ideal S4 .f32) (b : Fin 8) (h : Fin 4)
  (Q K V : Fin 2048 → Fin 128 → ℝ) (sc st cf : ℝ)
  (hsc : Ideal.ofBits FTy.f32 0x3DB504F3#32 = (sc : EReal))
  (hst : sl (ix1 h) = (st : EReal)) (hcf : cf = -st * dil)
  (hq : ∀ r d, q (ix4 b r h d) = (Q r d : EReal)) (hk : ∀ r d, k (ix4 b r h d) = (K r d : EReal)) (hv : ∀ r d, v (ix4 b r h d) = (V r d : EReal))
  (r : Fin 2048)

include hd hm hsc hst hcf hq hk

/-- The masked score of a key. -/
theorem scr_real (t : Fin 2048) : (scr rad dl q k sl (ix4 b h r t) : EReal)
    = if ad r t ≤ 64 * dil ∧ dil ∣ ad r t then ((dotq sc Q K r t + ((ad r t / dil : ℕ) : ℝ) * cf : ℝ) : EReal) else ⊥ := by
  have hn : ad r t < 2048 := by unfold ad; omega
  rw [scr_at, hm ⟨ad r t, hn⟩]
  dsimp only
  split_ifs with hc
  · rw [Scalar.select_of_eq_one rfl, hsc, hst]
    obtain ⟨e, he⟩ := hc.2
    have e1 : (∑ x, q (ix4 b r h x) * k (ix4 b t h x) : EReal) = ((∑ x, Q r x * K t x : ℝ) : EReal) := by
      rw [coe_sum]; exact Finset.sum_congr rfl fun x _ => by rw [hq, hk, ← EReal.coe_mul]
    rw [e1, ← EReal.coe_neg, ← EReal.coe_mul, ← EReal.coe_mul, ← EReal.coe_add]
    congr 1
    rw [he, Nat.mul_div_cancel_left _ hd, hcf, dotq, Finset.sum_mul]
    push_cast
    rw [show -st * ((dil : ℝ) * e) = (e : ℝ) * (-st * dil) by ring]
    congr 1
    exact Finset.sum_congr rfl fun x _ => by ring
  · rw [Scalar.select_of_eq_zero rfl]

theorem scr_W (t : Fin 2048) : W (scr rad dl q k sl (ix4 b h r t)) = wgt dil cf (dotq sc Q K) r t := by
  rw [scr_real rad dl dil hd hm q k sl b h Q K sc st cf hsc hst hcf hq hk r t, wgt]
  split_ifs
  · exact W_coe _
  · exact W_bot

theorem scr_top (t : Fin 2048) : (scr rad dl q k sl (ix4 b h r t) : EReal) ≠ ⊤ := by
  rw [scr_real rad dl dil hd hm q k sl b h Q K sc st cf hsc hst hcf hq hk r t]
  split_ifs
  · exact EReal.coe_ne_top _
  · exact bot_ne_top

/-- The largest score, and the denominator, of a row. -/
theorem row : ∃ μ : ℝ, Finset.fold max ⊥ (fun x => (scr rad dl q k sl (ix4 b h r x) : EReal)) Finset.univ = (μ : EReal)
    ∧ (∀ t, (per (scr rad dl q k sl) (ix4 b h r t) : EReal) = ((wgt dil cf (dotq sc Q K) r t * Real.exp (-μ) : ℝ) : EReal))
    ∧ (der (scr rad dl q k sl) (ix4 b h r 0) : EReal) = (((∑ t, wgt dil cf (dotq sc Q K) r t) * Real.exp (-μ) : ℝ) : EReal) := by
  have htop := scr_top rad dl dil hd hm q k sl b h Q K sc st cf hsc hst hcf hq hk r
  have hW := scr_W rad dl dil hd hm q k sl b h Q K sc st cf hsc hst hcf hq hk r
  have hbot : ∃ t, (scr rad dl q k sl (ix4 b h r t) : EReal) ≠ ⊥ := ⟨r, by
    rw [scr_real rad dl dil hd hm q k sl b h Q K sc st cf hsc hst hcf hq hk r r,
      show ad r.val r.val = 0 by unfold ad; omega, if_pos ⟨Nat.zero_le _, Nat.dvd_zero _⟩]
    exact EReal.coe_ne_bot _⟩
  obtain ⟨μ, hμ⟩ := fold_real (fun x => (scr rad dl q k sl (ix4 b h r x) : EReal)) htop hbot
  have hp (t : Fin 2048) : (per (scr rad dl q k sl) (ix4 b h r t) : EReal) = ((wgt dil cf (dotq sc Q K) r t * Real.exp (-μ) : ℝ) : EReal) := by
    rw [per_at, hμ, exp_sub _ (htop t), hW]
  refine ⟨μ, hμ, hp, ?_⟩
  rw [der_at, Finset.sum_mul, coe_sum]
  exact Finset.sum_congr rfl fun t _ => hp t

theorem lse_real (hL : 0 < ∑ t, wgt dil cf (dotq sc Q K) r t) :
    (lse (scr rad dl q k sl) (ix4 0 b r h) : EReal) = ((Real.log (∑ t, wgt dil cf (dotq sc Q K) r t) : ℝ) : EReal) := by
  obtain ⟨μ, hμ, -, hd'⟩ := row rad dl dil hd hm q k sl b h Q K sc st cf hsc hst hcf hq hk r
  have hp : 0 < (∑ t, wgt dil cf (dotq sc Q K) r t) * Real.exp (-μ) := mul_pos hL (Real.exp_pos _)
  rw [lse_at, mxr_at, hμ, hd', Ideal.log_coe, if_neg (not_le.mpr hp), ← EReal.coe_add]
  congr 1
  rw [Real.log_mul hL.ne' (Real.exp_pos _).ne', Real.log_exp]
  ring

include hv in
theorem otr_real (hL : 0 < ∑ t, wgt dil cf (dotq sc Q K) r t) (d : Fin 128) :
    (otr (scr rad dl q k sl) v (ix5 0 b r h d) : EReal)
      = (((∑ t, wgt dil cf (dotq sc Q K) r t * V t d) / (∑ t, wgt dil cf (dotq sc Q K) r t) : ℝ) : EReal) := by
  obtain ⟨μ, -, hp, hd'⟩ := row rad dl dil hd hm q k sl b h Q K sc st cf hsc hst hcf hq hk r
  have he : Real.exp (-μ) ≠ 0 := (Real.exp_pos _).ne'
  have hne : (∑ t, wgt dil cf (dotq sc Q K) r t) * Real.exp (-μ) ≠ 0 := mul_ne_zero hL.ne' he
  rw [otr_at, Finset.sum_div, coe_sum]
  refine Finset.sum_congr rfl fun t _ => ?_
  rw [hv, hp, hd', Ideal.div_coe hne, ← EReal.coe_mul, ← EReal.coe_mul]
  congr 1
  field_simp
end

/-- The softmax over the three dilations leaves the quotient of the sums over all three. -/
theorem mixd_real (l : FVec Ideal S3x8x2048x4 .f32) (o : FVec Ideal S3x8x2048x4x128 .f32) (b : Fin 8) (r : Fin 2048) (h : Fin 4) (d : Fin 128) (j : Fin 512)
    (hj : j.val = h.val * 128 + d.val) (A L : Fin 3 → ℝ) (hL : ∀ g, 0 < L g)
    (hl : ∀ g, l (ix4 g b r h) = ((Real.log (L g) : ℝ) : EReal)) (ho : ∀ g, o (ix5 g b r h d) = ((A g / L g : ℝ) : EReal)) :
    (mixd l o (ix3 b r j) : EReal) = (((∑ g, A g) / (∑ g, L g) : ℝ) : EReal) := by
  obtain ⟨μ, hμ⟩ := fold_real (fun x => (l (ix4 x b r h) : EReal)) (fun g => by rw [hl]; exact EReal.coe_ne_top _) ⟨0, by rw [hl]; exact EReal.coe_ne_bot _⟩
  have he : Real.exp (-μ) ≠ 0 := (Real.exp_pos _).ne'
  have hS : 0 < ∑ g, L g := Finset.sum_pos (fun g _ => hL g) Finset.univ_nonempty
  have hne : (∑ g, L g) * Real.exp (-μ) ≠ 0 := mul_ne_zero hS.ne' he
  have hx (g : Fin 3) : (gex l (ix4 g b r h) : EReal) = ((L g * Real.exp (-μ) : ℝ) : EReal) := by
    rw [gex_at, hμ, max_eq_right bot_le, hl, exp_sub _ (EReal.coe_ne_top _), W_coe, Real.exp_log (hL g)]
  have hs : (∑ x, gex l (ix4 x b r h) : EReal) = (((∑ g, L g) * Real.exp (-μ) : ℝ) : EReal) := by
    rw [Finset.sum_mul, coe_sum]
    exact Finset.sum_congr rfl fun g _ => hx g
  rw [mixd_at l o b r h d j hj, Finset.sum_div, coe_sum]
  refine Finset.sum_congr rfl fun g _ => ?_
  rw [gwt_at, hs, hx, ho, Ideal.div_coe hne, ← EReal.coe_mul, ← EReal.coe_mul]
  congr 1
  have := (hL g).ne'
  field_simp

end Cert.AttnRef

end
-- ==== Proof.Attn.Out3.lean ====
/- The pieces one trip of the last loop stores, told by the blocks of `Tiles`. -/
module

public import proofs.«01_k».proof.Proof.Attn.Tiles

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open Idealize.ShloMosaic.Rounds

variable {F : FTy → Type} [FloatOps F]

/-- Where the queries of each head lie in the loop of dilation 1. -/
def qo3 (k : Fin k0_t3_loop.trips) : Fin 4 → Fin 4 → ℕ := ![k0_off35 k, k0_off37 k, k0_off39 k, k0_off41 k]

theorem qo3_inb (k : Fin k0_t3_loop.trips) (h : Fin 4) (a : Fin 4) : qo3 k h a + S1x1x128x128.size a ≤ S3x4x2048x128.size a := by
  fin_cases h
  · exact k0_off35_inb k a
  · exact k0_off37_inb k a
  · exact k0_off39_inb k a
  · exact k0_off41_inb k a

/-- Where the keys of each head lie in the loop of dilation 1. -/
def ko3 (k : Fin k0_t3_loop.trips) : Fin 4 → Fin 4 → ℕ := ![k0_off36 k, k0_off38 k, k0_off40 k, k0_off42 k]

theorem ko3_inb (k : Fin k0_t3_loop.trips) (h : Fin 4) (a : Fin 4) : ko3 k h a + S1x1x256x128.size a ≤ S3x4x2048x128.size a := by
  fin_cases h
  · exact k0_off36_inb k a
  · exact k0_off38_inb k a
  · exact k0_off40_inb k a
  · exact k0_off42_inb k a

/-- Where the values of each head lie in the loop of dilation 1. -/
def vo3 (k : Fin k0_t3_loop.trips) : Fin 4 → Fin 4 → ℕ := ![k0_off47 k, k0_off48 k, k0_off49 k, k0_off50 k]

theorem vo3_inb (k : Fin k0_t3_loop.trips) (h : Fin 4) (a : Fin 4) : vo3 k h a + S1x1x256x128.size a ≤ S3x4x2048x128.size a := by
  fin_cases h
  · exact k0_off47_inb k a
  · exact k0_off48_inb k a
  · exact k0_off49_inb k a
  · exact k0_off50_inb k a

/-- Where the running arrays of each head lie in the loop of dilation 1. -/
def so3 (k : Fin k0_t3_loop.trips) : Fin 4 → Fin 3 → ℕ := ![k0_off43 k, k0_off44 k, k0_off45 k, k0_off46 k]

theorem so3_inb (k : Fin k0_t3_loop.trips) (h : Fin 4) (a : Fin 3) : so3 k h a + S1x128x128.size a ≤ S4x2048x128.size a := by
  fin_cases h
  · exact k0_off43_inb k a
  · exact k0_off44_inb k a
  · exact k0_off45_inb k a
  · exact k0_off46_inb k a

/-- Where the results of each head are stored in the loop of dilation 1. -/
def oo3 (k : Fin k0_t3_loop.trips) : Fin 4 → Fin 3 → ℕ := ![k0_off51 k, k0_off52 k, k0_off53 k, k0_off54 k]

theorem oo3_inb (k : Fin k0_t3_loop.trips) (h : Fin 4) (a : Fin 3) : oo3 k h a + S1x128x128.size a ≤ S1x2048x512.size a := by
  fin_cases h
  · exact k0_off51_inb k a
  · exact k0_off52_inb k a
  · exact k0_off53_inb k a
  · exact k0_off54_inb k a

/-- The coefficient of the distance, head by head, for dilation 1. -/
def cw3 : Fin 4 → BitVec 32 := ![0xBF214518#32, 0xBECB2FF5#32, 0xBE800000#32, 0xBE214518#32]

/-- Four stores of results, one per head, head 0 first in time. -/
def outs (o : Fin 4 → Fin 3 → ℕ) (inb : ∀ h a, o h a + S1x128x128.size a ≤ S1x2048x512.size a) (w : Fin 4 → FVec F S1x128x128 .bf16) :
    List (View.Piece (Elt F) S1x2048x512 .bf16) :=
  [⟨Rect.unit (s := S1x2048x512) (o 3) S1x128x128.size (inb 3), w 3⟩, ⟨Rect.unit (s := S1x2048x512) (o 2) S1x128x128.size (inb 2), w 2⟩,
   ⟨Rect.unit (s := S1x2048x512) (o 1) S1x128x128.size (inb 1), w 1⟩, ⟨Rect.unit (s := S1x2048x512) (o 0) S1x128x128.size (inb 0), w 0⟩]

/-- The quotient of the weighted sums by the denominators. -/
def quo (a l : FVec F S128x128 .f32) : FVec F S1x128x128 .bf16 :=
  shapeCast S1x128x128 (truncf .bf16 (divf a l) bitsLt_bf16_f32) shapeCasts_S128x128_S1x128x128

section
variable (arg4 : Memref sig .tc .vmem S4x128x256 .f32) (arg6 : Memref sig .tc .vmem S3x4x2048x128 .f32)
  (X4 : BufTy.Contents (Elt F) arg4.view.ty) (X6 : BufTy.Contents (Elt F) arg6.view.ty)

/-- The scores of head `h` in trip `k` of the loop of dilation 1. -/
def ts3 (k : Fin k0_t3_loop.trips) (h : Fin 4) : FVec F S128x256 .f32 :=
  sc2 (cw3 h) (View.readAt (Elt F) arg4.view (Rect.unit (s := S4x128x256) (k0_off34 k) S1x128x256.size (k0_off34_inb k)).toLoadRect X4)
    (View.readAt (Elt F) arg6.view (Rect.unit (s := S3x4x2048x128) (qo3 k h) S1x1x128x128.size (qo3_inb k h)).toLoadRect X6)
    (View.readAt (Elt F) arg6.view (Rect.unit (s := S3x4x2048x128) (ko3 k h) S1x1x256x128.size (ko3_inb k h)).toLoadRect X6)

/-- The values of head `h` in that trip. -/
def tv3 (k : Fin k0_t3_loop.trips) (h : Fin 4) : Vec F S1x1x256x128 .f32 :=
  View.readAt (Elt F) arg6.view (Rect.unit (s := S3x4x2048x128) (vo3 k h) S1x1x256x128.size (vo3_inb k h)).toLoadRect X6

/-- The rows of one head of a running array that trip `k` of that loop reads. -/
def old3 (A : Memref sig .tc .vmem S4x2048x128 .f32) (f : BufTy.Contents (Elt F) A.view.ty) (k : Fin k0_t3_loop.trips) (h : Fin 4) : Vec F S1x128x128 .f32 :=
  View.readAt (Elt F) A.view (Rect.unit (s := S4x2048x128) (so3 k h) S1x128x128.size (so3_inb k h)).toLoadRect f
end

/-- What that trip stores of each head. -/
def res3 (arg4 : Memref sig .tc .vmem S4x128x256 .f32) (arg6 : Memref sig .tc .vmem S3x4x2048x128 .f32) (arg7 arg8 arg9 : Memref sig .tc .vmem S4x2048x128 .f32)
    (X4 : BufTy.Contents (Elt F) arg4.view.ty) (X6 : BufTy.Contents (Elt F) arg6.view.ty) (f7 : BufTy.Contents (Elt F) arg7.view.ty)
    (f8 : BufTy.Contents (Elt F) arg8.view.ty) (f9 : BufTy.Contents (Elt F) arg9.view.ty) (k : Fin k0_t3_loop.trips) (h : Fin 4) : FVec F S1x128x128 .bf16 :=
  quo (ac2 (ts3 arg4 arg6 X4 X6 k h) (old3 arg8 f8 k h) (old3 arg7 f7 k h) (tv3 arg6 X6 k h)) (dn2 (ts3 arg4 arg6 X4 X6 k h) (old3 arg8 f8 k h) (old3 arg9 f9 k h))

section
variable {𝒱 : Variants} {c : Dev nD} {bd : Option 𝒱.V} {i : grid0.Coords} {arg1 : Memref sig .tc .vmem S1x2048x1024 .bf16} {harg1 : arg1.IsWhole} {arg2 : Memref sig .tc .vmem S1024x4608 .bf16} {harg2 : arg2.IsWhole} {arg3 : Memref sig .tc .vmem S1x4608 .f32} {harg3 : arg3.IsWhole} {arg4 : Memref sig .tc .vmem S4x128x256 .f32} {harg4 : arg4.IsWhole} {arg5 : Memref sig .tc .vmem S1x2048x512 .bf16} {harg5 : arg5.IsWhole} {arg6 : Memref sig .tc .vmem S3x4x2048x128 .f32} {harg6 : arg6.IsWhole} {arg7 : Memref sig .tc .vmem S4x2048x128 .f32} {harg7 : arg7.IsWhole} {arg8 : Memref sig .tc .vmem S4x2048x128 .f32} {harg8 : arg8.IsWhole} {arg9 : Memref sig .tc .vmem S4x2048x128 .f32} {harg9 : arg9.IsWhole} {X4 : BufTy.Contents (Elt F) arg4.view.ty} {X6 : BufTy.Contents (Elt F) arg6.view.ty} {f7 : BufTy.Contents (Elt F) arg7.view.ty}
    {f8 : BufTy.Contents (Elt F) arg8.view.ty} {f9 : BufTy.Contents (Elt F) arg9.view.ty}

theorem trip3_eq {k : Fin k0_t3_loop.trips} :
    tripL_k0_t3 (F := F) 𝒱 c bd i arg1 harg1 arg2 harg2 arg3 harg3 arg4 harg4 arg5 harg5 arg6 harg6 arg7 harg7 arg8 harg8 arg9 harg9 X4 X6 f7 f8 f9 k
      = outs (oo3 k) (oo3_inb k) (res3 arg4 arg6 arg7 arg8 arg9 X4 X6 f7 f8 f9 k) := by
  unfold tripL_k0_t3 trip_k0_t3; rfl

/-- The stores of the trips before `n`, last first. -/
def outsTo (arg4 : Memref sig .tc .vmem S4x128x256 .f32) (arg6 : Memref sig .tc .vmem S3x4x2048x128 .f32) (arg7 arg8 arg9 : Memref sig .tc .vmem S4x2048x128 .f32)
    (X4 : BufTy.Contents (Elt F) arg4.view.ty) (X6 : BufTy.Contents (Elt F) arg6.view.ty) (f7 : BufTy.Contents (Elt F) arg7.view.ty)
    (f8 : BufTy.Contents (Elt F) arg8.view.ty) (f9 : BufTy.Contents (Elt F) arg9.view.ty) : ℕ → List (View.Piece (Elt F) S1x2048x512 .bf16)
  | 0 => []
  | n + 1 => if hn : n < k0_t3_loop.trips then
      outs (oo3 ⟨n, hn⟩) (oo3_inb ⟨n, hn⟩) (res3 arg4 arg6 arg7 arg8 arg9 X4 X6 f7 f8 f9 ⟨n, hn⟩) ++ outsTo arg4 arg6 arg7 arg8 arg9 X4 X6 f7 f8 f9 n
    else outsTo arg4 arg6 arg7 arg8 arg9 X4 X6 f7 f8 f9 n

theorem pb3_eq (n : ℕ) (hn : n ≤ k0_t3_loop.trips) :
    pb_k0_t3 (F := F) 𝒱 c bd i arg1 harg1 arg2 harg2 arg3 harg3 arg4 harg4 arg5 harg5 arg6 harg6 arg7 harg7 arg8 harg8 arg9 harg9 X4 X6 f7 f8 f9 n
      = outsTo arg4 arg6 arg7 arg8 arg9 X4 X6 f7 f8 f9 n := by
  induction n with
  | zero => rfl
  | succ n ih =>
    refine (pb_k0_t3_succ (F := F) 𝒱 c bd i arg1 harg1 arg2 harg2 arg3 harg3 arg4 harg4 arg5 harg5 arg6 harg6 arg7 harg7 arg8 harg8 arg9 harg9 X4 X6 f7 f8 f9 ⟨n, hn⟩).trans ?_
    refine (congrArg₂ (· ++ ·) trip3_eq (ih (Nat.le_of_succ_le hn))).trans ?_
    rw [outsTo, dif_pos (show n < k0_t3_loop.trips from hn)]
end

end Cert.KernelIdeal.Attn

end
-- ==== Proof.Attn.Step1.lean ====
/- One trip of the loop of dilation 16, over running arrays of any contents. -/
module

public import proofs.«01_k».proof.Proof.Attn.Geom

@[expose] public section

set_option maxRecDepth 16384
set_option maxHeartbeats 2000000

noncomputable section

namespace Cert.KernelIdeal.Attn

open Cert.KernelIdeal Cert.KernelIdeal.Gen Cert.Online
open Idealize.ShloMosaic Idealize.ShloMosaic.TcCoe Idealize.ShloMosaic.Tactic
open Idealize.ShloMosaic.Rounds

/-- The rows of the three running arrays of one head represent a weighted sum and a denominator. -/
def RepAt (arg7 arg8 arg9 : Memref sig .tc .vmem S4x2048x128 .f32) (f7 : BufTy.Contents (Elt Ideal) arg7.view.ty) (f8 : BufTy.Contents (Elt Ideal) arg8.view.ty)
    (f9 : BufTy.Contents (Elt Ideal) arg9.view.ty) (h : Fin 4) (r : Fin 2048) (A : Fin 128 → ℝ) (L : ℝ) : Prop :=
  Rep A L (fun d => arg8.view.read (Elt Ideal) f8 (ix3 h r d)) (fun d => arg9.view.read (Elt Ideal) f9 (ix3 h r d)) (fun d => arg7.view.read (Elt Ideal) f7 (ix3 h r d))

section
variable (arg4 : Memref sig .tc .vmem S4x128x256 .f32) (arg6 : Memref sig .tc .vmem S3x4x2048x128 .f32)
  (arg7 arg8 arg9 : Memref sig .tc .vmem S4x2048x128 .f32)
  (X4 : BufTy.Contents (Elt Ideal) arg4.view.ty) (X6 : BufTy.Contents (Elt Ideal) arg6.view.ty)
  (f7 : BufTy.Contents (Elt Ideal) arg7.view.ty) (f8 : BufTy.Contents (Elt Ideal) arg8.view.ty) (f9 : BufTy.Contents (Elt Ideal) arg9.view.ty)
  (P : Fin 3 → Fin 4 → Fin 2048 → Fin 128 → ℝ)
  (h4 : ∀ t l u, arg4.view.read (Elt Ideal) X4 (ix3 t l u) = dtab t l u)
  (h6 : ∀ p h r d, arg6.view.read (Elt Ideal) X6 (ix4 p h r d) = ((P p h r d : ℝ) : EReal))
  (h : Fin 4) (r : Fin 2048) (cf : ℝ)
  (k : Fin k0_t1_loop.trips)

/-- What a trip of the loop of dilation 16 leaves of the weighted sum, the maximum and the denominator. -/
def a1 : BufTy.Contents (Elt Ideal) arg7.view.ty := arg7.view.writes (Elt Ideal) f7 (four 16 spos_1_16_1 (so1 k) (so1_inb k) (fun h => up (ac1 (ts1 arg4 arg6 X4 X6 k h) (tv1 arg6 X6 k h))))
@[inherit_doc a1] def m1 : BufTy.Contents (Elt Ideal) arg8.view.ty := arg8.view.writes (Elt Ideal) f8 (four 16 spos_1_16_1 (so1 k) (so1_inb k) (fun h => up (mx1 (ts1 arg4 arg6 X4 X6 k h))))
@[inherit_doc a1] def l1 : BufTy.Contents (Elt Ideal) arg9.view.ty := arg9.view.writes (Elt Ideal) f9 (four 16 spos_1_16_1 (so1 k) (so1_inb k) (fun h => up (dn1 (ts1 arg4 arg6 X4 X6 k h))))

include h4 h6 in
theorem hit1 (hcf : cf < 0) (hcw : Ideal.ofBits .f32 (cw1 h) = (cf : EReal)) (hr : r.val % 16 = k.val) :
    RepAt arg7 arg8 arg9 (a1 arg4 arg6 arg7 X4 X6 f7 k) (m1 arg4 arg6 arg8 X4 X6 f8 k) (l1 arg4 arg6 arg9 X4 X6 f9 k) h r
      (fun d => ∑ t, wgt 16 cf (dotp P h) r t * P 2 h t d) (∑ t, wgt 16 cf (dotp P h) r t) := by
  have hk : k.val < 16 := lt_of_lt_of_eq k.isLt trips1
  obtain ⟨l, hl⟩ : ∃ l : Fin 128, r.val = k.val + 16 * l.val := ⟨⟨r.val / 16, by omega⟩, by show r.val = k.val + 16 * (r.val / 16); omega⟩
  obtain ⟨τ, hτ⟩ : ∃ τ : Fin 128 → Fin 2048, ∀ u, (τ u).val = k.val + 16 * u.val := ⟨fun u => ⟨k.val + 16 * u.val, by omega⟩, fun _ => rfl⟩
  have B : Blk 16 r τ (fun u => ad l u) := mkBlk (len := 128) (c := k.val) (r' := l.val) (b := 0) (by omega) rfl hk r hl τ
    (fun u => by rw [hτ, Nat.zero_add]) _ (fun u => by rw [Nat.zero_add]) (fun t ht _ => by omega)
  have key := B.first hcf (x := dotp P h) (σ := fun u => ts1 arg4 arg6 X4 X6 k h (ix2 l u))
    (fun u => ts1_at arg4 arg6 X4 X6 P h4 h6 k h l u r (τ u) hl (hτ u) cf hcw)
    (v := fun u d => tv1 arg6 X6 k h (ix4 0 0 u d)) (y := P 2 h)
    (fun u d => rd128 arg6 X6 P h6 16 _ _ 2 h k.val (vo1_eq k h) u d (τ u) (hτ u))
  refine rep_congr key (fun d => ?_) (fun d => ?_) (fun d => ?_)
  · exact (four_hit arg8 f8 16 _ _ _ _ _ (so1_eq k) h r l d hl).trans ((up_at _ l d).trans (mx1_at _ l d))
  · exact (four_hit arg9 f9 16 _ _ _ _ _ (so1_eq k) h r l d hl).trans ((up_at _ l d).trans (dn1_at _ l d))
  · exact (four_hit arg7 f7 16 _ _ _ _ _ (so1_eq k) h r l d hl).trans ((up_at _ l d).trans (ac1_at _ _ l d))

theorem miss1 (hr : r.val % 16 ≠ k.val) {A : Fin 128 → ℝ} {L : ℝ} (hR : RepAt arg7 arg8 arg9 f7 f8 f9 h r A L) :
    RepAt arg7 arg8 arg9 (a1 arg4 arg6 arg7 X4 X6 f7 k) (m1 arg4 arg6 arg8 X4 X6 f8 k) (l1 arg4 arg6 arg9 X4 X6 f9 k) h r A L := by
  have hk : k.val < 16 := lt_of_lt_of_eq k.isLt trips1
  have hm (l : Fin 128) : r.val ≠ k.val + 16 * l.val := by omega
  exact rep_congr hR (fun d => four_miss arg8 f8 16 _ _ _ _ _ (so1_eq k) h r d hm)
    (fun d => four_miss arg9 f9 16 _ _ _ _ _ (so1_eq k) h r d hm) (fun d => four_miss arg7 f7 16 _ _ _ _ _ (so1_eq k) h r d hm)
end

end Cert.KernelIdeal.Attn

end
-- ==== Proof.Attn.Step2.lean ====
/- One trip of the loop of dilation 4, over running arrays of any contents. -/
module

public import proofs.«01_k».proof.Proof.Attn.Step1

@[expose] public section

set_option maxRecDepth 16384
set_option maxHeartbeats 2000000

noncomputable section

namespace Cert.KernelIdeal.Attn

open Cert.KernelIdeal Cert.KernelIdeal.Gen Cert.Online
open Idealize.ShloMosaic Idealize.ShloMosaic.TcCoe Idealize.ShloMosaic.Tactic
open Idealize.ShloMosaic.Rounds

/-- Rows of a running array loaded at the loop of dilation 4. -/
theorem rdO (A : Memref sig .tc .vmem S4x2048x128 .f32) (f : BufTy.Contents (Elt Ideal) A.view.ty) (k : Fin k0_t2_loop.trips) (h : Fin 4) (l d : Fin 128)
    (r : Fin 2048) (hr : r.val = k.val / 4 + k.val % 4 * 512 + 4 * l.val) : old2 A f k h (ix3 0 l d) = A.view.read (Elt Ideal) f (ix3 h r d) := by
  unfold old2
  generalize_proofs inb
  revert inb
  rw [so2_eq k h]
  intro inb
  rw [View.readAt_apply]
  congr 1
  funext a
  refine Fin.ext ?_
  fin_cases a
  · show h.val + 1 * 0 = h.val; omega
  · exact hr.symm
  · show 0 + 1 * d.val = d.val; omega

section
variable (arg4 : Memref sig .tc .vmem S4x128x256 .f32) (arg6 : Memref sig .tc .vmem S3x4x2048x128 .f32)
  (arg7 arg8 arg9 : Memref sig .tc .vmem S4x2048x128 .f32)
  (X4 : BufTy.Contents (Elt Ideal) arg4.view.ty) (X6 : BufTy.Contents (Elt Ideal) arg6.view.ty)
  (f7 : BufTy.Contents (Elt Ideal) arg7.view.ty) (f8 : BufTy.Contents (Elt Ideal) arg8.view.ty) (f9 : BufTy.Contents (Elt Ideal) arg9.view.ty)
  (P : Fin 3 → Fin 4 → Fin 2048 → Fin 128 → ℝ)
  (h4 : ∀ t l u, arg4.view.read (Elt Ideal) X4 (ix3 t l u) = dtab t l u)
  (h6 : ∀ p h r d, arg6.view.read (Elt Ideal) X6 (ix4 p h r d) = ((P p h r d : ℝ) : EReal))
  (h : Fin 4) (r : Fin 2048) (cf : ℝ)
  (k : Fin k0_t2_loop.trips)

/-- What a trip of the loop of dilation 4 leaves of the weighted sum, the maximum and the denominator. -/
def a2 : BufTy.Contents (Elt Ideal) arg7.view.ty := arg7.view.writes (Elt Ideal) f7 (four 4 spos_1_4_1 (so2 k) (so2_inb k) (fun h => up (ac2 (ts2 arg4 arg6 X4 X6 k h) (old2 arg8 f8 k h) (old2 arg7 f7 k h) (tv2 arg6 X6 k h))))
@[inherit_doc a2] def m2 : BufTy.Contents (Elt Ideal) arg8.view.ty := arg8.view.writes (Elt Ideal) f8 (four 4 spos_1_4_1 (so2 k) (so2_inb k) (fun h => up (mx2 (ts2 arg4 arg6 X4 X6 k h) (old2 arg8 f8 k h))))
@[inherit_doc a2] def l2 : BufTy.Contents (Elt Ideal) arg9.view.ty := arg9.view.writes (Elt Ideal) f9 (four 4 spos_1_4_1 (so2 k) (so2_inb k) (fun h => up (dn2 (ts2 arg4 arg6 X4 X6 k h) (old2 arg8 f8 k h) (old2 arg9 f9 k h))))

include h4 h6 in
theorem hit2 (hcf : cf < 0) (hcw : Ideal.ofBits .f32 (cw2 h) = (cf : EReal)) (hr : r.val % 4 * 4 + r.val / 512 = k.val)
    {A : Fin 128 → ℝ} {L : ℝ} (hR : RepAt arg7 arg8 arg9 f7 f8 f9 h r A L) :
    RepAt arg7 arg8 arg9 (a2 arg4 arg6 arg7 arg8 X4 X6 f7 f8 k) (m2 arg4 arg6 arg8 X4 X6 f8 k) (l2 arg4 arg6 arg8 arg9 X4 X6 f8 f9 k) h r
      (fun d => A d + ∑ t, wgt 4 cf (dotp P h) r t * P 2 h t d) (L + ∑ t, wgt 4 cf (dotp P h) r t) := by
  have hk : k.val < 16 := lt_of_lt_of_eq k.isLt trips2
  have hrr := r.isLt
  obtain ⟨l, hl⟩ : ∃ l : Fin 128, r.val = k.val / 4 + k.val % 4 * 512 + 4 * l.val := by
    have e1 : k.val / 4 = r.val % 4 := by omega
    have e2 : k.val % 4 = r.val / 512 := by omega
    have e3 : r.val % 512 % 4 = r.val % 4 := by omega
    exact ⟨⟨r.val % 512 / 4, by omega⟩, by show r.val = k.val / 4 + k.val % 4 * 512 + 4 * (r.val % 512 / 4); rw [e1, e2]; omega⟩
  have hlo : lo 512 (k.val % 4) ≤ 256 := lo_le _ _
  obtain ⟨τ, hτ⟩ : ∃ τ : Fin 256 → Fin 2048, ∀ u, (τ u).val = k.val / 4 + lo 512 (k.val % 4) * 4 + 4 * u.val :=
    ⟨fun u => ⟨k.val / 4 + lo 512 (k.val % 4) * 4 + 4 * u.val, by have := u.isLt; omega⟩, fun _ => rfl⟩
  have B : Blk 4 r τ (fun u => ad (l.val + 64 * tile 4 (k.val % 4)) u) := blk4 (k.val / 4) (k.val % 4) l (by omega) (by omega) r hl τ hτ
  have key := B.step hcf (x := dotp P h) (σ := fun u => ts2 arg4 arg6 X4 X6 k h (ix2 l u))
    (fun u => ts2_at arg4 arg6 X4 X6 P h4 h6 k h l u r (τ u) hl (hτ u) cf hcw) hR
    (v := fun u d => tv2 arg6 X6 k h (ix4 0 0 u d)) (y := P 2 h)
    (fun u d => rd256 arg6 X6 P h6 4 _ _ 2 h _ (vo2_eq k h) u d (τ u) (hτ u))
  refine rep_congr key (fun d => ?_) (fun d => ?_) (fun d => ?_)
  · refine (four_hit arg8 f8 4 _ _ _ _ _ (so2_eq k) h r l d hl).trans ((up_at _ l d).trans ((mx2_at _ _ l d).trans ?_))
    rw [rdO arg8 f8 k h l d r hl]
  · refine (four_hit arg9 f9 4 _ _ _ _ _ (so2_eq k) h r l d hl).trans ((up_at _ l d).trans ((dn2_at _ _ _ l d).trans ?_))
    rw [rdO arg8 f8 k h l d r hl, rdO arg8 f8 k h l 0 r hl, rdO arg9 f9 k h l d r hl]
  · refine (four_hit arg7 f7 4 _ _ _ _ _ (so2_eq k) h r l d hl).trans ((up_at _ l d).trans ((ac2_at _ _ _ _ l d).trans ?_))
    rw [rdO arg8 f8 k h l d r hl, rdO arg8 f8 k h l 0 r hl, rdO arg7 f7 k h l d r hl]

theorem miss2 (hr : r.val % 4 * 4 + r.val / 512 ≠ k.val) {A : Fin 128 → ℝ} {L : ℝ} (hR : RepAt arg7 arg8 arg9 f7 f8 f9 h r A L) :
    RepAt arg7 arg8 arg9 (a2 arg4 arg6 arg7 arg8 X4 X6 f7 f8 k) (m2 arg4 arg6 arg8 X4 X6 f8 k) (l2 arg4 arg6 arg8 arg9 X4 X6 f8 f9 k) h r A L := by
  have hk : k.val < 16 := lt_of_lt_of_eq k.isLt trips2
  have hm (l : Fin 128) : r.val ≠ k.val / 4 + k.val % 4 * 512 + 4 * l.val := by
    intro e
    have hl := l.isLt
    obtain ⟨c, n, hc, hn, hkc⟩ : ∃ c n : ℕ, c < 4 ∧ n < 4 ∧ k.val = 4 * c + n := ⟨k.val / 4, k.val % 4, by omega, by omega, by omega⟩
    have e1 : k.val / 4 = c := by omega
    have e2 : k.val % 4 = n := by omega
    rw [e1, e2] at e
    have e3 : r.val % 4 = c := by omega
    have e4 : r.val / 512 = n := by omega
    exact hr (by rw [e3, e4, hkc]; omega)
  exact rep_congr hR (fun d => four_miss arg8 f8 4 _ _ _ _ _ (so2_eq k) h r d hm)
    (fun d => four_miss arg9 f9 4 _ _ _ _ _ (so2_eq k) h r d hm) (fun d => four_miss arg7 f7 4 _ _ _ _ _ (so2_eq k) h r d hm)
end

end Cert.KernelIdeal.Attn

end
-- ==== Proof.Attn.Last.lean ====
/- The last loop: its stores read at every row, and what a trip stores of a row, over running arrays of any contents. -/
module

public import proofs.«01_k».proof.Proof.Attn.Out3
public import proofs.«01_k».proof.Proof.Attn.Step2

@[expose] public section

set_option maxRecDepth 16384
set_option maxHeartbeats 2000000

noncomputable section

namespace Cert.KernelIdeal.Attn

open Cert.KernelIdeal Cert.KernelIdeal.Gen Cert.Online
open Idealize.ShloMosaic Idealize.ShloMosaic.TcCoe Idealize.ShloMosaic.Tactic
open Idealize.ShloMosaic.Rounds

theorem qo3_eq (k : Fin k0_t3_loop.trips) (h : Fin 4) : qo3 k h = ![0, h.val, k.val * 128, 0] := by revert k h; decide +kernel
theorem ko3_eq (k : Fin k0_t3_loop.trips) (h : Fin 4) : ko3 k h = ![1, h.val, lo 2048 k.val, 0] := by revert k h; decide +kernel
theorem vo3_eq (k : Fin k0_t3_loop.trips) (h : Fin 4) : vo3 k h = ![2, h.val, lo 2048 k.val, 0] := by revert k h; decide +kernel
theorem so3_eq (k : Fin k0_t3_loop.trips) (h : Fin 4) : so3 k h = ![h.val, k.val * 128, 0] := by revert k h; decide +kernel
theorem oo3_eq (k : Fin k0_t3_loop.trips) (h : Fin 4) : oo3 k h = ![0, k.val * 128, h.val * 128] := by revert k h; decide +kernel
theorem do3_eq (k : Fin k0_t3_loop.trips) : k0_off34 k = ![tile 16 k.val, 0, 0] := by revert k; decide +kernel

/-- The lane of head `h` in the result. -/
def lane (h : Fin 4) (d : Fin 128) : Fin 512 := ⟨h.val * 128 + d.val, by omega⟩

section
variable {F : FTy → Type} [FloatOps F] (A : Memref sig .tc .vmem S1x2048x512 .bf16) (f : BufTy.Contents (Elt F) A.view.ty)
  (o : Fin 4 → Fin 3 → ℕ) (inb : ∀ h a, o h a + S1x128x128.size a ≤ S1x2048x512.size a)
  (w : Fin 4 → FVec F S1x128x128 .bf16) (L : List (View.Piece (Elt F) S1x2048x512 .bf16)) (b : ℕ) (ho : ∀ h : Fin 4, o h = ![0, b, h.val * 128])
include ho

/-- A row that a trip stores reads the quotients stored there. -/
theorem outs_hit (h : Fin 4) (r : Fin 2048) (l d : Fin 128) (hr : r.val = b + l.val) :
    A.view.read (Elt F) (A.view.writes (Elt F) f (outs o inb w ++ L)) (ix3 0 r (lane h d)) = w h (ix3 0 l d) := by
  have hit (h : Fin 4) (L : List (View.Piece (Elt F) S1x2048x512 .bf16)) :
      A.view.read (Elt F) (A.view.writes (Elt F) f (⟨Rect.unit (s := S1x2048x512) (o h) S1x128x128.size (inb h), w h⟩ :: L)) (ix3 0 r (lane h d)) = w h (ix3 0 l d) := by
    refine View.read_writes_cons_hit_of_coords A.view f (Rect.unit (s := S1x2048x512) (o h) S1x128x128.size (inb h)) (w h) L (ix3 0 l d) (ix3 0 r (lane h d)) fun a => ?_
    refine Eq.trans ?_ (congrArg (· + 1 * ((ix3 0 l d : S1x128x128.Idx) a).val) (congrFun (ho h) a).symm)
    fin_cases a
    · show 0 = 0 + 1 * 0; omega
    · show r.val = b + 1 * l.val; omega
    · show h.val * 128 + d.val = h.val * 128 + 1 * d.val; omega
  have miss (g : Fin 4) (hg : h ≠ g) (L : List (View.Piece (Elt F) S1x2048x512 .bf16)) :
      A.view.read (Elt F) (A.view.writes (Elt F) f (⟨Rect.unit (s := S1x2048x512) (o g) S1x128x128.size (inb g), w g⟩ :: L)) (ix3 0 r (lane h d))
        = A.view.read (Elt F) (A.view.writes (Elt F) f L) (ix3 0 r (lane h d)) := by
    refine View.read_writes_cons_miss_of_axis A.view f _ L (ix3 0 r (lane h d)) (2 : Fin 3) (g.val * 128) 128 ?_ rfl rfl ?_
    · show o g 2 = _; rw [ho g]; rfl
    · show h.val * 128 + d.val < g.val * 128 ∨ g.val * 128 + 128 ≤ h.val * 128 + d.val
      have : h.val ≠ g.val := fun e => hg (Fin.ext e)
      omega
  unfold outs
  simp only [List.cons_append, List.nil_append]
  by_cases h3 : h = 3
  · subst h3; exact hit 3 _
  rw [miss 3 h3]
  by_cases h2 : h = 2
  · subst h2; exact hit 2 _
  rw [miss 2 h2]
  by_cases h1 : h = 1
  · subst h1; exact hit 1 _
  rw [miss 1 h1]
  have h0 : h = 0 := by omega
  subst h0; exact hit 0 _

/-- A row that a trip does not store reads what was there. -/
theorem outs_miss (h : Fin 4) (r : Fin 2048) (d : Fin 128) (hr : r.val < b ∨ b + 128 ≤ r.val) :
    A.view.read (Elt F) (A.view.writes (Elt F) f (outs o inb w ++ L)) (ix3 0 r (lane h d)) = A.view.read (Elt F) (A.view.writes (Elt F) f L) (ix3 0 r (lane h d)) := by
  have miss (g : Fin 4) (L : List (View.Piece (Elt F) S1x2048x512 .bf16)) :
      A.view.read (Elt F) (A.view.writes (Elt F) f (⟨Rect.unit (s := S1x2048x512) (o g) S1x128x128.size (inb g), w g⟩ :: L)) (ix3 0 r (lane h d))
        = A.view.read (Elt F) (A.view.writes (Elt F) f L) (ix3 0 r (lane h d)) := by
    refine View.read_writes_cons_miss_of_axis A.view f _ L (ix3 0 r (lane h d)) (1 : Fin 3) b 128 ?_ rfl rfl hr
    show o g 1 = _; rw [ho g]; rfl
  unfold outs
  simp only [List.cons_append, List.nil_append]
  rw [miss 3, miss 2, miss 1, miss 0]
end

/-- Every row that a trip before `n` stores reads the quotients that trip stored. -/
theorem outsTo_at {F : FTy → Type} [FloatOps F] (arg4 : Memref sig .tc .vmem S4x128x256 .f32) (A : Memref sig .tc .vmem S1x2048x512 .bf16) (f : BufTy.Contents (Elt F) A.view.ty)
    (arg6 : Memref sig .tc .vmem S3x4x2048x128 .f32) (arg7 arg8 arg9 : Memref sig .tc .vmem S4x2048x128 .f32)
    (X4 : BufTy.Contents (Elt F) arg4.view.ty) (X6 : BufTy.Contents (Elt F) arg6.view.ty) (f7 : BufTy.Contents (Elt F) arg7.view.ty)
    (f8 : BufTy.Contents (Elt F) arg8.view.ty) (f9 : BufTy.Contents (Elt F) arg9.view.ty) (h : Fin 4) (r : Fin 2048) (l d : Fin 128)
    (k : Fin k0_t3_loop.trips) (hr : r.val = k.val * 128 + l.val) (n : ℕ) (hn : n ≤ k0_t3_loop.trips) (hk : k.val < n) :
    A.view.read (Elt F) (A.view.writes (Elt F) f (outsTo arg4 arg6 arg7 arg8 arg9 X4 X6 f7 f8 f9 n)) (ix3 0 r (lane h d))
      = res3 arg4 arg6 arg7 arg8 arg9 X4 X6 f7 f8 f9 k h (ix3 0 l d) := by
  induction n with
  | zero => omega
  | succ n ih =>
    rw [outsTo, dif_pos (show n < k0_t3_loop.trips from hn)]
    by_cases e : k.val = n
    · have ek : k = ⟨n, hn⟩ := Fin.ext e
      subst ek
      exact outs_hit A f _ _ _ _ (n * 128) (oo3_eq ⟨n, hn⟩) h r l d hr
    · refine (outs_miss A f _ _ _ _ (n * 128) (oo3_eq ⟨n, hn⟩) h r d ?_).trans (ih (Nat.le_of_succ_le hn) (by omega))
      have := l.isLt
      omega

section
variable (arg4 : Memref sig .tc .vmem S4x128x256 .f32) (arg6 : Memref sig .tc .vmem S3x4x2048x128 .f32)
  (arg7 arg8 arg9 : Memref sig .tc .vmem S4x2048x128 .f32)
  (X4 : BufTy.Contents (Elt Ideal) arg4.view.ty) (X6 : BufTy.Contents (Elt Ideal) arg6.view.ty)
  (f7 : BufTy.Contents (Elt Ideal) arg7.view.ty) (f8 : BufTy.Contents (Elt Ideal) arg8.view.ty) (f9 : BufTy.Contents (Elt Ideal) arg9.view.ty)
  (P : Fin 3 → Fin 4 → Fin 2048 → Fin 128 → ℝ)
  (h4 : ∀ t l u, arg4.view.read (Elt Ideal) X4 (ix3 t l u) = dtab t l u)
  (h6 : ∀ p h r d, arg6.view.read (Elt Ideal) X6 (ix4 p h r d) = ((P p h r d : ℝ) : EReal))

/-- Consecutive rows of a running array. -/
theorem rdO3 (A : Memref sig .tc .vmem S4x2048x128 .f32) (f : BufTy.Contents (Elt Ideal) A.view.ty) (k : Fin k0_t3_loop.trips) (h : Fin 4) (l d : Fin 128)
    (r : Fin 2048) (hr : r.val = k.val * 128 + l.val) : old3 A f k h (ix3 0 l d) = A.view.read (Elt Ideal) f (ix3 h r d) := by
  unfold old3
  generalize_proofs inb
  revert inb
  rw [so3_eq k h]
  intro inb
  rw [View.readAt_apply]
  congr 1
  funext a
  refine Fin.ext ?_
  fin_cases a
  · show h.val + 1 * 0 = h.val; omega
  · show k.val * 128 + 1 * l.val = r.val; omega
  · show 0 + 1 * d.val = d.val; omega

include h6 in
/-- Consecutive rows of the projections, 128 of them. -/
theorem ru128 (off : Fin 4 → ℕ) (inb) (p : Fin 3) (h : Fin 4) (b : ℕ) (ho : off = ![p.val, h.val, b, 0]) (l d : Fin 128) (r : Fin 2048)
    (hr : r.val = b + l.val) :
    (View.readAt (Elt Ideal) arg6.view (Rect.unit (s := S3x4x2048x128) off S1x1x128x128.size inb).toLoadRect X6 (ix4 0 0 l d) : EReal) = ((P p h r d : ℝ) : EReal) := by
  subst ho
  rw [View.readAt_apply, ← h6]
  congr 1
  funext a
  refine Fin.ext ?_
  fin_cases a
  · show p.val + 1 * 0 = p.val; omega
  · show h.val + 1 * 0 = h.val; omega
  · show b + 1 * l.val = r.val; omega
  · show 0 + 1 * d.val = d.val; omega

include h6 in
/-- Consecutive rows of the projections, 256 of them. -/
theorem ru256 (off : Fin 4 → ℕ) (inb) (p : Fin 3) (h : Fin 4) (b : ℕ) (ho : off = ![p.val, h.val, b, 0]) (l : Fin 256) (d : Fin 128) (r : Fin 2048)
    (hr : r.val = b + l.val) :
    (View.readAt (Elt Ideal) arg6.view (Rect.unit (s := S3x4x2048x128) off S1x1x256x128.size inb).toLoadRect X6 (ix4 0 0 l d) : EReal) = ((P p h r d : ℝ) : EReal) := by
  subst ho
  rw [View.readAt_apply, ← h6]
  congr 1
  funext a
  refine Fin.ext ?_
  fin_cases a
  · show p.val + 1 * 0 = p.val; omega
  · show h.val + 1 * 0 = h.val; omega
  · show b + 1 * l.val = r.val; omega
  · show 0 + 1 * d.val = d.val; omega

include h4 h6 in
/-- The scores of a trip of the loop of dilation 1. -/
theorem ts3_at (k : Fin k0_t3_loop.trips) (h : Fin 4) (l : Fin 128) (u : Fin 256) (r t : Fin 2048)
    (hr : r.val = k.val * 128 + l.val) (ht : t.val = lo 2048 k.val + u.val)
    (cf : ℝ) (hcw : Ideal.ofBits .f32 (cw3 h) = (cf : EReal)) :
    (ts3 arg4 arg6 X4 X6 k h (ix2 l u) : EReal) = ((dotp P h r t : ℝ) : EReal) + dent (ad (l.val + 64 * tile 16 k.val) u) * (cf : EReal) := by
  have hti : tile 16 k.val < 3 := by unfold tile; split_ifs <;> omega
  unfold ts3
  rw [sc2_at, rdD2 arg4 X4 h4 _ _ _ hti (do3_eq k), hcw, dotp, coe_sum]
  congr 1
  refine Finset.sum_congr rfl fun d _ => ?_
  rw [EReal.coe_mul, ru128 arg6 X6 P h6 _ _ 0 h _ (qo3_eq k h) l d r hr, ru256 arg6 X6 P h6 _ _ 1 h _ (ko3_eq k h) u d t ht]

theorem quo_at (a l : FVec Ideal S128x128 .f32) (i d : Fin 128) : (quo a l (ix3 0 i d) : EReal) = Ideal.div (a (ix2 i d)) (l (ix2 i d)) := by
  pointwise [quo]

/-- The weight of a row for itself is positive, so the sum of its weights is. -/
theorem wgt_pos (dil : ℕ) (cf : ℝ) (x : Fin 2048 → Fin 2048 → ℝ) (r : Fin 2048) : 0 < ∑ t, wgt dil cf x r t := by
  have h0 (t : Fin 2048) : 0 ≤ wgt dil cf x r t := by unfold wgt; split_ifs <;> positivity
  refine lt_of_lt_of_le ?_ (Finset.single_le_sum (f := fun t => wgt dil cf x r t) (fun t _ => h0 t) (Finset.mem_univ r))
  have e : ad r.val r.val = 0 := by unfold ad; omega
  show 0 < wgt dil cf x r r
  rw [wgt, e, if_pos ⟨Nat.zero_le _, Nat.dvd_zero _⟩]
  exact Real.exp_pos _

include h4 h6 in
/-- What the last loop stores of a row: the quotient of the sums over the three dilations. -/
theorem res3_at (h : Fin 4) (r : Fin 2048) (l d : Fin 128) (cf : ℝ) (k : Fin k0_t3_loop.trips) (hcf : cf < 0) (hcw : Ideal.ofBits .f32 (cw3 h) = (cf : EReal))
    (hr : r.val = k.val * 128 + l.val) {A : Fin 128 → ℝ} {L : ℝ} (hL : 0 ≤ L) (hR : RepAt arg7 arg8 arg9 f7 f8 f9 h r A L) :
    (res3 arg4 arg6 arg7 arg8 arg9 X4 X6 f7 f8 f9 k h (ix3 0 l d) : EReal)
      = (((A d + ∑ t, wgt 1 cf (dotp P h) r t * P 2 h t d) / (L + ∑ t, wgt 1 cf (dotp P h) r t) : ℝ) : EReal) := by
  have hk : k.val < 16 := lt_of_lt_of_eq k.isLt trips3
  have hlo : lo 2048 k.val ≤ 2048 - 256 := lo_le _ _
  obtain ⟨τ, hτ⟩ : ∃ τ : Fin 256 → Fin 2048, ∀ u, (τ u).val = lo 2048 k.val + u.val :=
    ⟨fun u => ⟨lo 2048 k.val + u.val, by have := u.isLt; omega⟩, fun _ => rfl⟩
  have B : Blk 1 r τ (fun u => ad (l.val + 64 * tile 16 k.val) u) := blk1 k.val l hk r hr τ hτ
  have key := B.step hcf (x := dotp P h) (σ := fun u => ts3 arg4 arg6 X4 X6 k h (ix2 l u))
    (fun u => ts3_at arg4 arg6 X4 X6 P h4 h6 k h l u r (τ u) hr (hτ u) cf hcw) hR
    (v := fun u d => tv3 arg6 X6 k h (ix4 0 0 u d)) (y := P 2 h)
    (fun u d => ru256 arg6 X6 P h6 _ _ 2 h _ (vo3_eq k h) u d (τ u) (hτ u))
  refine Eq.trans ?_ (rep_quot key (add_pos_of_nonneg_of_pos hL (wgt_pos 1 cf (dotp P h) r)) d)
  refine (quo_at _ _ l d).trans (congrArg₂ Ideal.div ?_ ?_)
  · refine (ac2_at _ _ _ _ l d).trans ?_
    rw [rdO3 arg8 f8 k h l d r hr, rdO3 arg8 f8 k h l 0 r hr, rdO3 arg7 f7 k h l d r hr]
  · refine (dn2_at _ _ _ l d).trans ?_
    rw [rdO3 arg8 f8 k h l d r hr, rdO3 arg8 f8 k h l 0 r hr, rdO3 arg9 f9 k h l d r hr]
end

end Cert.KernelIdeal.Attn

end
-- ==== Proof.Attn.RefOut.lean ====
/- The attention reference's result under real arguments: the quotient of the sums over the three dilations. -/
module

public import proofs.«01_k».proof.Proof.Attn.RefVal
public import proofs.«01_k».proof.Proof.Attn.Last

@[expose] public section

set_option maxRecDepth 16384

noncomputable section

namespace Cert.AttnRef

open Idealize.ShloMosaic Idealize.ShloMosaic.TcCoe Idealize.SL.Sem
open Cert.ReferenceIdeal Cert.ReferenceIdeal.Gen Cert.Online

theorem grp_at (g : Fin 3) (ho : S8x2048x3x4x128.Slices ![0, 0, g.val, 0, 0] S8x2048x1x4x128) (Y : FVec Ideal S8x2048x3x4x128 .f32) (b : Fin 8) (r : Fin 2048) (h : Fin 4) (d : Fin 128) :
    grp ![0, 0, g.val, 0, 0] ho Y (ix4 b r h d) = Y (ix5 b r g h d) := by
  pointwise [grp]

theorem part_at (p : Fin 3) (ho : S8x2048x4608.Slices ![0, 0, p.val * 1536] S8x2048x1536) (Y : FVec Ideal S8x2048x4608 .f32) (b : Fin 8) (r : Fin 2048) (g : Fin 3) (h : Fin 4) (d : Fin 128) :
    part ![0, 0, p.val * 1536] ho Y (ix5 b r g h d) = Y (ix3 b r ⟨p.val * 1536 + g.val * 512 + h.val * 128 + d.val, by omega⟩) := by
  pointwise [part]
  exact congrArg (fun j => Y (ix3 b r j)) (Fin.ext (by dsimp only; omega))

theorem projs_at (x : FVec Ideal S8x2048x1024 .f32) (w : FVec Ideal S1x1024x9728 .f32) (bb : FVec Ideal S1x9728 .f32) (b : Fin 8) (r : Fin 2048) (c : Fin 4608) :
    (projs x w bb (ix3 b r c) : EReal) = ∑ j, x (ix3 b r j) * w (ix3 0 j ⟨c.val, by omega⟩) + bb (ix2 0 ⟨c.val, by omega⟩) := by
  pointwise [projs]

theorem slp_at (g : Fin 3) (ho : S3x4.Slices ![g.val, 0] S1x4) (h : Fin 4) :
    (slp ![g.val, 0] ho (ix1 h) : EReal) = Ideal.ofBits FTy.f32 (lit0 ⟨g.val * 4 + h.val, by omega⟩) := by
  pointwise [slp, slopes]
  exact congrArg (fun n => Ideal.ofBits FTy.f32 (lit0 n)) (Fin.ext (Shape.rowMajor_val_one _))

/-- A column of the projections. -/
def col (p g : Fin 3) (h : Fin 4) (d : Fin 128) : Fin 9728 := ⟨p.val * 1536 + g.val * 512 + h.val * 128 + d.val, by omega⟩

/-- An entry of the projections over the reals. -/
def prj (xr : Fin 2048 → Fin 1024 → ℝ) (wr : Fin 1024 → Fin 9728 → ℝ) (br : Fin 9728 → ℝ) (p g : Fin 3) (h : Fin 4) (r : Fin 2048) (d : Fin 128) : ℝ :=
  ∑ j, xr r j * wr j (col p g h d) + br (col p g h d)

/-- The dilations. -/
def dils : Fin 3 → ℕ := ![1, 4, 16]

/-- The first two slopes, over the reals. -/
def slA : ℝ := (8388608 + 2180376) / 16777216
@[inherit_doc slA] def slB : ℝ := (8388608 + 4927477) / 33554432

/-- The slopes over the reals. -/
def sts : Fin 3 → Fin 4 → ℝ := ![![slA, slB, 1 / 4, slA / 4], ![slB / 4, 1 / 16, slA / 16, slB / 16], ![1 / 64, slA / 64, slB / 64, 1 / 256]]

/-- The scale over the reals. -/
def scl : ℝ := (8388608 + 3474675) / 134217728

theorem scl_eq : Ideal.ofBits FTy.f32 0x3DB504F3#32 = ((scl : ℝ) : EReal) := by
  simp [Ideal.ofBits, Ideal.ieee, scl]; norm_num
  simp only [← EReal.coe_mul]
  exact congrArg _ (by norm_num)

theorem sts_eq (g : Fin 3) (h : Fin 4) (hn : g.val * 4 + h.val < 12) : Ideal.ofBits FTy.f32 (lit0 ⟨g.val * 4 + h.val, hn⟩) = ((sts g h : ℝ) : EReal) := by
  fin_cases g <;> fin_cases h <;> simp [lit0, Ideal.ofBits, Ideal.ieee, sts, slA, slB] <;> norm_num <;> simp only [← EReal.coe_mul] <;> exact congrArg _ (by norm_num)

/-- Minus the slope, per position of distance. -/
def cfs (g : Fin 3) (h : Fin 4) : ℝ := -sts g h * (dils g : ℕ)

/-- The kernel's coefficients of the distance in steps of the dilation. -/
theorem cf0_eq (h : Fin 4) : Ideal.ofBits FTy.f32 (Cert.KernelIdeal.Attn.cw3 h) = ((cfs 0 h : ℝ) : EReal) := by
  fin_cases h <;> simp [Cert.KernelIdeal.Attn.cw3, Ideal.ofBits, Ideal.ieee, cfs, dils, sts, slA, slB] <;> norm_num <;> simp only [← EReal.coe_mul, ← EReal.coe_neg] <;> exact congrArg _ (by norm_num)
theorem cf1_eq (h : Fin 4) : Ideal.ofBits FTy.f32 (Cert.KernelIdeal.Attn.cw2 h) = ((cfs 1 h : ℝ) : EReal) := by
  fin_cases h <;> simp [Cert.KernelIdeal.Attn.cw2, Ideal.ofBits, Ideal.ieee, cfs, dils, sts, slA, slB] <;> norm_num <;> simp only [← EReal.coe_mul, ← EReal.coe_neg] <;> exact congrArg _ (by norm_num)
theorem cf2_eq (h : Fin 4) : Ideal.ofBits FTy.f32 (Cert.KernelIdeal.Attn.cw1 h) = ((cfs 2 h : ℝ) : EReal) := by
  fin_cases h <;> simp [Cert.KernelIdeal.Attn.cw1, Ideal.ofBits, Ideal.ieee, cfs, dils, sts, slA, slB] <;> norm_num <;> simp only [← EReal.coe_mul, ← EReal.coe_neg] <;> exact congrArg _ (by norm_num)
theorem cfs_neg (g : Fin 3) (h : Fin 4) : cfs g h < 0 := by
  fin_cases g <;> fin_cases h <;> norm_num [cfs, dils, sts, slA, slB]

theorem coe_sum1024 (f : Fin 1024 → ℝ) : ((∑ j, f j : ℝ) : EReal) = ∑ j, (f j : EReal) := by
  induction (Finset.univ : Finset (Fin 1024)) using Finset.induction_on with
  | empty => simp
  | insert a s ha ih => rw [Finset.sum_insert ha, Finset.sum_insert ha, EReal.coe_add, ih]

theorem mw0 : ∀ n : Fin 2048, mword 64#32 1#32 n = if n.val ≤ 64 * dils 0 ∧ dils 0 ∣ n.val then 1 else 0 := mword1
theorem mw1 : ∀ n : Fin 2048, mword 256#32 4#32 n = if n.val ≤ 64 * dils 1 ∧ dils 1 ∣ n.val then 1 else 0 := mword4
theorem mw2 : ∀ n : Fin 2048, mword 1024#32 16#32 n = if n.val ≤ 64 * dils 2 ∧ dils 2 ∣ n.val then 1 else 0 := mword16

theorem three (a b c : EReal) (f : Fin 3 → EReal) (h0 : a = f 0) (h1 : b = f 1) (h2 : c = f 2) (g : Fin 3) : ![a, b, c] g = f g := by
  match g with
  | 0 => exact h0
  | 1 => exact h1
  | 2 => exact h2

attribute [local irreducible] scr lse otr projs grp part slp cat cato mixd mword

section
variable (x : FVec Ideal S8x2048x1024 .f32) (w : FVec Ideal S1x1024x9728 .f32) (bb : FVec Ideal S1x9728 .f32) (bt : Fin 8)
  (xr : Fin 2048 → Fin 1024 → ℝ) (wr : Fin 1024 → Fin 9728 → ℝ) (br : Fin 9728 → ℝ)
  (hx : ∀ r j, x (ix3 bt r j) = (xr r j : EReal)) (hw : ∀ j c, w (ix3 0 j c) = (wr j c : EReal)) (hb : ∀ c, bb (ix2 0 c) = (br c : EReal))
include hx hw hb

/-- A query, key or value of the reference is real. -/
theorem pe (p g : Fin 3) (h1 : S8x2048x3x4x128.Slices ![0, 0, g.val, 0, 0] S8x2048x1x4x128) (h2 : S8x2048x4608.Slices ![0, 0, p.val * 1536] S8x2048x1536)
    (h : Fin 4) (r : Fin 2048) (d : Fin 128) :
    (grp ![0, 0, g.val, 0, 0] h1 (part ![0, 0, p.val * 1536] h2 (projs x w bb)) (ix4 bt r h d) : EReal) = ((prj xr wr br p g h r d : ℝ) : EReal) := by
  rw [grp_at, part_at, projs_at, prj, EReal.coe_add, coe_sum1024]
  refine congrArg₂ (· + ·) (Finset.sum_congr rfl fun j _ => ?_) (hb _)
  rw [hx, hw, EReal.coe_mul]
  rfl

theorem l0 (h : Fin 4) (r : Fin 2048) : (lse (s0 (projs x w bb)) (ix4 0 bt r h) : EReal)
    = ((Real.log (∑ t, wgt (dils 0) (cfs 0 h) (dotq scl (prj xr wr br 0 0 h) (prj xr wr br 1 0 h)) r t) : ℝ) : EReal) := by
  have P (p : Fin 3) h1 h2 (r : Fin 2048) (d : Fin 128) := pe x w bb bt xr wr br hx hw hb p 0 h1 h2 h r d
  unfold s0
  refine lse_real 64#32 1#32 (dils 0) (by decide) mw0 _ _ _ bt h _ _ scl (sts 0 h) (cfs 0 h) scl_eq ((slp_at 0 _ h).trans (sts_eq 0 h _)) rfl ?_ ?_ r (Cert.KernelIdeal.Attn.wgt_pos _ _ _ _)
  · exact P 0 _ _
  · exact P 1 _ _

theorem o0 (h : Fin 4) (r : Fin 2048) (d : Fin 128) (h1 : S8x2048x3x4x128.Slices ![0, 0, 0, 0, 0] S8x2048x1x4x128) (h2 : S8x2048x4608.Slices ![0, 0, 3072] S8x2048x1536) :
    (otr (s0 (projs x w bb)) (grp ![0, 0, 0, 0, 0] h1 (part ![0, 0, 3072] h2 (projs x w bb))) (ix5 0 bt r h d) : EReal)
    = (((∑ t, wgt (dils 0) (cfs 0 h) (dotq scl (prj xr wr br 0 0 h) (prj xr wr br 1 0 h)) r t * prj xr wr br 2 0 h t d)
        / (∑ t, wgt (dils 0) (cfs 0 h) (dotq scl (prj xr wr br 0 0 h) (prj xr wr br 1 0 h)) r t) : ℝ) : EReal) := by
  have P (p : Fin 3) h1 h2 (r : Fin 2048) (d : Fin 128) := pe x w bb bt xr wr br hx hw hb p 0 h1 h2 h r d
  unfold s0
  refine otr_real 64#32 1#32 (dils 0) (by decide) mw0 _ _ _ _ bt h _ _ _ scl (sts 0 h) (cfs 0 h) scl_eq ((slp_at 0 _ h).trans (sts_eq 0 h _)) rfl ?_ ?_ ?_ r (Cert.KernelIdeal.Attn.wgt_pos _ _ _ _) d
  · exact P 0 _ _
  · exact P 1 _ _
  · exact P 2 _ _

theorem l1 (h : Fin 4) (r : Fin 2048) : (lse (s1 (projs x w bb)) (ix4 0 bt r h) : EReal)
    = ((Real.log (∑ t, wgt (dils 1) (cfs 1 h) (dotq scl (prj xr wr br 0 1 h) (prj xr wr br 1 1 h)) r t) : ℝ) : EReal) := by
  have P (p : Fin 3) h1 h2 (r : Fin 2048) (d : Fin 128) := pe x w bb bt xr wr br hx hw hb p 1 h1 h2 h r d
  unfold s1
  refine lse_real 256#32 4#32 (dils 1) (by decide) mw1 _ _ _ bt h _ _ scl (sts 1 h) (cfs 1 h) scl_eq ((slp_at 1 _ h).trans (sts_eq 1 h _)) rfl ?_ ?_ r (Cert.KernelIdeal.Attn.wgt_pos _ _ _ _)
  · exact P 0 _ _
  · exact P 1 _ _

theorem o1 (h : Fin 4) (r : Fin 2048) (d : Fin 128) (h1 : S8x2048x3x4x128.Slices ![0, 0, 1, 0, 0] S8x2048x1x4x128) (h2 : S8x2048x4608.Slices ![0, 0, 3072] S8x2048x1536) :
    (otr (s1 (projs x w bb)) (grp ![0, 0, 1, 0, 0] h1 (part ![0, 0, 3072] h2 (projs x w bb))) (ix5 0 bt r h d) : EReal)
    = (((∑ t, wgt (dils 1) (cfs 1 h) (dotq scl (prj xr wr br 0 1 h) (prj xr wr br 1 1 h)) r t * prj xr wr br 2 1 h t d)
        / (∑ t, wgt (dils 1) (cfs 1 h) (dotq scl (prj xr wr br 0 1 h) (prj xr wr br 1 1 h)) r t) : ℝ) : EReal) := by
  have P (p : Fin 3) h1 h2 (r : Fin 2048) (d : Fin 128) := pe x w bb bt xr wr br hx hw hb p 1 h1 h2 h r d
  unfold s1
  refine otr_real 256#32 4#32 (dils 1) (by decide) mw1 _ _ _ _ bt h _ _ _ scl (sts 1 h) (cfs 1 h) scl_eq ((slp_at 1 _ h).trans (sts_eq 1 h _)) rfl ?_ ?_ ?_ r (Cert.KernelIdeal.Attn.wgt_pos _ _ _ _) d
  · exact P 0 _ _
  · exact P 1 _ _
  · exact P 2 _ _

theorem l2 (h : Fin 4) (r : Fin 2048) : (lse (s2 (projs x w bb)) (ix4 0 bt r h) : EReal)
    = ((Real.log (∑ t, wgt (dils 2) (cfs 2 h) (dotq scl (prj xr wr br 0 2 h) (prj xr wr br 1 2 h)) r t) : ℝ) : EReal) := by
  have P (p : Fin 3) h1 h2 (r : Fin 2048) (d : Fin 128) := pe x w bb bt xr wr br hx hw hb p 2 h1 h2 h r d
  unfold s2
  refine lse_real 1024#32 16#32 (dils 2) (by decide) mw2 _ _ _ bt h _ _ scl (sts 2 h) (cfs 2 h) scl_eq ((slp_at 2 _ h).trans (sts_eq 2 h _)) rfl ?_ ?_ r (Cert.KernelIdeal.Attn.wgt_pos _ _ _ _)
  · exact P 0 _ _
  · exact P 1 _ _

theorem o2 (h : Fin 4) (r : Fin 2048) (d : Fin 128) (h1 : S8x2048x3x4x128.Slices ![0, 0, 2, 0, 0] S8x2048x1x4x128) (h2 : S8x2048x4608.Slices ![0, 0, 3072] S8x2048x1536) :
    (otr (s2 (projs x w bb)) (grp ![0, 0, 2, 0, 0] h1 (part ![0, 0, 3072] h2 (projs x w bb))) (ix5 0 bt r h d) : EReal)
    = (((∑ t, wgt (dils 2) (cfs 2 h) (dotq scl (prj xr wr br 0 2 h) (prj xr wr br 1 2 h)) r t * prj xr wr br 2 2 h t d)
        / (∑ t, wgt (dils 2) (cfs 2 h) (dotq scl (prj xr wr br 0 2 h) (prj xr wr br 1 2 h)) r t) : ℝ) : EReal) := by
  have P (p : Fin 3) h1 h2 (r : Fin 2048) (d : Fin 128) := pe x w bb bt xr wr br hx hw hb p 2 h1 h2 h r d
  unfold s2
  refine otr_real 1024#32 16#32 (dils 2) (by decide) mw2 _ _ _ _ bt h _ _ _ scl (sts 2 h) (cfs 2 h) scl_eq ((slp_at 2 _ h).trans (sts_eq 2 h _)) rfl ?_ ?_ ?_ r (Cert.KernelIdeal.Attn.wgt_pos _ _ _ _) d
  · exact P 0 _ _
  · exact P 1 _ _
  · exact P 2 _ _

/-- The reference's result at one entry: the sums over the three dilations, divided. -/
theorem out_real (r : Fin 2048) (h : Fin 4) (d : Fin 128) (j : Fin 512) (hj : j.val = h.val * 128 + d.val) :
    (out (projs x w bb) (ix3 bt r j) : EReal)
      = (((∑ g : Fin 3, ∑ t, wgt (dils g) (cfs g h) (dotq scl (prj xr wr br 0 g h) (prj xr wr br 1 g h)) r t * prj xr wr br 2 g h t d)
          / (∑ g : Fin 3, ∑ t, wgt (dils g) (cfs g h) (dotq scl (prj xr wr br 0 g h) (prj xr wr br 1 g h)) r t) : ℝ) : EReal) := by
  have hL (g : Fin 3) : 0 < ∑ t, wgt (dils g) (cfs g h) (dotq scl (prj xr wr br 0 g h) (prj xr wr br 1 g h)) r t := Cert.KernelIdeal.Attn.wgt_pos _ _ _ _
  have a0 := l0 x w bb bt xr wr br hx hw hb h r
  have a1 := l1 x w bb bt xr wr br hx hw hb h r
  have a2 := l2 x w bb bt xr wr br hx hw hb h r
  have c0 := o0 x w bb bt xr wr br hx hw hb h r d
  have c1 := o1 x w bb bt xr wr br hx hw hb h r d
  have c2 := o2 x w bb bt xr wr br hx hw hb h r d
  unfold out
  refine mixd_real _ _ bt r h d j hj _ _ hL (fun g => ?_) fun g => ?_
  · exact (cat_at _ _ _ bt h r g).trans (three _ _ _ (fun g => ((Real.log (∑ t, wgt (dils g) (cfs g h) (dotq scl (prj xr wr br 0 g h) (prj xr wr br 1 g h)) r t) : ℝ) : EReal)) a0 a1 a2 g)
  · exact (cato_at _ _ _ bt h r g d).trans (three _ _ _ (fun g => (((∑ t, wgt (dils g) (cfs g h) (dotq scl (prj xr wr br 0 g h) (prj xr wr br 1 g h)) r t * prj xr wr br 2 g h t d)
        / (∑ t, wgt (dils g) (cfs g h) (dotq scl (prj xr wr br 0 g h) (prj xr wr br 1 g h)) r t) : ℝ) : EReal)) (c0 _ _) (c1 _ _) (c2 _ _) g)

end

end Cert.AttnRef

end
-- ==== Proof.Attn.Proj.lean ====
/- The array of queries, keys and values a group leaves: what each of its entries holds. -/
module

public import proofs.«01_k».proof.Proof.Attn.Geom
public import proofs.«01_k».proof.Proof.Attn.RefOut

@[expose] public section

set_option maxRecDepth 16384

noncomputable section

namespace Cert.KernelIdeal.Attn

open Cert.KernelIdeal Cert.KernelIdeal.Gen Cert.Online
open Idealize.ShloMosaic Idealize.ShloMosaic.TcCoe Idealize.ShloMosaic.Tactic

section
variable {F : FTy → Type} [FloatOps F]

theorem inbH : ∀ (p : Fin 3) (h : Fin 4) (a : Fin 4), (![p.val, h.val, 0, 0] : Fin 4 → ℕ) a + S1x1x2048x128.size a ≤ S3x4x2048x128.size a := by decide +kernel

/-- One store of a head's queries, keys or values. -/
def pc (p : Fin 3) (h : Fin 4) (w : FVec F S1x1x2048x128 .f32) : View.Piece (Elt F) S3x4x2048x128 .f32 :=
  ⟨Rect.unit ![p.val, h.val, 0, 0] S1x1x2048x128.size (inbH p h), w⟩

/-- The twelve stores of a group, the last first, over what was stored before. -/
def pile (w : Fin 3 → Fin 4 → FVec F S1x1x2048x128 .f32) (L : List (View.Piece (Elt F) S3x4x2048x128 .f32)) : List (View.Piece (Elt F) S3x4x2048x128 .f32) :=
  pc 2 3 (w 2 3) :: pc 2 2 (w 2 2) :: pc 2 1 (w 2 1) :: pc 2 0 (w 2 0) :: pc 1 3 (w 1 3) :: pc 1 2 (w 1 2) :: pc 1 1 (w 1 1) :: pc 1 0 (w 1 0)
    :: pc 0 3 (w 0 3) :: pc 0 2 (w 0 2) :: pc 0 1 (w 0 1) :: pc 0 0 (w 0 0) :: L

variable (A : Memref sig .tc .vmem S3x4x2048x128 .f32) (f : BufTy.Contents (Elt F) A.view.ty)

theorem pc_hit (p : Fin 3) (h : Fin 4) (w : FVec F S1x1x2048x128 .f32) (L : List (View.Piece (Elt F) S3x4x2048x128 .f32)) (r : Fin 2048) (d : Fin 128) :
    A.view.read (Elt F) (A.view.writes (Elt F) f (pc p h w :: L)) (ix4 p h r d) = w (ix4 0 0 r d) := by
  refine View.read_writes_cons_hit_of_coords A.view f (Rect.unit ![p.val, h.val, 0, 0] S1x1x2048x128.size (inbH p h)) w L (ix4 0 0 r d) (ix4 p h r d) fun a => ?_
  fin_cases a
  · show p.val = p.val + 1 * 0; omega
  · show h.val = h.val + 1 * 0; omega
  · show r.val = 0 + 1 * r.val; omega
  · show d.val = 0 + 1 * d.val; omega

theorem pc_miss (p q : Fin 3) (h g : Fin 4) (hne : p ≠ q ∨ h ≠ g) (w : FVec F S1x1x2048x128 .f32) (L : List (View.Piece (Elt F) S3x4x2048x128 .f32)) (r : Fin 2048) (d : Fin 128) :
    A.view.read (Elt F) (A.view.writes (Elt F) f (pc q g w :: L)) (ix4 p h r d) = A.view.read (Elt F) (A.view.writes (Elt F) f L) (ix4 p h r d) := by
  rcases hne with hne | hne
  · refine View.read_writes_cons_miss_of_axis A.view f ⟨Rect.unit ![q.val, g.val, 0, 0] S1x1x2048x128.size (inbH q g), w⟩ L (ix4 p h r d) (0 : Fin 4) q.val 1 rfl rfl rfl ?_
    show p.val < q.val ∨ q.val + 1 ≤ p.val
    have : p.val ≠ q.val := fun e => hne (Fin.ext e)
    omega
  · refine View.read_writes_cons_miss_of_axis A.view f ⟨Rect.unit ![q.val, g.val, 0, 0] S1x1x2048x128.size (inbH q g), w⟩ L (ix4 p h r d) (1 : Fin 4) g.val 1 rfl rfl rfl ?_
    show h.val < g.val ∨ g.val + 1 ≤ h.val
    have : h.val ≠ g.val := fun e => hne (Fin.ext e)
    omega

theorem pile_at (w : Fin 3 → Fin 4 → FVec F S1x1x2048x128 .f32) (L : List (View.Piece (Elt F) S3x4x2048x128 .f32)) (p : Fin 3) (h : Fin 4) (r : Fin 2048) (d : Fin 128) :
    A.view.read (Elt F) (A.view.writes (Elt F) f (pile w L)) (ix4 p h r d) = w p h (ix4 0 0 r d) := by
  unfold pile
  match p, h with
  | 2, 3 => exact pc_hit A f 2 3 _ _ r d
  | 2, 2 => iterate 1 rw [pc_miss A f _ _ _ _ (by decide)]
            exact pc_hit A f 2 2 _ _ r d
  | 2, 1 => iterate 2 rw [pc_miss A f _ _ _ _ (by decide)]
            exact pc_hit A f 2 1 _ _ r d
  | 2, 0 => iterate 3 rw [pc_miss A f _ _ _ _ (by decide)]
            exact pc_hit A f 2 0 _ _ r d
  | 1, 3 => iterate 4 rw [pc_miss A f _ _ _ _ (by decide)]
            exact pc_hit A f 1 3 _ _ r d
  | 1, 2 => iterate 5 rw [pc_miss A f _ _ _ _ (by decide)]
            exact pc_hit A f 1 2 _ _ r d
  | 1, 1 => iterate 6 rw [pc_miss A f _ _ _ _ (by decide)]
            exact pc_hit A f 1 1 _ _ r d
  | 1, 0 => iterate 7 rw [pc_miss A f _ _ _ _ (by decide)]
            exact pc_hit A f 1 0 _ _ r d
  | 0, 3 => iterate 8 rw [pc_miss A f _ _ _ _ (by decide)]
            exact pc_hit A f 0 3 _ _ r d
  | 0, 2 => iterate 9 rw [pc_miss A f _ _ _ _ (by decide)]
            exact pc_hit A f 0 2 _ _ r d
  | 0, 1 => iterate 10 rw [pc_miss A f _ _ _ _ (by decide)]
            exact pc_hit A f 0 1 _ _ r d
  | 0, 0 => iterate 11 rw [pc_miss A f _ _ _ _ (by decide)]
            exact pc_hit A f 0 0 _ _ r d

theorem slcH : ∀ h : Fin 4, S2048x512.Slices ![0, h.val * 128] S2048x128 := by decide +kernel
theorem cstH : S2048x128.numel = S1x1x2048x128.numel := by decide +kernel

/-- One head of a group's queries, keys or values. -/
def hd (Y : FVec F S2048x512 .f32) (h : Fin 4) : FVec F S1x1x2048x128 .f32 :=
  shapeCast S1x1x2048x128 (extractStridedSlice S2048x128 ![0, h.val * 128] Y (slcH h)) shapeCasts_S2048x128_S1x1x2048x128

end

theorem hd_at (Y : FVec Ideal S2048x512 .f32) (h : Fin 4) (r : Fin 2048) (d : Fin 128) :
    hd Y h (ix4 0 0 r d) = Y (ix2 r ⟨h.val * 128 + d.val, by omega⟩) := by
  pointwise [hd]

theorem pay149_at (x : FVec Ideal S2048x1024 .bf16) (w : Vec Ideal S1024x512 .bf16) (b : Vec Ideal S1x512 .f32) (r : Fin 2048) (k : Fin 512) :
    (k0_pay149 x w b (ix2 r k) : EReal) = ∑ j, x (ix2 r j) * w (ix2 j k) + b (ix2 0 k) := by
  pointwise [k0_pay149]

theorem pay159_at (x : FVec Ideal S2048x1024 .bf16) (w : Vec Ideal S1024x512 .bf16) (b : Vec Ideal S1x512 .f32) (r : Fin 2048) (k : Fin 512) :
    (k0_pay159 x w b (ix2 r k) : EReal) = (∑ j, x (ix2 r j) * w (ix2 j k) + b (ix2 0 k)) * Ideal.ofBits .f32 0x3DB504F3#32 := by
  pointwise [k0_pay159]

theorem pay138_at (x : Vec Ideal S1x2048x1024 .bf16) (r : Fin 2048) (j : Fin 1024) : k0_pay138 x (ix2 r j) = x (ix3 0 r j) := by
  pointwise [k0_pay138]

section
variable {F : FTy → Type} [FloatOps F]
variable (arg1 : Memref sig .tc .vmem S1x2048x1024 .bf16) (arg2 : Memref sig .tc .vmem S1024x4608 .bf16) (arg3 : Memref sig .tc .vmem S1x4608 .f32)
  (f1 : BufTy.Contents (Elt F) arg1.view.ty) (f2 : BufTy.Contents (Elt F) arg2.view.ty) (f3 : BufTy.Contents (Elt F) arg3.view.ty)

theorem inbW : ∀ (p g : Fin 3) (a : Fin 2), (![0, p.val * 1536 + g.val * 512] : Fin 2 → ℕ) a + S1024x512.size a ≤ S1024x4608.size a := by decide +kernel
theorem inbB : ∀ (p g : Fin 3) (a : Fin 2), (![0, p.val * 1536 + g.val * 512] : Fin 2 → ℕ) a + S1x512.size a ≤ S1x4608.size a := by decide +kernel

/-- The rows, as the body loads them. -/
def xx : FVec F S2048x1024 .bf16 :=
  k0_pay138 (View.readAt (Elt F) arg1.view (Rect.unit (s := S1x2048x1024) ![0, 0, 0] S1x2048x1024.size inb_S1x2048x1024_S1x2048x1024_0_0_0).toLoadRect f1)
/-- The weights of one part of one group. -/
def xw (p g : Fin 3) : Vec F S1024x512 .bf16 :=
  View.readAt (Elt F) arg2.view (Rect.unit (s := S1024x4608) ![0, p.val * 1536 + g.val * 512] S1024x512.size (inbW p g)).toLoadRect f2
/-- Their offsets. -/
def xb (p g : Fin 3) : Vec F S1x512 .f32 :=
  View.readAt (Elt F) arg3.view (Rect.unit (s := S1x4608) ![0, p.val * 1536 + g.val * 512] S1x512.size (inbB p g)).toLoadRect f3

/-- What a group stores: its queries scaled, its keys and its values, head by head. -/
def ws (g p : Fin 3) (h : Fin 4) : FVec F S1x1x2048x128 .f32 :=
  hd (![k0_pay159 (xx arg1 f1) (xw arg2 f2 0 g) (xb arg3 f3 0 g), k0_pay149 (xx arg1 f1) (xw arg2 f2 1 g) (xb arg3 f3 1 g), k0_pay149 (xx arg1 f1) (xw arg2 f2 2 g) (xb arg3 f3 2 g)] p) h

end

section
variable (xr : Fin 2048 → Fin 1024 → ℝ) (wr : Fin 1024 → Fin 9728 → ℝ) (br : Fin 9728 → ℝ)

/-- A column of the projections, among all of them. -/
def colK (k : Fin 4608) : Fin 9728 := ⟨k.val, by omega⟩

/-- The same over the reals. -/
def PP (g p : Fin 3) (h : Fin 4) (r : Fin 2048) (d : Fin 128) : ℝ :=
  ![Cert.AttnRef.prj xr wr br 0 g h r d * Cert.AttnRef.scl, Cert.AttnRef.prj xr wr br 1 g h r d, Cert.AttnRef.prj xr wr br 2 g h r d] p

theorem dotp_PP (g : Fin 3) (h : Fin 4) : dotp (PP xr wr br g) h = Cert.AttnRef.dotq Cert.AttnRef.scl (Cert.AttnRef.prj xr wr br 0 g h) (Cert.AttnRef.prj xr wr br 1 g h) := rfl

variable (arg1 : Memref sig .tc .vmem S1x2048x1024 .bf16) (arg2 : Memref sig .tc .vmem S1024x4608 .bf16) (arg3 : Memref sig .tc .vmem S1x4608 .f32)
  (f1 : BufTy.Contents (Elt Ideal) arg1.view.ty) (f2 : BufTy.Contents (Elt Ideal) arg2.view.ty) (f3 : BufTy.Contents (Elt Ideal) arg3.view.ty)
  (hx : ∀ r j, arg1.view.read (Elt Ideal) f1 (ix3 0 r j) = ((xr r j : ℝ) : EReal))
  (hw : ∀ j (k : Fin 4608), arg2.view.read (Elt Ideal) f2 (ix2 j k) = ((wr j (colK k) : ℝ) : EReal))
  (hb : ∀ k : Fin 4608, arg3.view.read (Elt Ideal) f3 (ix2 0 k) = ((br (colK k) : ℝ) : EReal))

include hx in
theorem xx_at (r : Fin 2048) (j : Fin 1024) : (xx arg1 f1 (ix2 r j) : EReal) = ((xr r j : ℝ) : EReal) := by
  unfold xx
  rw [pay138_at, View.readAt_apply, ← hx]
  congr 1
  funext a
  refine Fin.ext ?_
  fin_cases a
  · rfl
  · show 0 + 1 * r.val = r.val; omega
  · show 0 + 1 * j.val = j.val; omega

include hw in
theorem xw_at (p g : Fin 3) (j : Fin 1024) (h : Fin 4) (d : Fin 128) :
    (xw arg2 f2 p g (ix2 j ⟨h.val * 128 + d.val, by omega⟩) : EReal) = ((wr j (Cert.AttnRef.col p g h d) : ℝ) : EReal) := by
  unfold xw
  refine Eq.trans ?_ (hw j ⟨p.val * 1536 + g.val * 512 + h.val * 128 + d.val, by omega⟩)
  rw [View.readAt_apply]
  congr 1
  funext a
  refine Fin.ext ?_
  fin_cases a
  · show 0 + 1 * j.val = j.val; omega
  · show p.val * 1536 + g.val * 512 + 1 * (h.val * 128 + d.val) = p.val * 1536 + g.val * 512 + h.val * 128 + d.val; omega

include hb in
theorem xb_at (p g : Fin 3) (h : Fin 4) (d : Fin 128) :
    (xb arg3 f3 p g (ix2 0 ⟨h.val * 128 + d.val, by omega⟩) : EReal) = ((br (Cert.AttnRef.col p g h d) : ℝ) : EReal) := by
  unfold xb
  refine Eq.trans ?_ (hb ⟨p.val * 1536 + g.val * 512 + h.val * 128 + d.val, by omega⟩)
  rw [View.readAt_apply]
  congr 1
  funext a
  refine Fin.ext ?_
  fin_cases a
  · rfl
  · show p.val * 1536 + g.val * 512 + 1 * (h.val * 128 + d.val) = p.val * 1536 + g.val * 512 + h.val * 128 + d.val; omega

include hx hw hb

theorem sum_at (p g : Fin 3) (h : Fin 4) (r : Fin 2048) (d : Fin 128) :
    (∑ j, (xx arg1 f1 (ix2 r j) : EReal) * xw arg2 f2 p g (ix2 j ⟨h.val * 128 + d.val, by omega⟩) + xb arg3 f3 p g (ix2 0 ⟨h.val * 128 + d.val, by omega⟩))
      = ((Cert.AttnRef.prj xr wr br p g h r d : ℝ) : EReal) := by
  rw [Cert.AttnRef.prj, EReal.coe_add, Cert.AttnRef.coe_sum1024, xb_at br arg3 f3 hb]
  refine congrArg (· + _) (Finset.sum_congr rfl fun j _ => ?_)
  rw [xx_at xr arg1 f1 hx, xw_at wr arg2 f2 hw, EReal.coe_mul]

theorem ws_at (g p : Fin 3) (h : Fin 4) (r : Fin 2048) (d : Fin 128) :
    (ws arg1 arg2 arg3 f1 f2 f3 g p h (ix4 0 0 r d) : EReal) = ((PP xr wr br g p h r d : ℝ) : EReal) := by
  have S := fun p => sum_at xr wr br arg1 arg2 arg3 f1 f2 f3 hx hw hb p g h r d
  unfold ws PP
  rw [hd_at]
  match p with
  | 0 =>
    refine (pay159_at _ _ _ r _).trans ?_
    rw [S 0, Cert.AttnRef.scl_eq, ← EReal.coe_mul]
    rfl
  | 1 => exact (pay149_at _ _ _ r _).trans (S 1)
  | 2 => exact (pay149_at _ _ _ r _).trans (S 2)

end

end Cert.KernelIdeal.Attn

end
-- ==== Proof.Attn.Rows.lean ====
/- The two strided loops over all their trips: every row ends as the first sums, then as the sums over both dilations. -/
module

public import proofs.«01_k».proof.Proof.Attn.Step2

@[expose] public section

set_option maxRecDepth 16384
set_option maxHeartbeats 400000

noncomputable section

namespace Cert.KernelIdeal.Attn

open Cert.KernelIdeal Cert.KernelIdeal.Gen Cert.Online
open Idealize.ShloMosaic Idealize.ShloMosaic.TcCoe Idealize.ShloMosaic.Tactic
open Idealize.ShloMosaic.Rounds

/-- The three running arrays. -/
abbrev Run (arg7 arg8 arg9 : Memref sig .tc .vmem S4x2048x128 .f32) : Type :=
  (BufTy.Contents (Elt Ideal) arg7.view.ty) × (BufTy.Contents (Elt Ideal) arg8.view.ty) × (BufTy.Contents (Elt Ideal) arg9.view.ty)

section
variable (arg4 : Memref sig .tc .vmem S4x128x256 .f32) (arg6 : Memref sig .tc .vmem S3x4x2048x128 .f32)
  {arg7 arg8 arg9 : Memref sig .tc .vmem S4x2048x128 .f32}
  (X4 : BufTy.Contents (Elt Ideal) arg4.view.ty) (X6 : BufTy.Contents (Elt Ideal) arg6.view.ty)

/-- One trip of the loop of dilation 16, -/
def step1 (p : Run arg7 arg8 arg9) (k : Fin k0_t1_loop.trips) : Run arg7 arg8 arg9 :=
  (a1 arg4 arg6 arg7 X4 X6 p.1 k, m1 arg4 arg6 arg8 X4 X6 p.2.1 k, l1 arg4 arg6 arg9 X4 X6 p.2.2 k)

/-- and the trips before `n`. -/
def it1 (p : Run arg7 arg8 arg9) : ℕ → Run arg7 arg8 arg9
  | 0 => p
  | n + 1 => if hn : n < k0_t1_loop.trips then step1 arg4 arg6 X4 X6 (it1 p n) ⟨n, hn⟩ else it1 p n

theorem it1_succ (p : Run arg7 arg8 arg9) (k : Fin k0_t1_loop.trips) :
    it1 arg4 arg6 X4 X6 p (k.val + 1) = step1 arg4 arg6 X4 X6 (it1 arg4 arg6 X4 X6 p k.val) k := by
  rw [it1, dif_pos k.isLt]

/-- One trip of the loop of dilation 4, -/
def step2 (p : Run arg7 arg8 arg9) (k : Fin k0_t2_loop.trips) : Run arg7 arg8 arg9 :=
  (a2 arg4 arg6 arg7 arg8 X4 X6 p.1 p.2.1 k, m2 arg4 arg6 arg8 X4 X6 p.2.1 k, l2 arg4 arg6 arg8 arg9 X4 X6 p.2.1 p.2.2 k)

/-- and the trips before `n`. -/
def it2 (p : Run arg7 arg8 arg9) : ℕ → Run arg7 arg8 arg9
  | 0 => p
  | n + 1 => if hn : n < k0_t2_loop.trips then step2 arg4 arg6 X4 X6 (it2 p n) ⟨n, hn⟩ else it2 p n

theorem it2_succ (p : Run arg7 arg8 arg9) (k : Fin k0_t2_loop.trips) :
    it2 arg4 arg6 X4 X6 p (k.val + 1) = step2 arg4 arg6 X4 X6 (it2 arg4 arg6 X4 X6 p k.val) k := by
  rw [it2, dif_pos k.isLt]

/-- The rows of one head of the three running arrays represent a weighted sum and a denominator. -/
def RepP (p : Run arg7 arg8 arg9) (h : Fin 4) (r : Fin 2048) (A : Fin 128 → ℝ) (L : ℝ) : Prop := RepAt arg7 arg8 arg9 p.1 p.2.1 p.2.2 h r A L

variable (P : Fin 3 → Fin 4 → Fin 2048 → Fin 128 → ℝ)
  (h4 : ∀ t l u, arg4.view.read (Elt Ideal) X4 (ix3 t l u) = dtab t l u)
  (h6 : ∀ p h r d, arg6.view.read (Elt Ideal) X6 (ix4 p h r d) = ((P p h r d : ℝ) : EReal))
  (h : Fin 4) (r : Fin 2048) (cf : ℝ)

section
variable (p : Run arg7 arg8 arg9)

theorem step1_miss (k : Fin k0_t1_loop.trips) (hr : r.val % 16 ≠ k.val) {A : Fin 128 → ℝ} {L : ℝ} (hp : RepP p h r A L) :
    RepP (step1 arg4 arg6 X4 X6 p k) h r A L := by
  have e := miss1 arg4 arg6 arg7 arg8 arg9 X4 X6 p.1 p.2.1 p.2.2 h r k hr hp
  unfold RepP step1
  dsimp only
  exact e

theorem step2_miss (k : Fin k0_t2_loop.trips) (hr : r.val % 4 * 4 + r.val / 512 ≠ k.val) {A : Fin 128 → ℝ} {L : ℝ} (hp : RepP p h r A L) :
    RepP (step2 arg4 arg6 X4 X6 p k) h r A L := by
  have e := miss2 arg4 arg6 arg7 arg8 arg9 X4 X6 p.1 p.2.1 p.2.2 h r k hr hp
  unfold RepP step2
  dsimp only
  exact e

include h4 h6

theorem step1_hit (hcf : cf < 0) (hcw : Ideal.ofBits .f32 (cw1 h) = (cf : EReal)) (k : Fin k0_t1_loop.trips) (hr : r.val % 16 = k.val) :
    RepP (step1 arg4 arg6 X4 X6 p k) h r (fun d => ∑ t, wgt 16 cf (dotp P h) r t * P 2 h t d) (∑ t, wgt 16 cf (dotp P h) r t) := by
  have e := hit1 arg4 arg6 arg7 arg8 arg9 X4 X6 p.1 p.2.1 p.2.2 P h4 h6 h r cf k hcf hcw hr
  unfold RepP step1
  dsimp only
  exact e

theorem step2_hit (hcf : cf < 0) (hcw : Ideal.ofBits .f32 (cw2 h) = (cf : EReal)) (k : Fin k0_t2_loop.trips) (hr : r.val % 4 * 4 + r.val / 512 = k.val)
    {A : Fin 128 → ℝ} {L : ℝ} (hp : RepP p h r A L) :
    RepP (step2 arg4 arg6 X4 X6 p k) h r (fun d => A d + ∑ t, wgt 4 cf (dotp P h) r t * P 2 h t d) (L + ∑ t, wgt 4 cf (dotp P h) r t) := by
  have e := hit2 arg4 arg6 arg7 arg8 arg9 X4 X6 p.1 p.2.1 p.2.2 P h4 h6 h r cf k hcf hcw hr hp
  unfold RepP step2
  dsimp only
  exact e
end

include h4 h6

/-- After the loop of dilation 16 every row holds its sums. -/
theorem it1_rep (hcf : cf < 0) (hcw : Ideal.ofBits .f32 (cw1 h) = (cf : EReal)) (p : Run arg7 arg8 arg9) (n : ℕ) (hn : n ≤ k0_t1_loop.trips) (hr : r.val % 16 < n) :
    RepP (it1 arg4 arg6 X4 X6 p n) h r (fun d => ∑ t, wgt 16 cf (dotp P h) r t * P 2 h t d) (∑ t, wgt 16 cf (dotp P h) r t) := by
  induction n with
  | zero => omega
  | succ n ih =>
    have es : it1 arg4 arg6 X4 X6 p (n + 1) = step1 arg4 arg6 X4 X6 (it1 arg4 arg6 X4 X6 p n) ⟨n, hn⟩ := it1_succ arg4 arg6 X4 X6 p ⟨n, hn⟩
    rw [es]
    by_cases e : r.val % 16 = n
    · exact step1_hit arg4 arg6 X4 X6 P h4 h6 h r cf _ hcf hcw ⟨n, hn⟩ e
    · exact step1_miss arg4 arg6 X4 X6 h r _ ⟨n, hn⟩ e (ih (Nat.le_of_succ_le hn) (by omega))

/-- The loop of dilation 4 adds to every row its sums. -/
theorem it2_rep (hcf : cf < 0) (hcw : Ideal.ofBits .f32 (cw2 h) = (cf : EReal)) (p : Run arg7 arg8 arg9) {A : Fin 128 → ℝ} {L : ℝ} (hp : RepP p h r A L)
    (n : ℕ) (hn : n ≤ k0_t2_loop.trips) :
    (r.val % 4 * 4 + r.val / 512 < n → RepP (it2 arg4 arg6 X4 X6 p n) h r
      (fun d => A d + ∑ t, wgt 4 cf (dotp P h) r t * P 2 h t d) (L + ∑ t, wgt 4 cf (dotp P h) r t))
    ∧ (¬ r.val % 4 * 4 + r.val / 512 < n → RepP (it2 arg4 arg6 X4 X6 p n) h r A L) := by
  induction n with
  | zero => exact ⟨fun e => absurd e (Nat.not_lt_zero _), fun _ => hp⟩
  | succ n ih =>
    have ih := ih (Nat.le_of_succ_le hn)
    have es : it2 arg4 arg6 X4 X6 p (n + 1) = step2 arg4 arg6 X4 X6 (it2 arg4 arg6 X4 X6 p n) ⟨n, hn⟩ := it2_succ arg4 arg6 X4 X6 p ⟨n, hn⟩
    rw [es]
    by_cases e : r.val % 4 * 4 + r.val / 512 = n
    · exact ⟨fun _ => step2_hit arg4 arg6 X4 X6 P h4 h6 h r cf _ hcf hcw ⟨n, hn⟩ e (ih.2 (by omega)), fun hh => absurd (by omega) hh⟩
    · exact ⟨fun hh => step2_miss arg4 arg6 X4 X6 h r _ ⟨n, hn⟩ e (ih.1 (by omega)),
        fun hh => step2_miss arg4 arg6 X4 X6 h r _ ⟨n, hn⟩ e (ih.2 (by omega))⟩
end

end Cert.KernelIdeal.Attn

end
-- ==== Proof.Attn.Glue.lean ====
/- The running arrays after the trips of the two strided loops, as the body finds them, are those of `Rows`. -/
module

public import proofs.«01_k».proof.Proof.Attn.Rows

@[expose] public section

set_option maxRecDepth 16384
set_option maxHeartbeats 400000

noncomputable section

namespace Cert.KernelIdeal.Attn

open Cert.KernelIdeal Cert.KernelIdeal.Gen Cert.Online
open Idealize.ShloMosaic Idealize.ShloMosaic.TcCoe Idealize.ShloMosaic.Tactic
open Idealize.ShloMosaic.Rounds

/-- Three equal lists of pieces leave equal arrays. -/
theorem pairs {arg7 arg8 arg9 : Memref sig .tc .vmem S4x2048x128 .f32} (p : Run arg7 arg8 arg9) {La La' Lm Lm' Ll Ll' : List (View.Piece (Elt Ideal) S4x2048x128 .f32)}
    (ea : La = La') (em : Lm = Lm') (el : Ll = Ll') :
    ((arg7.view.writes (Elt Ideal) p.1 La, arg8.view.writes (Elt Ideal) p.2.1 Lm, arg9.view.writes (Elt Ideal) p.2.2 Ll) : Run arg7 arg8 arg9)
      = (arg7.view.writes (Elt Ideal) p.1 La', arg8.view.writes (Elt Ideal) p.2.1 Lm', arg9.view.writes (Elt Ideal) p.2.2 Ll') := by
  rw [ea, em, el]

section
variable {𝒱 : Variants} {c : Dev nD} {bd : Option 𝒱.V} {i : grid0.Coords} {arg1 : Memref sig .tc .vmem S1x2048x1024 .bf16} {harg1 : arg1.IsWhole} {arg2 : Memref sig .tc .vmem S1024x4608 .bf16} {harg2 : arg2.IsWhole} {arg3 : Memref sig .tc .vmem S1x4608 .f32} {harg3 : arg3.IsWhole} {arg4 : Memref sig .tc .vmem S4x128x256 .f32} {harg4 : arg4.IsWhole} {arg5 : Memref sig .tc .vmem S1x2048x512 .bf16} {harg5 : arg5.IsWhole} {arg6 : Memref sig .tc .vmem S3x4x2048x128 .f32} {harg6 : arg6.IsWhole} {arg7 : Memref sig .tc .vmem S4x2048x128 .f32} {harg7 : arg7.IsWhole} {arg8 : Memref sig .tc .vmem S4x2048x128 .f32} {harg8 : arg8.IsWhole} {arg9 : Memref sig .tc .vmem S4x2048x128 .f32} {harg9 : arg9.IsWhole} {v1 : FVec Ideal S2048x1024 .bf16} {v56 : FVec Ideal S2048x512 .f32} {v57 : FVec Ideal S2048x128 .f32} {X4 : BufTy.Contents (Elt Ideal) arg4.view.ty} {X6 : BufTy.Contents (Elt Ideal) arg6.view.ty}
  {G7 : BufTy.Contents (Elt Ideal) arg7.view.ty} {G8 : BufTy.Contents (Elt Ideal) arg8.view.ty} {G9 : BufTy.Contents (Elt Ideal) arg9.view.ty}

theorem st1_step (k : Fin k0_t1_loop.trips) :
    st1 (F := Ideal) 𝒱 c bd i arg1 harg1 arg2 harg2 arg3 harg3 arg4 harg4 arg5 harg5 arg6 harg6 arg7 harg7 arg8 harg8 arg9 harg9 v1 v56 v57 X4 X6 G7 G8 G9 (k.val + 1) = step1 arg4 arg6 X4 X6 (st1 (F := Ideal) 𝒱 c bd i arg1 harg1 arg2 harg2 arg3 harg3 arg4 harg4 arg5 harg5 arg6 harg6 arg7 harg7 arg8 harg8 arg9 harg9 v1 v56 v57 X4 X6 G7 G8 G9 k.val) k := by
  refine (st1_succ (F := Ideal) 𝒱 c bd i arg1 harg1 arg2 harg2 arg3 harg3 arg4 harg4 arg5 harg5 arg6 harg6 arg7 harg7 arg8 harg8 arg9 harg9 v1 v56 v57 X4 X6 G7 G8 G9 k).trans ?_
  generalize st1 (F := Ideal) 𝒱 c bd i arg1 harg1 arg2 harg2 arg3 harg3 arg4 harg4 arg5 harg5 arg6 harg6 arg7 harg7 arg8 harg8 arg9 harg9 v1 v56 v57 X4 X6 G7 G8 G9 k.val = p
  unfold step1 a1 m1 l1
  exact pairs p trip1_a trip1_m trip1_l

theorem st1_it (n : ℕ) (hn : n ≤ k0_t1_loop.trips) :
    st1 (F := Ideal) 𝒱 c bd i arg1 harg1 arg2 harg2 arg3 harg3 arg4 harg4 arg5 harg5 arg6 harg6 arg7 harg7 arg8 harg8 arg9 harg9 v1 v56 v57 X4 X6 G7 G8 G9 n = it1 arg4 arg6 X4 X6 (G7, G8, G9) n := by
  induction n with
  | zero => rfl
  | succ n ih =>
    have e := st1_step (𝒱 := 𝒱) (c := c) (bd := bd) (i := i) (harg1 := harg1) (harg2 := harg2) (harg3 := harg3) (harg4 := harg4) (harg5 := harg5) (harg6 := harg6) (harg7 := harg7) (harg8 := harg8) (harg9 := harg9) (v1 := v1) (v56 := v56) (v57 := v57) (X4 := X4) (X6 := X6) (G7 := G7) (G8 := G8) (G9 := G9) (⟨n, hn⟩ : Fin k0_t1_loop.trips)
    rw [ih (Nat.le_of_succ_le hn)] at e
    exact e.trans (it1_succ arg4 arg6 X4 X6 (G7, G8, G9) ⟨n, hn⟩).symm
end

section
variable {𝒱 : Variants} {c : Dev nD} {bd : Option 𝒱.V} {i : grid0.Coords} {arg1 : Memref sig .tc .vmem S1x2048x1024 .bf16} {harg1 : arg1.IsWhole} {arg2 : Memref sig .tc .vmem S1024x4608 .bf16} {harg2 : arg2.IsWhole} {arg3 : Memref sig .tc .vmem S1x4608 .f32} {harg3 : arg3.IsWhole} {arg4 : Memref sig .tc .vmem S4x128x256 .f32} {harg4 : arg4.IsWhole} {arg5 : Memref sig .tc .vmem S1x2048x512 .bf16} {harg5 : arg5.IsWhole} {arg6 : Memref sig .tc .vmem S3x4x2048x128 .f32} {harg6 : arg6.IsWhole} {arg7 : Memref sig .tc .vmem S4x2048x128 .f32} {harg7 : arg7.IsWhole} {arg8 : Memref sig .tc .vmem S4x2048x128 .f32} {harg8 : arg8.IsWhole} {arg9 : Memref sig .tc .vmem S4x2048x128 .f32} {harg9 : arg9.IsWhole} {v1 : FVec Ideal S2048x1024 .bf16} {v141 : FVec Ideal S2048x128 .f32} {X4 : BufTy.Contents (Elt Ideal) arg4.view.ty} {X6 : BufTy.Contents (Elt Ideal) arg6.view.ty}
  {G7 : BufTy.Contents (Elt Ideal) arg7.view.ty} {G8 : BufTy.Contents (Elt Ideal) arg8.view.ty} {G9 : BufTy.Contents (Elt Ideal) arg9.view.ty}

theorem st2_step (k : Fin k0_t2_loop.trips) :
    st2 (F := Ideal) 𝒱 c bd i arg1 harg1 arg2 harg2 arg3 harg3 arg4 harg4 arg5 harg5 arg6 harg6 arg7 harg7 arg8 harg8 arg9 harg9 v1 v141 X4 X6 G7 G8 G9 (k.val + 1) = step2 arg4 arg6 X4 X6 (st2 (F := Ideal) 𝒱 c bd i arg1 harg1 arg2 harg2 arg3 harg3 arg4 harg4 arg5 harg5 arg6 harg6 arg7 harg7 arg8 harg8 arg9 harg9 v1 v141 X4 X6 G7 G8 G9 k.val) k := by
  refine (st2_succ (F := Ideal) 𝒱 c bd i arg1 harg1 arg2 harg2 arg3 harg3 arg4 harg4 arg5 harg5 arg6 harg6 arg7 harg7 arg8 harg8 arg9 harg9 v1 v141 X4 X6 G7 G8 G9 k).trans ?_
  generalize st2 (F := Ideal) 𝒱 c bd i arg1 harg1 arg2 harg2 arg3 harg3 arg4 harg4 arg5 harg5 arg6 harg6 arg7 harg7 arg8 harg8 arg9 harg9 v1 v141 X4 X6 G7 G8 G9 k.val = p
  unfold step2 a2 m2 l2
  exact pairs p trip2_a trip2_m trip2_l

theorem st2_it (n : ℕ) (hn : n ≤ k0_t2_loop.trips) :
    st2 (F := Ideal) 𝒱 c bd i arg1 harg1 arg2 harg2 arg3 harg3 arg4 harg4 arg5 harg5 arg6 harg6 arg7 harg7 arg8 harg8 arg9 harg9 v1 v141 X4 X6 G7 G8 G9 n = it2 arg4 arg6 X4 X6 (G7, G8, G9) n := by
  induction n with
  | zero => rfl
  | succ n ih =>
    have e := st2_step (𝒱 := 𝒱) (c := c) (bd := bd) (i := i) (harg1 := harg1) (harg2 := harg2) (harg3 := harg3) (harg4 := harg4) (harg5 := harg5) (harg6 := harg6) (harg7 := harg7) (harg8 := harg8) (harg9 := harg9) (v1 := v1) (v141 := v141) (X4 := X4) (X6 := X6) (G7 := G7) (G8 := G8) (G9 := G9) (⟨n, hn⟩ : Fin k0_t2_loop.trips)
    rw [ih (Nat.le_of_succ_le hn)] at e
    exact e.trans (it2_succ arg4 arg6 X4 X6 (G7, G8, G9) ⟨n, hn⟩).symm
end

end Cert.KernelIdeal.Attn

end
-- ==== Proof.Attn.Run.lean ====
/- The pieces the attention call's body stores, and what the result's buffer reads after them. -/
module

import all proofs.«01_k».proof.Proof.Attn.BodyIdeal
public import proofs.«01_k».proof.Proof.Attn.BodyIdeal
public import proofs.«01_k».proof.Proof.Attn.Proj
public import proofs.«01_k».proof.Proof.Attn.Glue

@[expose] public section

set_option maxRecDepth 16384

noncomputable section

namespace Cert.KernelIdeal.Attn

open Cert.KernelIdeal Cert.KernelIdeal.Gen Cert.Online
open Idealize.ShloMosaic Idealize.ShloMosaic.TcCoe Idealize.ShloMosaic.Tactic

section
variable (c : Dev nD) (i : grid0.Coords) (arg1 : Memref sig .tc .vmem S1x2048x1024 .bf16) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S4x128x256 .f32) (harg4 : arg4.IsWhole) (arg5 : Memref sig .tc .vmem S1x2048x512 .bf16) (harg5 : arg5.IsWhole) (arg6 : Memref sig .tc .vmem S3x4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S4x2048x128 .f32) (harg9 : arg9.IsWhole) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty)

theorem stI1_it (v1 v56 v57) (X6 : BufTy.Contents (Elt Ideal) arg6.view.ty) :
    stI1 (F := Ideal) Variants.none c none i arg1 harg1 arg2 harg2 arg3 harg3 arg4 harg4 arg5 harg5 arg6 harg6 arg7 harg7 arg8 harg8 arg9 harg9 v1 v56 v57 f4 X6 f7 f8 f9 (15 + 1) = it1 arg4 arg6 f4 X6 (f7, f8, f9) (15 + 1) :=
  (st1_eq (F := Ideal) Variants.none c none i arg1 harg1 arg2 harg2 arg3 harg3 arg4 harg4 arg5 harg5 arg6 harg6 arg7 harg7 arg8 harg8 arg9 harg9 v1 v56 v57 f4 X6 f7 f8 f9 (15 + 1)).symm.trans (st1_it (15 + 1) (by rw [trips1]))

/-- The body's pieces, in terms of the trips of `Rows` and `Out3`: only the arrays the queries, keys and values lie in matter. -/
theorem core (v1 v56 v57 v141) (A3 A2 A1 B3 B2 B1 : List (View.Piece (Elt Ideal) S3x4x2048x128 .f32)) (e3 : A3 = B3) (e2 : A2 = B2) (e1 : A1 = B1)
    (T p : Run arg7 arg8 arg9)
    (hT : T = stI1 (F := Ideal) Variants.none c none i arg1 harg1 arg2 harg2 arg3 harg3 arg4 harg4 arg5 harg5 arg6 harg6 arg7 harg7 arg8 harg8 arg9 harg9 v1 v56 v57 f4 (arg6.view.writes (Elt Ideal) arg6.view.junk A3) f7 f8 f9 (15 + 1))
    (hp : p = st2 (F := Ideal) Variants.none c none i arg1 harg1 arg2 harg2 arg3 harg3 arg4 harg4 arg5 harg5 arg6 harg6 arg7 harg7 arg8 harg8 arg9 harg9 v1 v141 f4 (arg6.view.writes (Elt Ideal) arg6.view.junk A2) T.1 T.2.1 T.2.2 k0_t2_loop.trips) :
    pb_k0_t3 (F := Ideal) Variants.none c none i arg1 harg1 arg2 harg2 arg3 harg3 arg4 harg4 arg5 harg5 arg6 harg6 arg7 harg7 arg8 harg8 arg9 harg9 f4 (arg6.view.writes (Elt Ideal) arg6.view.junk A1) p.1 p.2.1 p.2.2 k0_t3_loop.trips
      = outsTo arg4 arg6 arg7 arg8 arg9 f4 (arg6.view.writes (Elt Ideal) arg6.view.junk B1)
          (it2 arg4 arg6 f4 (arg6.view.writes (Elt Ideal) arg6.view.junk B2) (it1 arg4 arg6 f4 (arg6.view.writes (Elt Ideal) arg6.view.junk B3) (f7, f8, f9) (15 + 1)) k0_t2_loop.trips).1
          (it2 arg4 arg6 f4 (arg6.view.writes (Elt Ideal) arg6.view.junk B2) (it1 arg4 arg6 f4 (arg6.view.writes (Elt Ideal) arg6.view.junk B3) (f7, f8, f9) (15 + 1)) k0_t2_loop.trips).2.1
          (it2 arg4 arg6 f4 (arg6.view.writes (Elt Ideal) arg6.view.junk B2) (it1 arg4 arg6 f4 (arg6.view.writes (Elt Ideal) arg6.view.junk B3) (f7, f8, f9) (15 + 1)) k0_t2_loop.trips).2.2
          k0_t3_loop.trips := by
  subst e3 e2 e1
  rw [stI1_it] at hT
  rw [st2_it _ le_rfl] at hp
  have hq : ((T.1, T.2.1, T.2.2) : Run arg7 arg8 arg9) = T := rfl
  rw [hq] at hp
  subst hT
  subst hp
  exact pb3_eq _ le_rfl

end

section
variable (c : Dev nD) (i : grid0.Coords) (arg1 : Memref sig .tc .vmem S1x2048x1024 .bf16) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S4x128x256 .f32) (harg4 : arg4.IsWhole) (arg5 : Memref sig .tc .vmem S1x2048x512 .bf16) (harg5 : arg5.IsWhole) (arg6 : Memref sig .tc .vmem S3x4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S4x2048x128 .f32) (harg9 : arg9.IsWhole) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty)

/-- The stores of the queries, keys and values, after each group. -/
theorem H16_eq : kernelRun.sl.H6_12 (F := Ideal) arg1 arg2 arg3 f1 f2 f3 = pile (ws arg1 arg2 arg3 f1 f2 f3 2) [] := by
  unfold kernelRun.sl.H6_12
  rfl

/-- What the body stores into the result's buffer. -/
theorem L5_eq : (kernelRun (F := Ideal) c i arg1 harg1 arg2 harg2 arg3 harg3 arg4 harg4 arg5 harg5 arg6 harg6 arg7 harg7 arg8 harg8 arg9 harg9 f1 f2 f3 f4 f6 f7 f8 f9).1
    = outsTo arg4 arg6 arg7 arg8 arg9 f4 (arg6.view.writes (Elt Ideal) arg6.view.junk (pile (ws arg1 arg2 arg3 f1 f2 f3 0) (pile (ws arg1 arg2 arg3 f1 f2 f3 1) (pile (ws arg1 arg2 arg3 f1 f2 f3 2) []))))
          (it2 arg4 arg6 f4 (arg6.view.writes (Elt Ideal) arg6.view.junk (pile (ws arg1 arg2 arg3 f1 f2 f3 1) (pile (ws arg1 arg2 arg3 f1 f2 f3 2) []))) (it1 arg4 arg6 f4 (arg6.view.writes (Elt Ideal) arg6.view.junk (pile (ws arg1 arg2 arg3 f1 f2 f3 2) [])) (f7, f8, f9) (15 + 1)) k0_t2_loop.trips).1
          (it2 arg4 arg6 f4 (arg6.view.writes (Elt Ideal) arg6.view.junk (pile (ws arg1 arg2 arg3 f1 f2 f3 1) (pile (ws arg1 arg2 arg3 f1 f2 f3 2) []))) (it1 arg4 arg6 f4 (arg6.view.writes (Elt Ideal) arg6.view.junk (pile (ws arg1 arg2 arg3 f1 f2 f3 2) [])) (f7, f8, f9) (15 + 1)) k0_t2_loop.trips).2.1
          (it2 arg4 arg6 f4 (arg6.view.writes (Elt Ideal) arg6.view.junk (pile (ws arg1 arg2 arg3 f1 f2 f3 1) (pile (ws arg1 arg2 arg3 f1 f2 f3 2) []))) (it1 arg4 arg6 f4 (arg6.view.writes (Elt Ideal) arg6.view.junk (pile (ws arg1 arg2 arg3 f1 f2 f3 2) [])) (f7, f8, f9) (15 + 1)) k0_t2_loop.trips).2.2
          k0_t3_loop.trips := by
  unfold kernelRun
  refine core c i arg1 harg1 arg2 harg2 arg3 harg3 arg4 harg4 arg5 harg5 arg6 harg6 arg7 harg7 arg8 harg8 arg9 harg9 f4 f7 f8 f9 _ _ _ _ _ _ _ _ _ _ (H16_eq ..) ?_ ?_ _ _ rfl rfl
  · unfold kernelRun.sl.H6_12
    rfl
  · unfold kernelRun.sl.H6_27 kernelRun.sl.H6_12
    rfl

end

end Cert.KernelIdeal.Attn

end
-- ==== Proof.Attn.Val.lean ====
/- What the result's buffer reads after the attention call's body: the quotient of the sums over the three dilations. -/
module

public import proofs.«01_k».proof.Proof.Attn.Run
public import proofs.«01_k».proof.Proof.Attn.Last

@[expose] public section

set_option maxRecDepth 16384

noncomputable section

namespace Cert.KernelIdeal.Attn

open Cert.KernelIdeal Cert.KernelIdeal.Gen Cert.Online
open Cert.AttnRef (prj dotq scl cfs cfs_neg dils)
open Idealize.ShloMosaic Idealize.ShloMosaic.TcCoe Idealize.ShloMosaic.Tactic

/-- The quotient of the sums over the three dilations, over the reals. -/
def qt (xr : Fin 2048 → Fin 1024 → ℝ) (wr : Fin 1024 → Fin 9728 → ℝ) (br : Fin 9728 → ℝ) (h : Fin 4) (r : Fin 2048) (d : Fin 128) : ℝ :=
  (∑ g : Fin 3, ∑ t, wgt (dils g) (cfs g h) (dotq scl (prj xr wr br 0 g h) (prj xr wr br 1 g h)) r t * prj xr wr br 2 g h t d)
    / (∑ g : Fin 3, ∑ t, wgt (dils g) (cfs g h) (dotq scl (prj xr wr br 0 g h) (prj xr wr br 1 g h)) r t)

/-- The same in the order the loops run: dilation 16, then 4, then 1. -/
theorem qt_eq (xr : Fin 2048 → Fin 1024 → ℝ) (wr : Fin 1024 → Fin 9728 → ℝ) (br : Fin 9728 → ℝ) (h : Fin 4) (r : Fin 2048) (d : Fin 128) :
    (((∑ t, wgt 16 (cfs 2 h) (dotp (PP xr wr br 2) h) r t * PP xr wr br 2 2 h t d) + ∑ t, wgt 4 (cfs 1 h) (dotp (PP xr wr br 1) h) r t * PP xr wr br 1 2 h t d)
        + ∑ t, wgt 1 (cfs 0 h) (dotp (PP xr wr br 0) h) r t * PP xr wr br 0 2 h t d)
      / (((∑ t, wgt 16 (cfs 2 h) (dotp (PP xr wr br 2) h) r t) + ∑ t, wgt 4 (cfs 1 h) (dotp (PP xr wr br 1) h) r t)
        + ∑ t, wgt 1 (cfs 0 h) (dotp (PP xr wr br 0) h) r t) = qt xr wr br h r d := by
  have three (a b c : ℝ) : a + b + c = c + b + a := by ring
  unfold qt
  rw [Fin.sum_univ_three, Fin.sum_univ_three, dotp_PP, dotp_PP, dotp_PP]
  exact congrArg₂ (· / ·) (three _ _ _) (three _ _ _)

section
variable (xr : Fin 2048 → Fin 1024 → ℝ) (wr : Fin 1024 → Fin 9728 → ℝ) (br : Fin 9728 → ℝ)
variable (arg4 : Memref sig .tc .vmem S4x128x256 .f32) (arg5 : Memref sig .tc .vmem S1x2048x512 .bf16) (arg6 : Memref sig .tc .vmem S3x4x2048x128 .f32)
  (arg7 arg8 arg9 : Memref sig .tc .vmem S4x2048x128 .f32)
  (f4 : BufTy.Contents (Elt Ideal) arg4.view.ty) (f5 : BufTy.Contents (Elt Ideal) arg5.view.ty) (X3 X2 X1 : BufTy.Contents (Elt Ideal) arg6.view.ty)
  (h4 : ∀ t l u, arg4.view.read (Elt Ideal) f4 (ix3 t l u) = dtab t l u)
  (h3 : ∀ p h r d, arg6.view.read (Elt Ideal) X3 (ix4 p h r d) = ((PP xr wr br 2 p h r d : ℝ) : EReal))
  (h2 : ∀ p h r d, arg6.view.read (Elt Ideal) X2 (ix4 p h r d) = ((PP xr wr br 1 p h r d : ℝ) : EReal))
  (h1 : ∀ p h r d, arg6.view.read (Elt Ideal) X1 (ix4 p h r d) = ((PP xr wr br 0 p h r d : ℝ) : EReal))

include h4 h3 h2 h1

theorem outs_qt (p : Run arg7 arg8 arg9) (h : Fin 4) (r : Fin 2048) (d : Fin 128) :
    (arg5.view.read (Elt Ideal) (arg5.view.writes (Elt Ideal) f5 (outsTo arg4 arg6 arg7 arg8 arg9 f4 X1
      (it2 arg4 arg6 f4 X2 (it1 arg4 arg6 f4 X3 p (15 + 1)) k0_t2_loop.trips).1
      (it2 arg4 arg6 f4 X2 (it1 arg4 arg6 f4 X3 p (15 + 1)) k0_t2_loop.trips).2.1
      (it2 arg4 arg6 f4 X2 (it1 arg4 arg6 f4 X3 p (15 + 1)) k0_t2_loop.trips).2.2 k0_t3_loop.trips)) (ix3 0 r (lane h d)) : EReal)
      = ((qt xr wr br h r d : ℝ) : EReal) := by
  have R1 := it1_rep arg4 arg6 f4 X3 (PP xr wr br 2) h4 h3 h r (cfs 2 h) (cfs_neg 2 h) (Cert.AttnRef.cf2_eq h) p (15 + 1) (by rw [trips1]) (by omega)
  have R2 := (it2_rep arg4 arg6 f4 X2 (PP xr wr br 1) h4 h2 h r (cfs 1 h) (cfs_neg 1 h) (Cert.AttnRef.cf1_eq h) _ R1 k0_t2_loop.trips le_rfl).1 (by rw [trips2]; omega)
  generalize it2 arg4 arg6 f4 X2 (it1 arg4 arg6 f4 X3 p (15 + 1)) k0_t2_loop.trips = q at R2 ⊢
  have hk : r.val / 128 < k0_t3_loop.trips := by rw [trips3]; omega
  have hr : r.val = (⟨r.val / 128, hk⟩ : Fin k0_t3_loop.trips).val * 128 + (⟨r.val % 128, by omega⟩ : Fin 128).val := by dsimp only; omega
  rw [outsTo_at arg4 arg5 f5 arg6 arg7 arg8 arg9 f4 X1 q.1 q.2.1 q.2.2 h r ⟨r.val % 128, by omega⟩ d ⟨r.val / 128, hk⟩ hr k0_t3_loop.trips le_rfl hk]
  refine (res3_at arg4 arg6 arg7 arg8 arg9 f4 X1 q.1 q.2.1 q.2.2 (PP xr wr br 0) h4 h1 h r ⟨r.val % 128, by omega⟩ d (cfs 0 h) ⟨r.val / 128, hk⟩ (cfs_neg 0 h) (Cert.AttnRef.cf0_eq h) hr
    (add_nonneg (wgt_pos ..).le (wgt_pos ..).le) R2).trans ?_
  exact congrArg _ (qt_eq xr wr br h r d)

end

section
variable (c : Dev nD) (i : grid0.Coords) (arg1 : Memref sig .tc .vmem S1x2048x1024 .bf16) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S4x128x256 .f32) (harg4 : arg4.IsWhole) (arg5 : Memref sig .tc .vmem S1x2048x512 .bf16) (harg5 : arg5.IsWhole) (arg6 : Memref sig .tc .vmem S3x4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S4x2048x128 .f32) (harg9 : arg9.IsWhole) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty)
  (xr : Fin 2048 → Fin 1024 → ℝ) (wr : Fin 1024 → Fin 9728 → ℝ) (br : Fin 9728 → ℝ) (f5 : BufTy.Contents (Elt Ideal) arg5.view.ty)
  (hx : ∀ r j, arg1.view.read (Elt Ideal) f1 (ix3 0 r j) = ((xr r j : ℝ) : EReal))
  (hw : ∀ j (k : Fin 4608), arg2.view.read (Elt Ideal) f2 (ix2 j k) = ((wr j (colK k) : ℝ) : EReal))
  (hb : ∀ k : Fin 4608, arg3.view.read (Elt Ideal) f3 (ix2 0 k) = ((br (colK k) : ℝ) : EReal))
  (h4 : ∀ t l u, arg4.view.read (Elt Ideal) f4 (ix3 t l u) = dtab t l u)

include hx hw hb h4

/-- What the result's buffer reads after the body, at head `h`, row `r`, lane `d`. -/
theorem body_at (h : Fin 4) (r : Fin 2048) (d : Fin 128) :
    (arg5.view.read (Elt Ideal) (arg5.view.writes (Elt Ideal) f5 (kernelRun (F := Ideal) c i arg1 harg1 arg2 harg2 arg3 harg3 arg4 harg4 arg5 harg5 arg6 harg6 arg7 harg7 arg8 harg8 arg9 harg9 f1 f2 f3 f4 f6 f7 f8 f9).1) (ix3 0 r (lane h d)) : EReal)
      = ((qt xr wr br h r d : ℝ) : EReal) := by
  rw [L5_eq]
  have S := ws_at xr wr br arg1 arg2 arg3 f1 f2 f3 hx hw hb
  exact outs_qt xr wr br arg4 arg5 arg6 arg7 arg8 arg9 f4 f5 _ _ _ h4
    (fun p h r d => (pile_at arg6 _ _ _ p h r d).trans (S 2 p h r d)) (fun p h r d => (pile_at arg6 _ _ _ p h r d).trans (S 1 p h r d))
    (fun p h r d => (pile_at arg6 _ _ _ p h r d).trans (S 0 p h r d)) (f7, f8, f9) h r d

end

end Cert.KernelIdeal.Attn

end
-- ==== Proof.Attn.Entry.lean ====
/- The arrays the attention call's body reads, entry by entry: the arguments, and the table of distances. -/
module

public import proofs.«01_k».proof.Proof.Attn.FrameIdeal
public import proofs.«01_k».proof.Proof.Attn.RefAt
public import proofs.«01_k».proof.Proof.Attn.Geom
public import Idealize.ShloMosaic.Lib.Pipeline.ValueKit

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen Cert.Online

variable (m : (ℓ : Loc nD τ sig) → Buf (Elt Ideal) ℓ)

/-- The windows' block indices: the rows and the result move with the point, the others stay. -/
theorem idx : ∀ t : Fin cfg0.N, win0_0.index t = ![t.val, 0, 0] ∧ win0_1.index t = ![0, 0] ∧ win0_2.index t = ![0, 0]
    ∧ win0_3.index t = ![0, 0, 0] ∧ win0_4.index t = ![t.val, 0, 0] :=
  (by decide +kernel : ∀ t : Fin grid0.N, _)

/-- The rows where the call reads them. -/
theorem v4_at (c : Dev nD) (b : Fin 8) (r : Fin 2048) (j : Fin 1024) :
    V m c main_v4 (ix3 b r j) = m ((c.tc : Thread nD τ).loc main_arg0) (ix3 b r j) := by
  unfold V; simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read; pointwise

/-- The projections' weights where the call reads them. -/
theorem v5_at (c : Dev nD) (j : Fin 1024) (k : Fin 4608) :
    V m c main_v5 (ix2 j k) = m ((c.tc : Thread nD τ).loc main_arg1) (ix3 0 j ⟨k.val, by omega⟩) := by
  unfold V; simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read; pointwise

/-- Their offsets. -/
theorem v6_at (c : Dev nD) (k : Fin 4608) :
    V m c main_v6 (ix2 0 k) = m ((c.tc : Thread nD τ).loc main_arg2) (ix2 0 ⟨k.val, by omega⟩) := by
  unfold V; simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read; pointwise

/-- The distance of a key from a row shifted by `o`, as a word. -/
theorem abs_word (l : Fin 128) (u : Fin 256) (o : ℕ) (ho : o ≤ 256) :
    IntOp.absi (IntOp.subi (IntOp.subi (BitVec.ofNat 32 u) (BitVec.ofNat 32 o)) (BitVec.ofNat 32 l)) = BitVec.ofNat 32 (ad (l.val + o) u) := by
  have e : IntOp.subi (IntOp.subi (BitVec.ofNat 32 u) (BitVec.ofNat 32 o)) (BitVec.ofNat 32 l) = IntOp.subi (BitVec.ofNat 32 u) (BitVec.ofNat 32 (l.val + o)) := by
    unfold IntOp.subi
    apply BitVec.eq_of_toNat_eq
    simp only [BitVec.toNat_sub, BitVec.toNat_ofNat]
    omega
  rw [e]
  refine (Cert.AttnRef.absi_sub ⟨u.val, by omega⟩ ⟨l.val + o, by omega⟩).trans (congrArg (BitVec.ofNat 32) ?_)
  unfold ad
  show u.val - (l.val + o) + (l.val + o - u.val) = _
  omega

theorem sle_word : ∀ n : Fin 2048, IntOp.cmpi .sle (BitVec.ofNat 32 n) 64#32 = if n.val ≤ 64 then 1#1 else 0#1 := by decide +kernel
theorem slt_word : ∀ u : Fin 256, IntOp.cmpi .slt (BitVec.ofNat 32 u) 128#32 = if u.val < 128 then 1#1 else 0#1 := by decide +kernel

theorem posInf : Ideal.ofBits .f32 0x7F800000#32 = ⊤ := by simp [Ideal.ofBits, Ideal.ieee]

/-- What the operations before the last few leave. -/
def W (c : Dev nD) : (b : DevRef τ sig) → b.ty.Contents (Elt Ideal) :=
  StableHlo.after (List.flatten [hostOps0, hostOps0_1, hostOps0_2, hostOps0_3, hostOps0_4, hostOps0_5, hostOps0_6, hostOps0_7, hostOps0_8, hostOps0_9]) (fun b => m (c, b))

theorem after_app (L K : List (HloOp τ sig (Elt Ideal))) (σ : (b : DevRef τ sig) → b.ty.Contents (Elt Ideal)) :
    StableHlo.after (L ++ K) σ = StableHlo.after K (StableHlo.after L σ) := by
  induction L generalizing σ with
  | nil => rfl
  | cons a L ih => exact ih _

theorem V_W (c : Dev nD) (b : Ref sig .tc) : V m c b = StableHlo.after hostOps0_10 (W m c) b := by
  unfold W
  rw [← after_app]
  rfl

/-- An entry of a tile of distances: beyond 64, and where masked, +∞. -/
def tw (o : ℕ) (l : Fin 128) (u : Fin 256) : EReal :=
  Scalar.select (IntOp.cmpi .sle (IntOp.absi (IntOp.subi (IntOp.subi (BitVec.ofNat 32 u) (BitVec.ofNat 32 o)) (BitVec.ofNat 32 l))) 64#32)
    ((((IntOp.absi (IntOp.subi (IntOp.subi (BitVec.ofNat 32 u) (BitVec.ofNat 32 o)) (BitVec.ofNat 32 l))).toInt : ℝ) : EReal)) (Ideal.ofBits .f32 0x7F800000#32)

theorem tw_eq (o : ℕ) (ho : o ≤ 256) (l : Fin 128) (u : Fin 256) : tw o l u = dent (ad (l.val + o) u) := by
  have hn : ad (l.val + o) u < 2048 := by unfold ad; omega
  unfold tw dent
  rw [abs_word l u o ho, Cert.AttnRef.toInt_ad _ hn, posInf]
  have e := sle_word ⟨_, hn⟩
  dsimp only at e
  by_cases h : ad (l.val + o) u ≤ 64
  · rw [if_pos h] at e ⊢
    rw [Scalar.select_of_eq_one e]
    norm_cast
  · rw [if_neg h] at e ⊢
    exact Scalar.select_of_eq_zero e _ _

theorem v16_at (c : Dev nD) (l : Fin 128) (u : Fin 256) : (W m c main_v16 (ix2 l u) : EReal) = tw 0 l u := by
  unfold W; simp only [hostOps0, hostOps0_1, hostOps0_2, hostOps0_3, hostOps0_4, hostOps0_5, hostOps0_6, hostOps0_7, hostOps0_8, hostOps0_9, List.flatten_cons, List.flatten_nil, List.append_nil, List.cons_append, List.nil_append]
  entry_read; pointwise [tw]
  rfl

theorem v24_at (c : Dev nD) (l : Fin 128) (u : Fin 256) : (W m c main_v24 (ix2 l u) : EReal) = tw 64 l u := by
  unfold W; simp only [hostOps0, hostOps0_1, hostOps0_2, hostOps0_3, hostOps0_4, hostOps0_5, hostOps0_6, hostOps0_7, hostOps0_8, hostOps0_9, List.flatten_cons, List.flatten_nil, List.append_nil, List.cons_append, List.nil_append]
  entry_read; pointwise [tw]
  rfl

theorem v32_at (c : Dev nD) (l : Fin 128) (u : Fin 256) : (W m c main_v32 (ix2 l u) : EReal) = tw 128 l u := by
  unfold W; simp only [hostOps0, hostOps0_1, hostOps0_2, hostOps0_3, hostOps0_4, hostOps0_5, hostOps0_6, hostOps0_7, hostOps0_8, hostOps0_9, List.flatten_cons, List.flatten_nil, List.append_nil, List.cons_append, List.nil_append]
  entry_read; pointwise [tw]
  rfl

/-- The same, of the tile that is not shifted. -/
def tv (l : Fin 128) (u : Fin 256) : EReal :=
  Scalar.select (IntOp.cmpi .sle (IntOp.absi (IntOp.subi (BitVec.ofNat 32 u) (BitVec.ofNat 32 l))) 64#32)
    ((((IntOp.absi (IntOp.subi (BitVec.ofNat 32 u) (BitVec.ofNat 32 l))).toInt : ℝ) : EReal)) (Ideal.ofBits .f32 0x7F800000#32)

theorem tv_eq (l : Fin 128) (u : Fin 256) : tv l u = tw 0 l u := by
  have e : IntOp.subi (BitVec.ofNat 32 u) (BitVec.ofNat 32 0) = BitVec.ofNat 32 u := BitVec.sub_zero _
  unfold tv tw
  rw [e]

theorem v41_at (c : Dev nD) (l : Fin 128) (u : Fin 256) : (W m c main_v41 (ix2 l u) : EReal)
    = Scalar.select (IntOp.cmpi .slt (BitVec.ofNat 32 u) 128#32) (tv l u) (Ideal.ofBits .f32 0x7F800000#32) := by
  unfold W; simp only [hostOps0, hostOps0_1, hostOps0_2, hostOps0_3, hostOps0_4, hostOps0_5, hostOps0_6, hostOps0_7, hostOps0_8, hostOps0_9, List.flatten_cons, List.flatten_nil, List.append_nil, List.cons_append, List.nil_append]
  entry_read; pointwise [tv]
  rfl

end Cert.KernelIdeal.Attn

end
-- ==== Proof.Attn.Table.lean ====
/- The table of distances the attention call reads. -/
module

public import proofs.«01_k».proof.Proof.Attn.Entry

@[expose] public section

set_option maxRecDepth 16384

noncomputable section

namespace Cert.KernelIdeal.Attn

open Idealize.ShloMosaic Idealize.ShloMosaic.TcCoe Idealize.SL.Sem
open Cert.KernelIdeal Cert.KernelIdeal.Gen Cert.Online

variable (m : (ℓ : Loc nD τ sig) → Buf (Elt Ideal) ℓ)

/-- A tile, where the table's concatenation reads it. -/
theorem v42_s (σ : (b : DevRef τ sig) → b.ty.Contents (Elt Ideal)) (l : Fin 128) (u : Fin 256) :
    (StableHlo.after (List.take 4 hostOps0_10) σ main_v42 (ix3 0 l u) : EReal) = σ main_v16 (ix2 l u) := by
  simp only [hostOps0_10, List.take]
  entry_read; pointwise

theorem v43_s (σ : (b : DevRef τ sig) → b.ty.Contents (Elt Ideal)) (l : Fin 128) (u : Fin 256) :
    (StableHlo.after (List.take 4 hostOps0_10) σ main_v43 (ix3 0 l u) : EReal) = σ main_v24 (ix2 l u) := by
  simp only [hostOps0_10, List.take]
  entry_read; pointwise

theorem v44_s (σ : (b : DevRef τ sig) → b.ty.Contents (Elt Ideal)) (l : Fin 128) (u : Fin 256) :
    (StableHlo.after (List.take 4 hostOps0_10) σ main_v44 (ix3 0 l u) : EReal) = σ main_v32 (ix2 l u) := by
  simp only [hostOps0_10, List.take]
  entry_read; pointwise

theorem v45_s (σ : (b : DevRef τ sig) → b.ty.Contents (Elt Ideal)) (l : Fin 128) (u : Fin 256) :
    (StableHlo.after (List.take 4 hostOps0_10) σ main_v45 (ix3 0 l u) : EReal) = σ main_v41 (ix2 l u) := by
  simp only [hostOps0_10, List.take]
  entry_read; pointwise

/-- The four tiles, one upon another. -/
theorem cat_at (a b c d : FVec Ideal S1x128x256 .f32) (hc) (t : Fin 4) (l : Fin 128) (u : Fin 256) :
    (concatenate S4x128x256 0 [⟨S1x128x256, a⟩, ⟨S1x128x256, b⟩, ⟨S1x128x256, c⟩, ⟨S1x128x256, d⟩] hc (ix3 t l u) : EReal)
      = ![(a (ix3 0 l u) : EReal), b (ix3 0 l u), c (ix3 0 l u), d (ix3 0 l u)] t := by
  fin_cases t <;> (pointwise; try rfl)

theorem v46_n (σ : (b : DevRef τ sig) → b.ty.Contents (Elt Ideal)) :
    (StableHlo.after hostOps0_10 σ main_v46 : FVec Ideal S4x128x256 .f32) =
      (concatenate S4x128x256 0 [⟨S1x128x256, StableHlo.after (List.take 4 hostOps0_10) σ main_v42⟩, ⟨S1x128x256, StableHlo.after (List.take 4 hostOps0_10) σ main_v43⟩, ⟨S1x128x256, StableHlo.after (List.take 4 hostOps0_10) σ main_v44⟩, ⟨S1x128x256, StableHlo.after (List.take 4 hostOps0_10) σ main_v45⟩] concatenates_S1x128x256_S1x128x256_S1x128x256_S1x128x256_S4x128x256_d0 : FVec Ideal S4x128x256 .f32) := by
  have e := congrFun (after_app (List.take 4 (hostOps0_10 (F := Ideal))) (List.drop 4 hostOps0_10) σ) main_v46
  refine Eq.trans (show _ = _ from e) ?_
  generalize StableHlo.after (List.take 4 (hostOps0_10 (F := Ideal))) σ = s
  simp only [hostOps0_10, List.drop, StableHlo.after_cons, StableHlo.after_nil]
  exact StableHlo.nary_result' _ _ _ _ _

theorem sel_at (u : Fin 256) (a : EReal) : Scalar.select (IntOp.cmpi .slt (BitVec.ofNat 32 u) 128#32) a ⊤ = if u.val < 128 then a else ⊤ := by
  rw [slt_word]
  by_cases h : u.val < 128
  · rw [if_pos h, if_pos h]; exact Scalar.select_of_eq_one rfl _ _
  · rw [if_neg h, if_neg h]; exact Scalar.select_of_eq_zero rfl _ _

/-- The table of distances where the call reads it. -/
theorem v46_at (c : Dev nD) (t : Fin 4) (l : Fin 128) (u : Fin 256) :
    (V m c main_v46 (ix3 t l u) : EReal) = dtab t l u := by
  rw [V_W]
  refine Eq.trans (congrFun (v46_n (W m c)) (ix3 t l u)) ?_
  rw [cat_at, v42_s, v43_s, v44_s, v45_s, v16_at, v24_at, v32_at, v41_at, tv_eq, tw_eq 0 (by omega), tw_eq 64 (by omega), tw_eq 128 (by omega), posInf, sel_at]
  unfold dtab
  match t with
  | 0 => exact (if_neg (show ¬ (0 : Fin 4).val = 3 by decide)).symm
  | 1 => exact (if_neg (show ¬ (1 : Fin 4).val = 3 by decide)).symm
  | 2 => exact (if_neg (show ¬ (2 : Fin 4).val = 3 by decide)).symm
  | 3 => exact (if_pos (show (3 : Fin 4).val = 3 by decide)).symm

end Cert.KernelIdeal.Attn

end
-- ==== Proof.Attn.Finite.lean ====
/- The precondition of the attention call's value claim: every entry of the three arguments is a real number. -/
module

public import proofs.«01_k».proof.Pre_finite
public import Idealize.ShloMosaic.Lib.Pointwise
public import Idealize.ShloMosaic.Lib.ReduceAll

@[expose] public section

set_option maxRecDepth 16384

noncomputable section

namespace Cert.Pre_finite

open Idealize.ShloMosaic

/-- The shape relations the precondition's operations take. -/
instance facts : Facts where
  bcast_S_S8x2048x1024 := by decide
  reducesTo_S8x2048x1024_S_d0_1_2 := by decide
  h_S_ := by decide
  bcast_S_S1x1024x9728 := by decide
  reducesTo_S1x1024x9728_S_d0_1_2 := by decide
  bcast_S_S1x9728 := by decide
  reducesTo_S1x9728_S_d0_1 := by decide

theorem posInf : Ideal.ofBits .f32 0x7F800000#32 = ⊤ := by simp [Ideal.ofBits, Ideal.ieee]

/-- An extended real whose magnitude is below +∞ is real. -/
theorem real_of_olt (x : EReal) (h : Ideal.cmp .olt (max x (-x)) (Ideal.ofBits .f32 0x7F800000#32) = 1#1) : x = ((x.toReal : ℝ) : EReal) := by
  rw [posInf] at h
  have hlt : max x (-x) < ⊤ := by
    by_contra hc
    simp [Ideal.cmp, hc] at h
  refine (EReal.coe_toReal ?_ ?_).symm
  · rintro rfl
    simp at hlt
  · rintro rfl
    simp at hlt

instance : Subsingleton S_.Idx := ⟨fun a b => funext fun i => i.elim0⟩

/-- One conjunct of the precondition. -/
theorem real_of_all {s : Shape} {axes : List (Fin s.rank)} (x : FVec Ideal s .f32) (hb : S_.BroadcastsInDim s (![] : Fin 0 → Fin s.rank)) (hr : s.ReducesTo axes S_) (hu : 0 < S_.numel)
    (h : Host.reduce IntOp.andi (cmpf .olt (Host.absf x) (broadcastInDim s ![] hb (constant S_ .f32 0x7F800000#32))) (constantI S_ 1 1#1) hr hu ix0 = 1#1) (i : s.Idx) :
    x i = (((x i : EReal).toReal : ℝ) : EReal) :=
  real_of_olt (x i) (Host.reduce_andi_all _ _ hr hu ix0 h i)

/-- Under the precondition every entry of the three arguments is real. -/
theorem reals (x : FVec Ideal S8x2048x1024 .f32) (w : FVec Ideal S1x1024x9728 .f32) (b : FVec Ideal S1x9728 .f32) (h : fn (F := Ideal) x w b = fun _ => 1#1) :
    (∀ i, x i = (((x i : EReal).toReal : ℝ) : EReal)) ∧ (∀ i, w i = (((w i : EReal).toReal : ℝ) : EReal)) ∧ ∀ i, b i = (((b i : EReal).toReal : ℝ) : EReal) := by
  have e := congrFun h ix0
  have e12 := IntOp.andi_eq_one.mp e
  have e1 := IntOp.andi_eq_one.mp e12.1
  exact ⟨real_of_all x _ _ _ e1.1, real_of_all w _ _ _ e1.2, real_of_all b _ _ _ e12.2⟩

end Cert.Pre_finite

end
-- ==== Proof.Attn.Args.lean ====
/-
  The arrays the attention call's blocks hold, entry by entry, and the reference's term at an entry, where the arguments'
  entries are real.
-/
module

public import proofs.«01_k».proof.Proof.Attn.Val
public import proofs.«01_k».proof.Proof.Attn.Table
public import proofs.«01_k».proof.Proof.Attn.RefOut
public import proofs.«01_k».proof.Proof.Attn.Finite

@[expose] public section

set_option maxRecDepth 16384

noncomputable section

namespace Cert.KernelIdeal.Attn

open Cert.KernelIdeal Cert.KernelIdeal.Gen Cert.Online
open Idealize.ShloMosaic Idealize.ShloMosaic.TcCoe Idealize.ShloMosaic.Tactic

/-- Every entry of an array is a real number. -/
def AllReal {s : Shape} (x : FVec Ideal s .f32) : Prop := ∀ i, x i = (((x i : EReal).toReal : ℝ) : EReal)

variable (m : (ℓ : Loc nD τ sig) → Buf (Elt Ideal) ℓ)

/-- The rows, the weights and the offsets, as arrays. -/
def gx (c : Dev nD) : FVec Ideal S8x2048x1024 .f32 := m ((c.tc : Thread nD τ).loc main_arg0)
@[inherit_doc gx] def gw (c : Dev nD) : FVec Ideal S1x1024x9728 .f32 := m ((c.tc : Thread nD τ).loc main_arg1)
@[inherit_doc gx] def gb (c : Dev nD) : FVec Ideal S1x9728 .f32 := m ((c.tc : Thread nD τ).loc main_arg2)

/-- The reference's term over the call's own arguments. -/
def R (c : Dev nD) : FVec Ideal S8x2048x512 .bf16 := Cert.AttnRef.out (Cert.AttnRef.projs (gx m c) (gw m c) (gb m c))

/-- Block `t` of it. -/
def Rblk (c : Dev nD) (t : Fin cfg0.N) : FVec Ideal S1x2048x512 .bf16 := fun i => R m c (ix3 (⟨t.val, t.isLt⟩ : Fin 8) (i 1) (i 2))

theorem in0_at (c : Dev nD) (t : Fin cfg0.N) (r : Fin 2048) (j : Fin 1024) :
    iblk m c 0 t (ix3 0 r j) = gx m c (ix3 (⟨t.val, t.isLt⟩ : Fin 8) r j) :=
  Eq.trans (b := V m c main_v4 (ix3 (⟨t.val, t.isLt⟩ : Fin 8) r j)) (by blk_ext [iblk, idx t]) (v4_at m c _ r j)

theorem in1_at (c : Dev nD) (t : Fin cfg0.N) (j : Fin 1024) (k : Fin 4608) :
    iblk m c 1 t (ix2 j k) = gw m c (ix3 0 j (colK k)) :=
  Eq.trans (b := V m c main_v5 (ix2 j k)) (by blk_ext [iblk, idx t]) (v5_at m c j k)

theorem in2_at (c : Dev nD) (t : Fin cfg0.N) (k : Fin 4608) :
    iblk m c 2 t (ix2 0 k) = gb m c (ix2 0 (colK k)) :=
  Eq.trans (b := V m c main_v6 (ix2 0 k)) (by blk_ext [iblk, idx t]) (v6_at m c k)

theorem in3_at (c : Dev nD) (t : Fin cfg0.N) (a : Fin 4) (l : Fin 128) (u : Fin 256) :
    (iblk m c 3 t (ix3 a l u) : EReal) = dtab a l u :=
  Eq.trans (b := (V m c main_v46 (ix3 a l u) : EReal)) (by blk_ext [iblk, idx t]) (v46_at m c a l u)

/-- The entries over the reals. -/
def rx (c : Dev nD) (b : Fin 8) (r : Fin 2048) (j : Fin 1024) : ℝ := (gx m c (ix3 b r j) : EReal).toReal
@[inherit_doc rx] def rwt (c : Dev nD) (j : Fin 1024) (k : Fin 9728) : ℝ := (gw m c (ix3 0 j k) : EReal).toReal
@[inherit_doc rx] def rb (c : Dev nD) (k : Fin 9728) : ℝ := (gb m c (ix2 0 k) : EReal).toReal

section
variable (c : Dev nD) (hx : AllReal (gx m c)) (hw : AllReal (gw m c)) (hb : AllReal (gb m c))
include hx hw hb

/-- The reference's term at an entry. -/
theorem R_at (b : Fin 8) (r : Fin 2048) (h : Fin 4) (d : Fin 128) :
    (R m c (ix3 b r (lane h d)) : EReal) = ((qt (rx m c b) (rwt m c) (rb m c) h r d : ℝ) : EReal) :=
  Cert.AttnRef.out_real (gx m c) (gw m c) (gb m c) b (rx m c b) (rwt m c) (rb m c) (fun r j => hx _) (fun j k => hw _) (fun k => hb _) r h d (lane h d) rfl

end

end Cert.KernelIdeal.Attn

end
-- ==== Proof.Attn.Value.lean ====
/-
  THE VALUE of the attention call, over the reals: where every entry of the arguments is real, the array the call writes
  is the reference's.
-/
module

public import proofs.«01_k».proof.Proof.Attn.Args

@[expose] public section

set_option maxRecDepth 16384
set_option maxHeartbeats 4000000

noncomputable section

namespace Cert.KernelIdeal.AttnVal

open Cert.KernelIdeal Cert.KernelIdeal.Gen Cert.Online
open Cert.KernelIdeal.Attn (kernelRun body_at lane AllReal gx gw gb R Rblk R_at rx rwt rb in0_at in1_at in2_at in3_at idx defs₀_row)
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.ShloMosaic.Pipeline
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

/-- Every entry of the arguments is a real number. -/
def Real : Prop := ∀ c : Dev nD, AllReal (gx m c) ∧ AllReal (gw m c) ∧ AllReal (gb m c)

/-- The body leaves, at point `t`, block `t` of the reference's term. -/
theorem body_blk (hf : Real m) (c : Dev nD) (t : Fin cfg0.N) (i : grid0.Coords) (arg1 : Memref sig .tc .vmem S1x2048x1024 .bf16) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S4x128x256 .f32) (harg4 : arg4.IsWhole) (arg5 : Memref sig .tc .vmem S1x2048x512 .bf16) (harg5 : arg5.IsWhole) (arg6 : Memref sig .tc .vmem S3x4x2048x128 .f32) (harg6 : arg6.IsWhole) (arg7 : Memref sig .tc .vmem S4x2048x128 .f32) (harg7 : arg7.IsWhole) (arg8 : Memref sig .tc .vmem S4x2048x128 .f32) (harg8 : arg8.IsWhole) (arg9 : Memref sig .tc .vmem S4x2048x128 .f32) (harg9 : arg9.IsWhole) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f5 : BufTy.Contents (Elt Ideal) arg5.view.ty)
    (h0 : arg1.view.read (Elt Ideal) f1 = iblk m c 0 t) (h1 : arg2.view.read (Elt Ideal) f2 = iblk m c 1 t)
    (h2 : arg3.view.read (Elt Ideal) f3 = iblk m c 2 t) (h3 : arg4.view.read (Elt Ideal) f4 = iblk m c 3 t) :
    arg5.view.read (Elt Ideal) (arg5.view.writes (Elt Ideal) f5 (kernelRun (F := Ideal) c i arg1 harg1 arg2 harg2 arg3 harg3 arg4 harg4 arg5 harg5 arg6 harg6 arg7 harg7 arg8 harg8 arg9 harg9 f1 f2 f3 f4 f6 f7 f8 f9).1) = Rblk m c t := by
  obtain ⟨hx, hw, hb⟩ := hf c
  funext y
  obtain ⟨r, j, rfl⟩ : ∃ (r : Fin 2048) (j : Fin 512), y = ix3 0 r j := ⟨y 1, y 2, by
    funext a
    match a with
    | ⟨0, _⟩ => exact Subsingleton.elim (α := Fin 1) _ _
    | ⟨1, _⟩ => rfl
    | ⟨2, _⟩ => rfl⟩
  have hj := j.isLt
  obtain ⟨h, d, rfl⟩ : ∃ (h : Fin 4) (d : Fin 128), j = lane h d := ⟨⟨j.val / 128, by omega⟩, ⟨j.val % 128, by omega⟩, Fin.ext (by
    show j.val = j.val / 128 * 128 + j.val % 128
    omega)⟩
  refine (body_at c i arg1 harg1 arg2 harg2 arg3 harg3 arg4 harg4 arg5 harg5 arg6 harg6 arg7 harg7 arg8 harg8 arg9 harg9 f1 f2 f3 f4 f6 f7 f8 f9 (rx m c (⟨t.val, t.isLt⟩ : Fin 8)) (rwt m c) (rb m c) f5 ?_ ?_ ?_ ?_ h r d).trans (R_at m c hx hw hb (⟨t.val, t.isLt⟩ : Fin 8) r h d).symm
  · intro r j
    rw [h0]
    exact (in0_at m c t r j).trans (hx _)
  · intro j k
    rw [h1]
    exact (in1_at m c t j k).trans (hw _)
  · intro k
    rw [h2]
    exact (in2_at m c t k).trans (hb _)
  · intro a l u
    rw [h3]
    exact in3_at m c t a l u

/-- The proof data of the one pipeline on core `c`: the arrays as the region finds them; after the body at point `t`
    each input's buffer at its block, and the output's at block `t` of the reference's term. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Rblk m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = Rblk m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the scratch buffers are taken out of the scoped rest for the run and put back after it. -/
theorem sound_body (hf : Real m) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4]
  unfold Pipeline.ΦA
  rw [scopedRest0_eq]
  simp only [← owns_whole]
  unfold owns
  iintro ⟨⟨⟨⟨%g6, %f6, -, H6⟩, ⟨%g7, %f7, -, H7⟩, ⟨%g8, %f8, -, H8⟩, ⟨%g9, %f9, -, H9⟩⟩, Hr⟩, Ho, ⟨%d0, %f0, %h0, H0⟩, ⟨%d1, %f1, %h1, H1⟩, ⟨%d2, %f2, %h2, H2⟩, ⟨%d3, %f3, %h3, H3⟩, ⟨%d4, %f4, -, H4⟩⟩
  iapply ((kernelRun (F := Ideal) c (grid0.coords t) _ _ _ _ _ _ _ _ _ _ _ _ _ _ _ _ _ _ f0 f1 f2 f3 f6 f7 f8 f9).2 Set.univ f4 _)
  isplitl [H0]; · iexact H0
  isplitl [H1]; · iexact H1
  isplitl [H2]; · iexact H2
  isplitl [H3]; · iexact H3
  isplitl [H4]; · iexact H4
  isplitl [H6]; · iexact H6
  isplitl [H7]; · iexact H7
  isplitl [H8]; · iexact H8
  isplitl [H9]; · iexact H9
  iintro ⟨H0, H1, H2, H3, H4, ⟨%e6, H6⟩, ⟨%e7, H7⟩, ⟨%e8, H8⟩, ⟨%e9, H9⟩⟩
  isplitl [H6 H7 H8 H9 Hr]
  · isplitl [H6 H7 H8 H9]
    · isplitl [H6]
      · iexists _; iexists e6; isplitr; · ipureintro; rfl
        iexact H6
      isplitl [H7]
      · iexists _; iexists e7; isplitr; · ipureintro; rfl
        iexact H7
      isplitl [H8]
      · iexists _; iexists e8; isplitr; · ipureintro; rfl
        iexact H8
      iexists _; iexists e9; isplitr; · ipureintro; rfl
      iexact H9
    iexact Hr
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  iexists _; isplitr
  swap; · iexact H4
  ipureintro
  exact body_blk m hf c t (grid0.coords t) _ _ _ _ _ _ _ _ _ _ _ _ _ _ _ _ _ _ f0 f1 f2 f3 f6 f7 f8 f9 f4 h0 h1 h2 h3

/-- The library's body obligation, at every point. -/
theorem body_obligation (hf : Real m) (c : Dev nD) : BodyObligation (dats m 0 c) (defs₀ (F := Ideal)) Variants.none () Set.univ := fun t => by
  rw [bigSep_W0, bigSep_W0, defs₀_row]
  exact triple_restated (sound_body m hf c t) rfl .rfl fun _ => .rfl

/-! ## The run -/

set_option backward.isDefEq.respectTransparency.types false in
set_option maxHeartbeats 800000 in
/-- The launch: every weakly fair run terminates, at the library's post of the frame run, every semaphore at zero. -/
theorem run_main (hf : Real m) : θ_run defs (onTc (τ := τ) (main (F := Ideal))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m hf c).loose) (hshare := fun c => (dats m 0 c).share_full fun _ => rfl)
    (howed := fun _ _ => rfl) (V := V m) (hmain := hmain m Variants.none) (hA := A_eq m) (hΦ := fun _ _ => rfl)

/-- The result array after the run. -/
theorem final (c : Dev nD) : (dats m 0 c).arrAt 4 cfg0.N = R m c := by
  refine (dats m 0 c).arrAt_eq_of_covers 4 _ (by decide +kernel) fun t _ y => ?_
  rw [after0_4]
  unfold Rblk
  have ht : t.val < 8 := t.isLt
  generalize R m c = G
  refine (cast_eq _ _).trans ?_
  refine congrArg G ?_
  funext a
  refine Fin.ext ?_
  have e := (idx t).2.2.2.2
  match a with
  | ⟨0, _⟩ =>
    show t.val = win0_4.index t 0 * 1 + 1 * (y 0).val
    rw [e]
    have : (y 0).val < 1 := (y 0).isLt
    show t.val = t.val * 1 + 1 * (y 0).val
    omega
  | ⟨1, _⟩ =>
    show (y 1).val = win0_4.index t 1 * 2048 + 1 * (y 1).val
    rw [e]
    show (y 1).val = 0 * 2048 + 1 * (y 1).val
    omega
  | ⟨2, _⟩ =>
    show (y 2).val = win0_4.index t 2 * 512 + 1 * (y 2).val
    rw [e]
    show (y 2).val = 0 * 512 + 1 * (y 2).val
    omega

/-- Every weakly fair run ends with the reference's term in the result, the arguments unchanged. -/
theorem run (hf : Real m) : θ_run defs (onTc (τ := τ) (main (F := Ideal))) ⟨m, fun _ => 0, ρ⟩ (fun r => ∀ c : Dev nD,
      r.2.mem ((c.tc : Thread nD τ).loc main_v47) = R m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 4).trans (final m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩) (run_main m ρ hf)

end Cert.KernelIdeal.AttnVal

end
-- ==== Proof.lean ====
/- The claims' assembly. -/
module

public import proofs.«01_k».proof.Defs
public import proofs.«01_k».proof.Proof.Ffn
public import proofs.«01_k».proof.Proof.Merge
public import proofs.«01_k».proof.Proof.Attn.Frame
public import proofs.«01_k».proof.Proof.Attn.FrameIdeal
public import proofs.«01_k».proof.Proof.Attn.Value
public import proofs.«01_k».proof.Proof.Gen.Kernel.Frame
public import proofs.«01_k».proof.Proof.Gen.Kernel.Loops
public import proofs.«01_k».proof.Proof.Gen.KernelIdeal.Frame
public import proofs.«01_k».proof.Proof.Gen.KernelIdeal.Loops
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run

@[expose] public section

noncomputable section

namespace Cert.Proof

open Idealize.ShloMosaic Idealize.SL.Sem

/-- The merge call's run leaves the reference's term over its own arguments. -/
theorem merge_algebraic : Cert.algebraic_Kernel2Ideal_Reference2Ideal (hKernel2Ideal := Cert.Kernel2Ideal.Gen.facts) (hReference2Ideal := Cert.Reference2Ideal.Gen.facts) :=
  fun m ρ m' ρ' _ hag => ⟨fun c => Cert.Merge.G m c,
    (θ_run _ _ _).mono (fun _ h c => ⟨(h c).1.trans (Cert.Merge.final m c), (h c).2⟩) (Cert.Kernel2Ideal.Value.run_blocks m ρ),
    (θ_run _ _ _).mono (fun _ h c => ⟨(h c).1.trans ((Cert.Merge.res_eq m' c).trans (by
      obtain ⟨h0, h1, h2, h3, h4, h5, h6, h7, h8, h9⟩ := hag c
      rw [h0, h1, h2, h3, h4, h5, h6, h7, h8, h9])), (h c).2⟩) (Cert.Reference2Ideal.Value.run (F := Ideal) m' ρ')⟩

/-- The feed-forward call's run leaves the reference's term over its own arguments. -/
theorem ffn_algebraic : Cert.algebraic_Kernel3Ideal_Reference3Ideal (hKernel3Ideal := Cert.Kernel3Ideal.Gen.facts) (hReference3Ideal := Cert.Reference3Ideal.Gen.facts) :=
  fun m ρ m' ρ' _ hag => ⟨fun c => Cert.Ffn.G m c,
    (θ_run _ _ _).mono (fun _ h c => ⟨(h c).1.trans (Cert.Ffn.final m c), (h c).2⟩) (Cert.Kernel3Ideal.Value.run_blocks m ρ),
    (θ_run _ _ _).mono (fun _ h c => ⟨(h c).1.trans ((Cert.Ffn.res_eq m' c).trans (by
      obtain ⟨h0, h1, h2, h3, h4, h5, h6⟩ := hag c
      rw [h0, h1, h2, h3, h4, h5, h6])), (h c).2⟩) (Cert.Reference3Ideal.Value.run (F := Ideal) m' ρ')⟩

/-- The merge's plain reference runs to its end, its arguments unchanged and no semaphore left raised. -/
theorem merge_ref_frame : Cert.quiescent_Reference2Ideal (hReference2Ideal := Cert.Reference2Ideal.Gen.facts) :=
  fun m ρ _ => (θ_run Cert.Reference2Ideal.defs _ _).mono
    (fun r h => ⟨fun c => (h c).2, Idealize.ShloMosaic.sem_eq_zero_of_no_sems (by decide) r.2⟩) (Cert.Reference2Ideal.Value.run (F := Ideal) m ρ)

/-- The feed-forward's plain reference likewise. -/
theorem ffn_ref_frame : Cert.quiescent_Reference3Ideal (hReference3Ideal := Cert.Reference3Ideal.Gen.facts) :=
  fun m ρ _ => (θ_run Cert.Reference3Ideal.defs _ _).mono
    (fun r h => ⟨fun c => (h c).2, Idealize.ShloMosaic.sem_eq_zero_of_no_sems (by decide) r.2⟩) (Cert.Reference3Ideal.Value.run (F := Ideal) m ρ)

/-- The attention's plain reference likewise. -/
theorem attn_ref_frame : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩) (Cert.ReferenceIdeal.Value.run (F := Ideal) m ρ)

/-- Where every entry of the arguments is real, the attention call's run leaves the reference's term over its own arguments. -/
theorem attn_algebraic : Cert.algebraic_KernelIdeal_ReferenceIdeal_pre_finite (hKernelIdeal := Cert.KernelIdeal.Gen.facts) (hReferenceIdeal := Cert.ReferenceIdeal.Gen.facts)
    (hPre_finite := Cert.Pre_finite.facts) :=
  fun m ρ m' ρ' hp hag => ⟨fun c => Cert.KernelIdeal.Attn.R m c,
    Cert.KernelIdeal.AttnVal.run m ρ (fun c => Cert.Pre_finite.reals _ _ _ (hp c)),
    (θ_run _ _ _).mono (fun _ h c => ⟨(h c).1.trans (by
      obtain ⟨h0, h1, h2⟩ := hag c
      rw [h0, h1, h2]
      rfl), (h c).2⟩) (Cert.AttnRef.run m' ρ')⟩

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.facts,
  fun m ρ _ => Cert.Kernel.Attn.frame m ρ, fun m ρ _ => Cert.KernelIdeal.Attn.frame m ρ, fun m ρ _ => Cert.KernelIdeal.Attn.frame m ρ, attn_ref_frame,
  fun m ρ _ => attn_ref_frame m ρ trivial,
  fun m ρ _ => Cert.Kernel2.Gen.frame m ρ, fun m ρ _ => Cert.Kernel2Ideal.Gen.frame m ρ, merge_ref_frame,
  fun m ρ _ => Cert.Kernel3.Gen.frame m ρ, fun m ρ _ => Cert.Kernel3Ideal.Gen.frame m ρ, ffn_ref_frame,
  trivial, attn_algebraic, trivial, merge_algebraic, trivial, ffn_algebraic⟩

end Cert.Proof

end
